-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v6_2) = v1 c
          ∧ r.2.mem ((c.tc : Thread Cert.ReferenceIdeal.nD Cert.ReferenceIdeal.τ).loc Cert.ReferenceIdeal.main_v6_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S1x256x7168 : Shape := ⟨3, ![1, 256, 7168]⟩
abbrev S1x256 : Shape := ⟨2, ![1, 256]⟩
abbrev S2048x7168 : Shape := ⟨2, ![2048, 7168]⟩
abbrev S_ : Shape := ⟨0, ![]⟩

class Facts : Prop where
  bcast_S_S1x256x7168 : S_.BroadcastsInDim S1x256x7168 (![] : Fin 0 → Fin S1x256x7168.rank)
  reducesTo_S1x256x7168_S_d0_1_2 : S1x256x7168.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S2048x7168 : S_.BroadcastsInDim S2048x7168 (![] : Fin 0 → Fin S2048x7168.rank)
  reducesTo_S2048x7168_S_d0_1 : S2048x7168.ReducesTo [0, 1] S_

variable [Facts]

def fn {F : FTy → Type} [FloatOps F] (main_arg0 : FVec F S1x256x7168 .f32) (main_arg1 : FVec F S1x256 .f32) (main_arg2 : FVec F S2048x7168 .bf16) : IVec S_ 1 :=
  let main_v0 : FVec F S1x256x7168 .f32 := Host.absf main_arg0
  let main_cst : FVec F S_ .f32 := constant S_ .f32 0x7F800000#32
  let main_v1 : FVec F S1x256x7168 .f32 := broadcastInDim S1x256x7168 ![] bcast_S_S1x256x7168 main_cst
  let main_v2 : IVec S1x256x7168 1 := cmpf .olt main_v0 main_v1
  let main_c : IVec S_ 1 := constantI S_ 1 1#1
  let main_v3 : IVec S_ 1 := (fun x v => Host.reduce IntOp.andi x v reducesTo_S1x256x7168_S_d0_1_2 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S2048x7168 .bf16 := Host.absf main_arg2
  let main_cst_2 : FVec F S_ .bf16 := constant S_ .bf16 0x7F80#16
  let main_v10 : FVec F S2048x7168 .bf16 := broadcastInDim S2048x7168 ![] bcast_S_S2048x7168 main_cst_2
  let main_v11 : IVec S2048x7168 1 := cmpf .olt main_v9 main_v10
  let main_c_3 : IVec S_ 1 := constantI S_ 1 1#1
  let main_v12 : IVec S_ 1 := (fun x v => Host.reduce IntOp.andi x v reducesTo_S2048x7168_S_d0_1 h_S_) main_v11 main_c_3
  let main_v13 : IVec S_ 1 := andi main_v8 main_v12
  main_v13
-- ==== Kernel.lean ====
abbrev S1x256x7168 : Shape := ⟨3, ![1, 256, 7168]⟩
abbrev S1x256 : Shape := ⟨2, ![1, 256]⟩
abbrev S2048x7168 : Shape := ⟨2, ![2048, 7168]⟩
abbrev S256x7168 : Shape := ⟨2, ![256, 7168]⟩
abbrev S256x1 : Shape := ⟨2, ![256, 1]⟩
abbrev S20 : Shape := ⟨1, ![20]⟩
abbrev S_ : Shape := ⟨0, ![]⟩
abbrev S56x128x128 : Shape := ⟨3, ![56, 128, 128]⟩
abbrev S256x128 : Shape := ⟨2, ![256, 128]⟩
abbrev S1x128x128 : Shape := ⟨3, ![1, 128, 128]⟩
abbrev S128x128 : Shape := ⟨2, ![128, 128]⟩
abbrev S20x56x2048 : Shape := ⟨3, ![20, 56, 2048]⟩
abbrev S56x20x64x2048 : Shape := ⟨4, ![56, 20, 64, 2048]⟩
abbrev S2048x128 : Shape := ⟨2, ![2048, 128]⟩
abbrev S20x8x2048 : Shape := ⟨3, ![20, 8, 2048]⟩
abbrev S1x20x64x2048 : Shape := ⟨4, ![1, 20, 64, 2048]⟩
abbrev S20x128x384 : Shape := ⟨3, ![20, 128, 384]⟩
abbrev S1 : Shape := ⟨1, ![1]⟩
abbrev S128x256 : Shape := ⟨2, ![128, 256]⟩
abbrev S256 : Shape := ⟨1, ![256]⟩
abbrev S128x384 : Shape := ⟨2, ![128, 384]⟩
abbrev S384x256 : Shape := ⟨2, ![384, 256]⟩
abbrev S64x2x256 : Shape := ⟨3, ![64, 2, 256]⟩
abbrev S64x1x256 : Shape := ⟨3, ![64, 1, 256]⟩
abbrev S64x256 : Shape := ⟨2, ![64, 256]⟩
abbrev S1x1x64x256 : Shape := ⟨4, ![1, 1, 64, 256]⟩
abbrev S1x128x384 : Shape := ⟨3, ![1, 128, 384]⟩
abbrev S1x1x256 : Shape := ⟨3, ![1, 1, 256]⟩
abbrev S2048x56x20 : Shape := ⟨3, ![2048, 56, 20]⟩
abbrev S2048x56x20x64 : Shape := ⟨4, ![2048, 56, 20, 64]⟩

abbrev nBuf : Space → Nat
  | .hbm => 20
  | .vmem => 16
  | .smem => 1
  | _ => 0

abbrev bufTy : (tb : Table) → Fin (tcTables nBuf tb) → BufTy
  | .hbm, ⟨0, _⟩ => ⟨S1x256x7168, .f32⟩
  | .hbm, ⟨1, _⟩ => ⟨S1x256, .f32⟩
  | .hbm, ⟨2, _⟩ => ⟨S2048x7168, .bf16⟩
  | .hbm, ⟨3, _⟩ => ⟨S1x256x7168, .fp8e4m3⟩
  | .hbm, ⟨4, _⟩ => ⟨S256x7168, .fp8e4m3⟩
  | .hbm, ⟨5, _⟩ => ⟨S256x1, .f32⟩
  | .hbm, ⟨6, _⟩ => ⟨S20, .f32⟩
  | .hbm, ⟨7, _⟩ => ⟨S_, .f32⟩
  | .hbm, ⟨8, _⟩ => ⟨S20, .f32⟩
  | .hbm, ⟨9, _⟩ => ⟨S20, .f32⟩
  | .hbm, ⟨10, _⟩ => ⟨S_, .f32⟩
  | .hbm, ⟨11, _⟩ => ⟨S20, .f32⟩
  | .hbm, ⟨12, _⟩ => ⟨S20, .f32⟩
  | .hbm, ⟨13, _⟩ => ⟨S56x128x128, .f32⟩
  | .hbm, ⟨14, _⟩ => ⟨S20x56x2048, .f32⟩
  | .hbm, ⟨15, _⟩ => ⟨S56x20x64x2048, .i8⟩
  | .hbm, ⟨16, _⟩ => ⟨S20x56x2048, .f32⟩
  | .hbm, ⟨17, _⟩ => ⟨S2048x56x20, .f32⟩
  | .hbm, ⟨18, _⟩ => ⟨S2048x56x20x64, .i8⟩
  | .hbm, ⟨19, _⟩ => ⟨S2048x56x20, .f32⟩
  | .local _ .vmem, ⟨0, _⟩ => ⟨S256x128, .fp8e4m3⟩
  | .local _ .vmem, ⟨1, _⟩ => ⟨S256x128, .fp8e4m3⟩
  | .local _ .vmem, ⟨2, _⟩ => ⟨S256x1, .f32⟩
  | .local _ .vmem, ⟨3, _⟩ => ⟨S1x128x128, .f32⟩
  | .local _ .vmem, ⟨4, _⟩ => ⟨S1x128x128, .f32⟩
  | .local _ .vmem, ⟨5, _⟩ => ⟨S2048x128, .bf16⟩
  | .local _ .vmem, ⟨6, _⟩ => ⟨S2048x128, .bf16⟩
  | .local _ .vmem, ⟨7, _⟩ => ⟨S1x128x128, .f32⟩
  | .local _ .vmem, ⟨8, _⟩ => ⟨S1x128x128, .f32⟩
  | .local _ .vmem, ⟨9, _⟩ => ⟨S20x8x2048, .f32⟩
  | .local _ .vmem, ⟨10, _⟩ => ⟨S20x8x2048, .f32⟩
  | .local _ .vmem, ⟨11, _⟩ => ⟨S1x20x64x2048, .i8⟩
  | .local _ .vmem, ⟨12, _⟩ => ⟨S1x20x64x2048, .i8⟩
  | .local _ .vmem, ⟨13, _⟩ => ⟨S20x8x2048, .f32⟩
  | .local _ .vmem, ⟨14, _⟩ => ⟨S20x8x2048, .f32⟩
  | .local _ .vmem, ⟨15, _⟩ => ⟨S20x128x384, .bf16⟩
  | .local _ .smem, ⟨0, _⟩ => ⟨S20, .f32⟩
  | _, _ => ⟨S1x256x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![56], ![false]⟩

@[reducible] def k1_t1_loop : Scf.Loop 32 :=
  let c0_i32_184 : BitVec 32 := 0#32
  let c8_i32_185 : BitVec 32 := 8#32
  let v392 : BitVec 32 := Scalar.addi c0_i32_184 c8_i32_185
  let c1_i32_186 : BitVec 32 := 1#32
  ⟨c0_i32_184, v392, c1_i32_186⟩
def k1_mult1 (k1_t1 : Fin k1_t1_loop.trips) : BitVec 32 :=
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  v393
def k1_off1 (k1_t1 : Fin k1_t1_loop.trips) : Fin 2 → Nat :=
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v395 : Index := Scalar.indexCast v394
  let c0_188 : Index := 0#32
  ![v395.toNat, 0]
def k1_off2 (k1_t1 : Fin k1_t1_loop.trips) : Fin 4 → Nat :=
  let c0_201 : Index := 0#32
  let c0_202 : Index := 0#32
  let c0_203 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v454 : Index := Scalar.indexCast v394
  ![0, 0, 0, v454.toNat]
def k1_off3 (i : grid1.Coords) (k1_t1 : Fin k1_t1_loop.trips) : Fin 3 → Nat :=
  let c0_209 : Index := 0#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v471 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v472 : Index := Scalar.indexCast v394
  ![0, v471.toNat, v472.toNat]
def k1_off4 (k1_t1 : Fin k1_t1_loop.trips) : Fin 4 → Nat :=
  let c0_220 : Index := 0#32
  let c1_221 : Index := 1#32
  let c0_222 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v512 : Index := Scalar.indexCast v394
  ![0, 1, 0, v512.toNat]
def k1_off5 (i : grid1.Coords) (k1_t1 : Fin k1_t1_loop.trips) : Fin 3 → Nat :=
  let c1_228 : Index := 1#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v529 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v530 : Index := Scalar.indexCast v394
  ![1, v529.toNat, v530.toNat]
def k1_off6 (k1_t1 : Fin k1_t1_loop.trips) : Fin 4 → Nat :=
  let c0_239 : Index := 0#32
  let c2_240 : Index := 2#32
  let c0_241 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v570 : Index := Scalar.indexCast v394
  ![0, 2, 0, v570.toNat]
def k1_off7 (i : grid1.Coords) (k1_t1 : Fin k1_t1_loop.trips) : Fin 3 → Nat :=
  let c2_247 : Index := 2#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v587 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v588 : Index := Scalar.indexCast v394
  ![2, v587.toNat, v588.toNat]
def k1_off8 (k1_t1 : Fin k1_t1_loop.trips) : Fin 4 → Nat :=
  let c0_258 : Index := 0#32
  let c3_259 : Index := 3#32
  let c0_260 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v628 : Index := Scalar.indexCast v394
  ![0, 3, 0, v628.toNat]
def k1_off9 (i : grid1.Coords) (k1_t1 : Fin k1_t1_loop.trips) : Fin 3 → Nat :=
  let c3_266 : Index := 3#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v645 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v646 : Index := Scalar.indexCast v394
  ![3, v645.toNat, v646.toNat]
def k1_off10 (k1_t1 : Fin k1_t1_loop.trips) : Fin 4 → Nat :=
  let c0_277 : Index := 0#32
  let c4_278 : Index := 4#32
  let c0_279 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v686 : Index := Scalar.indexCast v394
  ![0, 4, 0, v686.toNat]
def k1_off11 (i : grid1.Coords) (k1_t1 : Fin k1_t1_loop.trips) : Fin 3 → Nat :=
  let c4_285 : Index := 4#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v703 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v704 : Index := Scalar.indexCast v394
  ![4, v703.toNat, v704.toNat]
def k1_off12 (k1_t1 : Fin k1_t1_loop.trips) : Fin 4 → Nat :=
  let c0_296 : Index := 0#32
  let c5_297 : Index := 5#32
  let c0_298 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v744 : Index := Scalar.indexCast v394
  ![0, 5, 0, v744.toNat]
def k1_off13 (i : grid1.Coords) (k1_t1 : Fin k1_t1_loop.trips) : Fin 3 → Nat :=
  let c5_304 : Index := 5#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v761 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v762 : Index := Scalar.indexCast v394
  ![5, v761.toNat, v762.toNat]
def k1_off14 (k1_t1 : Fin k1_t1_loop.trips) : Fin 4 → Nat :=
  let c0_315 : Index := 0#32
  let c6_316 : Index := 6#32
  let c0_317 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v802 : Index := Scalar.indexCast v394
  ![0, 6, 0, v802.toNat]
def k1_off15 (i : grid1.Coords) (k1_t1 : Fin k1_t1_loop.trips) : Fin 3 → Nat :=
  let c6_323 : Index := 6#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v819 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v820 : Index := Scalar.indexCast v394
  ![6, v819.toNat, v820.toNat]
def k1_off16 (k1_t1 : Fin k1_t1_loop.trips) : Fin 4 → Nat :=
  let c0_334 : Index := 0#32
  let c7_335 : Index := 7#32
  let c0_336 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v860 : Index := Scalar.indexCast v394
  ![0, 7, 0, v860.toNat]
def k1_off17 (i : grid1.Coords) (k1_t1 : Fin k1_t1_loop.trips) : Fin 3 → Nat :=
  let c7_342 : Index := 7#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v877 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v878 : Index := Scalar.indexCast v394
  ![7, v877.toNat, v878.toNat]
def k1_off18 (k1_t1 : Fin k1_t1_loop.trips) : Fin 4 → Nat :=
  let c0_353 : Index := 0#32
  let c8_354 : Index := 8#32
  let c0_355 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v918 : Index := Scalar.indexCast v394
  ![0, 8, 0, v918.toNat]
def k1_off19 (i : grid1.Coords) (k1_t1 : Fin k1_t1_loop.trips) : Fin 3 → Nat :=
  let c8_361 : Index := 8#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v935 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v936 : Index := Scalar.indexCast v394
  ![8, v935.toNat, v936.toNat]
def k1_off20 (k1_t1 : Fin k1_t1_loop.trips) : Fin 4 → Nat :=
  let c0_372 : Index := 0#32
  let c9_373 : Index := 9#32
  let c0_374 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v976 : Index := Scalar.indexCast v394
  ![0, 9, 0, v976.toNat]
def k1_off21 (i : grid1.Coords) (k1_t1 : Fin k1_t1_loop.trips) : Fin 3 → Nat :=
  let c9_380 : Index := 9#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v993 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v994 : Index := Scalar.indexCast v394
  ![9, v993.toNat, v994.toNat]
def k1_off22 (k1_t1 : Fin k1_t1_loop.trips) : Fin 4 → Nat :=
  let c0_391 : Index := 0#32
  let c10_392 : Index := 10#32
  let c0_393 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1034 : Index := Scalar.indexCast v394
  ![0, 10, 0, v1034.toNat]
def k1_off23 (i : grid1.Coords) (k1_t1 : Fin k1_t1_loop.trips) : Fin 3 → Nat :=
  let c10_399 : Index := 10#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1051 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1052 : Index := Scalar.indexCast v394
  ![10, v1051.toNat, v1052.toNat]
def k1_off24 (k1_t1 : Fin k1_t1_loop.trips) : Fin 4 → Nat :=
  let c0_410 : Index := 0#32
  let c11_411 : Index := 11#32
  let c0_412 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1092 : Index := Scalar.indexCast v394
  ![0, 11, 0, v1092.toNat]
def k1_off25 (i : grid1.Coords) (k1_t1 : Fin k1_t1_loop.trips) : Fin 3 → Nat :=
  let c11_418 : Index := 11#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1109 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1110 : Index := Scalar.indexCast v394
  ![11, v1109.toNat, v1110.toNat]
def k1_off26 (k1_t1 : Fin k1_t1_loop.trips) : Fin 4 → Nat :=
  let c0_429 : Index := 0#32
  let c12_430 : Index := 12#32
  let c0_431 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1150 : Index := Scalar.indexCast v394
  ![0, 12, 0, v1150.toNat]
def k1_off27 (i : grid1.Coords) (k1_t1 : Fin k1_t1_loop.trips) : Fin 3 → Nat :=
  let c12_437 : Index := 12#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1167 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1168 : Index := Scalar.indexCast v394
  ![12, v1167.toNat, v1168.toNat]
def k1_off28 (k1_t1 : Fin k1_t1_loop.trips) : Fin 4 → Nat :=
  let c0_448 : Index := 0#32
  let c13_449 : Index := 13#32
  let c0_450 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1208 : Index := Scalar.indexCast v394
  ![0, 13, 0, v1208.toNat]
def k1_off29 (i : grid1.Coords) (k1_t1 : Fin k1_t1_loop.trips) : Fin 3 → Nat :=
  let c13_456 : Index := 13#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1225 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1226 : Index := Scalar.indexCast v394
  ![13, v1225.toNat, v1226.toNat]
def k1_off30 (k1_t1 : Fin k1_t1_loop.trips) : Fin 4 → Nat :=
  let c0_467 : Index := 0#32
  let c14_468 : Index := 14#32
  let c0_469 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1266 : Index := Scalar.indexCast v394
  ![0, 14, 0, v1266.toNat]
def k1_off31 (i : grid1.Coords) (k1_t1 : Fin k1_t1_loop.trips) : Fin 3 → Nat :=
  let c14_475 : Index := 14#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1283 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1284 : Index := Scalar.indexCast v394
  ![14, v1283.toNat, v1284.toNat]
def k1_off32 (k1_t1 : Fin k1_t1_loop.trips) : Fin 4 → Nat :=
  let c0_486 : Index := 0#32
  let c15_487 : Index := 15#32
  let c0_488 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1324 : Index := Scalar.indexCast v394
  ![0, 15, 0, v1324.toNat]
def k1_off33 (i : grid1.Coords) (k1_t1 : Fin k1_t1_loop.trips) : Fin 3 → Nat :=
  let c15_494 : Index := 15#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1341 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1342 : Index := Scalar.indexCast v394
  ![15, v1341.toNat, v1342.toNat]
def k1_off34 (k1_t1 : Fin k1_t1_loop.trips) : Fin 4 → Nat :=
  let c0_505 : Index := 0#32
  let c16_506 : Index := 16#32
  let c0_507 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1382 : Index := Scalar.indexCast v394
  ![0, 16, 0, v1382.toNat]
def k1_off35 (i : grid1.Coords) (k1_t1 : Fin k1_t1_loop.trips) : Fin 3 → Nat :=
  let c16_513 : Index := 16#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1399 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1400 : Index := Scalar.indexCast v394
  ![16, v1399.toNat, v1400.toNat]
def k1_off36 (k1_t1 : Fin k1_t1_loop.trips) : Fin 4 → Nat :=
  let c0_524 : Index := 0#32
  let c17_525 : Index := 17#32
  let c0_526 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1440 : Index := Scalar.indexCast v394
  ![0, 17, 0, v1440.toNat]
def k1_off37 (i : grid1.Coords) (k1_t1 : Fin k1_t1_loop.trips) : Fin 3 → Nat :=
  let c17_532 : Index := 17#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1457 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1458 : Index := Scalar.indexCast v394
  ![17, v1457.toNat, v1458.toNat]
def k1_off38 (k1_t1 : Fin k1_t1_loop.trips) : Fin 4 → Nat :=
  let c0_543 : Index := 0#32
  let c18_544 : Index := 18#32
  let c0_545 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1498 : Index := Scalar.indexCast v394
  ![0, 18, 0, v1498.toNat]
def k1_off39 (i : grid1.Coords) (k1_t1 : Fin k1_t1_loop.trips) : Fin 3 → Nat :=
  let c18_551 : Index := 18#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1515 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1516 : Index := Scalar.indexCast v394
  ![18, v1515.toNat, v1516.toNat]
def k1_off40 (k1_t1 : Fin k1_t1_loop.trips) : Fin 4 → Nat :=
  let c0_562 : Index := 0#32
  let c19_563 : Index := 19#32
  let c0_564 : Index := 0#32
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1556 : Index := Scalar.indexCast v394
  ![0, 19, 0, v1556.toNat]
def k1_off41 (i : grid1.Coords) (k1_t1 : Fin k1_t1_loop.trips) : Fin 3 → Nat :=
  let c19_570 : Index := 19#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1573 : Index := Scalar.indexCast v9
  let c0_i32_184 : BitVec 32 := 0#32
  let c1_i32_186 : BitVec 32 := 1#32
  let arg8 : BitVec 32 := Scf.iv c0_i32_184 c1_i32_186 k1_t1
  let c256_i32 : BitVec 32 := 256#32
  let v393 : BitVec 32 := Scalar.muli arg8 c256_i32
  let v394 : BitVec 32 := v393
  let v1574 : Index := Scalar.indexCast v394
  ![19, v1573.toNat, v1574.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

abbrev stage1_0 : Fin 1 → Memref sig .tc .smem S20 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S20x8x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x20x64x2048 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S20x8x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1x256x7168 : Shape := ⟨3, ![1, 256, 7168]⟩
abbrev S1x256 : Shape := ⟨2, ![1, 256]⟩
abbrev S2048x7168 : Shape := ⟨2, ![2048, 7168]⟩
abbrev S20 : Shape := ⟨1, ![20]⟩
abbrev S_ : Shape := ⟨0, ![]⟩
abbrev S256x56x128 : Shape := ⟨3, ![256, 56, 128]⟩
abbrev S2048x56x20 : Shape := ⟨3, ![2048, 56, 20]⟩
abbrev S2048x56x20x64 : Shape := ⟨4, ![2048, 56, 20, 64]⟩
abbrev S2048x56x20x128 : Shape := ⟨4, ![2048, 56, 20, 128]⟩
abbrev S1x256x1 : Shape := ⟨3, ![1, 256, 1]⟩
abbrev S2048x56x128 : Shape := ⟨3, ![2048, 56, 128]⟩
abbrev S2048x56 : Shape := ⟨2, ![2048, 56]⟩
abbrev S2048x56x1 : Shape := ⟨3, ![2048, 56, 1]⟩
abbrev S1x1x20 : Shape := ⟨3, ![1, 1, 20]⟩
abbrev S2048x56x1x128 : Shape := ⟨4, ![2048, 56, 1, 128]⟩
abbrev S2048x56x20x1 : Shape := ⟨4, ![2048, 56, 20, 1]⟩
abbrev S2048x56x20x64x2 : Shape := ⟨5, ![2048, 56, 20, 64, 2]⟩
abbrev S2048x56x20x64x1 : Shape := ⟨5, ![2048, 56, 20, 64, 1]⟩
abbrev S56x128x128 : Shape := ⟨3, ![56, 128, 128]⟩
abbrev S56x128x2048x20 : Shape := ⟨4, ![56, 128, 2048, 20]⟩

abbrev nBuf : Space → Nat
  | .hbm => 21
  | .vmem => 8
  | .smem => 0
  | _ => 0

abbrev bufTy : (tb : Table) → Fin (tcTables nBuf tb) → BufTy
  | .hbm, ⟨0, _⟩ => ⟨S1x256x7168, .f32⟩
  | .hbm, ⟨1, _⟩ => ⟨S1x256, .f32⟩
  | .hbm, ⟨2, _⟩ => ⟨S2048x7168, .bf16⟩
  | .hbm, ⟨3, _⟩ => ⟨S1x256x7168, .fp8e4m3⟩
  | .hbm, ⟨4, _⟩ => ⟨S20, .f32⟩
  | .hbm, ⟨5, _⟩ => ⟨S_, .f32⟩
  | .hbm, ⟨6, _⟩ => ⟨S20, .f32⟩
  | .hbm, ⟨7, _⟩ => ⟨S20, .f32⟩
  | .hbm, ⟨8, _⟩ => ⟨S_, .f32⟩
  | .hbm, ⟨9, _⟩ => ⟨S20, .f32⟩
  | .hbm, ⟨10, _⟩ => ⟨S20, .f32⟩
  | .hbm, ⟨11, _⟩ => ⟨S256x56x128, .bf16⟩
  | .hbm, ⟨12, _⟩ => ⟨S2048x56x20, .f32⟩
  | .hbm, ⟨13, _⟩ => ⟨S2048x56x20x64, .i8⟩
  | .hbm, ⟨14, _⟩ => ⟨S2048x56x20x128, .f32⟩
  | .hbm, ⟨15, _⟩ => ⟨S56x128x128, .f32⟩
  | .hbm, ⟨16, _⟩ => ⟨S56x128x2048x20, .f32⟩
  | .hbm, ⟨17, _⟩ => ⟨S2048x56x20x128, .f32⟩
  | .hbm, ⟨18, _⟩ => ⟨S2048x56x20x128, .f32⟩
  | .hbm, ⟨19, _⟩ => ⟨S_, .f32⟩
  | .hbm, ⟨20, _⟩ => ⟨S2048x56x20, .f32⟩
  | .local _ .vmem, ⟨0, _⟩ => ⟨S1x256x7168, .fp8e4m3⟩
  | .local _ .vmem, ⟨1, _⟩ => ⟨S1x256, .f32⟩
  | .local _ .vmem, ⟨2, _⟩ => ⟨S2048x7168, .bf16⟩
  | .local _ .vmem, ⟨3, _⟩ => ⟨S20, .f32⟩
  | .local _ .vmem, ⟨4, _⟩ => ⟨S256x56x128, .bf16⟩
  | .local _ .vmem, ⟨5, _⟩ => ⟨S2048x56x20, .f32⟩
  | .local _ .vmem, ⟨6, _⟩ => ⟨S2048x56x20x64, .i8⟩
  | .local _ .vmem, ⟨7, _⟩ => ⟨S2048x56x20x128, .f32⟩
  | _, _ => ⟨S1x256x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x56x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x56x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x56x20x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x56x20x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RelRegion.lean ====
/- A kernel region whose row-filled windows are proved relationally, left at exact contents.

   Where a marked window's block, when it is written back, can hold only what the exact data name, the arrays after the region are the
   exact data's. `relRegion` is the region's record over all the unscoped buffers. -/
module

public import Idealize.ShloMosaic.Lib.Pipeline.DatRel
public import Idealize.ShloMosaic.Lib.Pipeline.ArrRel
public import Idealize.ShloMosaic.Lib.Pipeline.FrameTail
public import Idealize.ShloMosaic.Lib.Pipeline.RegionArraysF

@[expose] public section

noncomputable section

namespace Cert.RelRegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type} {Λ₀ : Idealize.SL.Sem.Labels}
variable {Ix : Type} [DecidableEq Ix] {Name : Type} [DecidableEq Name] {U : Type} [URA U] {Lvl : Type} [Preorder Lvl]

local notation "𝕄" => MT nD τ sig Ix Val Name U Lvl

/-- What a marked window may leave at a write-back is what the exact data name. -/
def Exact {cfg : Cfg sig Λ₀} {c : Dev nD} (dat : Dat τ Val Ix Name U Lvl cfg c) (fgt : Fin cfg.W → Bool)
    (Rl : (w : Fin cfg.W) → Fin cfg.N → ((cfg.win w).block.Idx → Val (cfg.win w).elt) → Prop) : Prop :=
  ∀ w, fgt w = true → ∀ u, (cfg.win w).flush u = true → ∀ X, Rl w u X → X = dat.after w u

theorem arrAt_exact [∀ e, Nonempty (Val e)] {cfg : Cfg sig Λ₀} {c : Dev nD} (dat : Dat τ Val Ix Name U Lvl cfg c) (fgt : Fin cfg.W → Bool)
    (Rl : (w : Fin cfg.W) → Fin cfg.N → ((cfg.win w).block.Idx → Val (cfg.win w).elt) → Prop) (hE : Exact dat fgt Rl) (n : Nat)
    (w : Fin cfg.W) (G : Buf Val ((cfg.win w).arr.view.loc (c.tc : Thread nD τ))) (h : (dat.toRRel fgt Rl).ArrAt w n G) : G = dat.arrAt w n := by
  cases hf : fgt w
  · exact (dat.toR_arrAt_iff w n G).mp ((dat.toR.override_arrAt (by simp only [hf]) n G).mp h)
  · obtain ⟨X, hX, hA⟩ := h.exists_exact
    exact hA dat.after fun u hu hfu => (hE w hf u hfu (X u) (dat.toRRel_leaves hf (hX u hu hfu))).symm

theorem arraysAt_exact [∀ e, Nonempty (Val e)] {cfg : Cfg sig Λ₀} {c : Dev nD} (dat : Dat τ Val Ix Name U Lvl cfg c) (fgt : Fin cfg.W → Bool)
    (Rl : (w : Fin cfg.W) → Fin cfg.N → ((cfg.win w).block.Idx → Val (cfg.win w).elt) → Prop) (hE : Exact dat fgt Rl) (n : Nat) :
    ((dat.toRRel fgt Rl).arraysAt n : sProp 𝕄) ⊢ dat.arrays (dat.arrAt · n) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  have e : A = (dat.arrAt · n) := funext fun w => arrAt_exact dat fgt Rl hE n w (A w) (hA w (Finset.mem_univ w))
  subst e
  iexact H

variable {P : Type} [Fintype P]
variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- The proof data of every region, read relationally. -/
abbrev rels : (q : P) → (c : Dev nD) → RDat τ Val Ix Name U Lvl (pin pcs a q) c := fun q c => (pdats q c).toRRel (fg q) (Rl q c)

/-- The rest of a thread's state between two items: what it owes, which is nothing. -/
abbrev idle (c : Dev nD) : sProp 𝕄 := iprop(∃ W, owes (c.tc : Thread nD τ) (0 : CellTallies nD τ sig Ix) W)

/-- The region's record over the unscoped buffers: entered with them at `W c`, left with them at `afterRegion (pdats p c) (W c)`. -/
def relRegion [∀ e, Nonempty (Val e)] (p : P) (kit : PLaunchFacts (nD := nD) (τ := τ) pcs p) (hK : (pcs p).pre.K = 0)
    (huc : ∀ w, (arrRef (pcs p).spec w).isScoped = false)
    (hbody : ∀ c, (rels pcs a pdats fg Rl p c).BodyObligation defs₀ 𝒱₀ ι Set.univ)
    (howed : ∀ c t, (pdats p c).owed t = 0) (hrec : ∀ c, (pdats p c).recorded 0 = Set.univ)
    (hshare : ∀ c w, (pdats p c).share w = fullShare)
    (hΦ : ∀ c t, (pdats p c).Φ t = scopedRest (pin pcs a p).spec c)
    (hE : ∀ c, Exact (pdats p c) (fg p) (Rl p c)) (W : Dev nD → Valuation τ sig Val)
    (hW : ∀ c w, (pdats p c).arrAt w 0 = W c (Proc.devRef .tc (arrRef (pin pcs a p).spec w))) :
    RDat.RegionSeg pcs a (rels pcs a pdats fg Rl) ι defs₀ 𝒱₀ L lv p where
  win := kit.to₀.win
  block_pos := kit.to₀.block_pos
  stage_whole := kit.to₀.stage_whole
  K := PEmpty
  osem k := k.elim
  ho := OwnSemFacts.none _
  hbody := hbody
  hwaits := RDat.hwaits_of_owed_zero pcs a (rels pcs a pdats fg Rl) ι L lv p howed
  pre c := iprop(StableHlo.held (c.tc : Thread nD τ) (ucRefs τ sig) (W c) ∗ idle c)
  post c := iprop(StableHlo.held (c.tc : Thread nD τ) (ucRefs τ sig) (afterRegion (pdats p c) (W c)) ∗ idle c)
  X _ := iprop(emp)
  Y _ := iprop(emp)
  Z c := StableHlo.held (c.tc : Thread nD τ) (ucRefs τ sig \ arrRefs (pcs p).spec) (W c)
  hentry c := by
    show _ ⊢ |={Set.univ}=> iprop((pdats p c).arrays ((pdats p c).arrAt · 0) ∗ prefHeld (pcs p).pre c (fun _ => fullShare) (a p).1
        ∗ (pdats p c).owesAt ι 0 ∗ _ ∗ _)
    rw [prefHeld_of_none _ hK, arrays_held pcs a pdats p kit c (hshare c) ((pdats p c).arrAt · 0) (W c) (hW c),
      StableHlo.held_sub_split (c.tc : Thread nD τ) (arrRefs_sub_ucRefs (pcs p).spec huc) (W c)]
    iintro ⟨⟨⟨Ha, Hr⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := by
    show _ ⊢ (pdats p c).Φ 0
    rw [hΦ]
    iintro ⟨-, -, H⟩
    iexact H
  hout c := by
    show (pdats p c).Φ _ ⊢ _
    rw [hΦ, ownSems0_none]
    iintro H
    isplitr; · iempintro
    isplitr; · iempintro
    iexact H
  hexit c := by
    rw [StableHlo.held_sub_split (c.tc : Thread nD τ) (arrRefs_sub_ucRefs (pcs p).spec huc) (afterRegion (pdats p c) (W c)),
      ← arrays_held pcs a pdats p kit c (hshare c) ((pdats p c).arrAt · (pin pcs a p).N) (afterRegion (pdats p c) (W c))
        (fun w => (afterRegion_arr (pdats p c) (W c) kit.win.arr_inj w).symm),
      StableHlo.held_congr (c.tc : Thread nD τ) (S := ucRefs τ sig \ arrRefs (pcs p).spec) (V := afterRegion (pdats p c) (W c)) (V' := W c) (fun b hb => by
        obtain ⟨h1, h2⟩ := Finset.mem_sdiff.mp hb
        obtain ⟨r, -, rfl⟩ := Finset.mem_map.mp (Finset.mem_filter.mp h1).1
        exact afterRegion_of_not_arr (pdats p c) (W c) fun w e => h2 (Finset.mem_map.mpr ⟨_, Finset.mem_image.mpr ⟨w, Finset.mem_univ w, e.symm⟩, rfl⟩))]
    refine (sep_mono (arraysAt_exact (pdats p c) (fg p) (Rl p c) (hE c) _) .rfl).trans ?_
    iintro ⟨Ha, HO, -, Hr⟩
    imodintro
    isplitl [Ha Hr]
    · isplitl [Ha]; · iexact Ha
      iexact Hr
    ihave HO' := (show (rels pcs a pdats fg Rl p c).owesAt ι (Fin.last (pin pcs a p).N) ⊢ idle c from by
      show (pdats p c).owesAt ι _ ⊢ _
      unfold Dat.owesAt owesWithin
      rw [howed c (Fin.last _)]
      iintro ⟨%Wd, -, HO⟩; iexists Wd; iexact HO) $$ HO
    iexact HO'

end Cert.RelRegion
-- ==== Proof.KernelOff.lean ====
/- The places the clip search writes to: trip `t` of the loop at grid point `i` stores row `i % 8`, columns
   `256 t ..` of the loss and scale blocks, and columns `256 t ..` of the packed codes. -/
module

public import proofs.«01_k».proof.Proof.Gen.Kernel.Loops
public import proofs.«01_k».proof.Proof.Gen.Kernel.Points
public import Idealize.ShloMosaic.Lib.Exec
public import Idealize.ShloMosaic.Lib.Tactic
public import Idealize.ShloMosaic.Lib.Pipeline.Kit

@[expose] public section

set_option maxRecDepth 16384

noncomputable section

namespace Cert.Kernel.Clip

open Cert.Kernel
open Idealize.ShloMosaic Idealize.ShloMosaic.TcCoe Idealize.ShloMosaic.Tactic

/-- The source rows of the trip. -/
theorem k1_off1_eq : ∀ t : Fin k1_t1_loop.trips, k1_off1 t = ![256 * t.val, 0] := by decide +kernel
instance (t : Fin k1_t1_loop.trips) : ClosedOff (k1_off1 t) := ⟨_, k1_off1_eq t⟩

/-- The columns of the packed codes. -/
theorem k1_off2_eq : ∀ t : Fin k1_t1_loop.trips, k1_off2 t = ![0, 0, 0, 256 * t.val] := by decide +kernel
instance (t : Fin k1_t1_loop.trips) : ClosedOff (k1_off2 t) := ⟨_, k1_off2_eq t⟩

/-- The row and columns of the loss and the scale. -/
theorem k1_off3_eq : ∀ (i : grid1.Coords) (t : Fin k1_t1_loop.trips), k1_off3 i t = ![0, (i 0).val % 8, 256 * t.val] := by
  decide +kernel
instance (i : grid1.Coords) (t : Fin k1_t1_loop.trips) : ClosedOff (k1_off3 i t) := ⟨_, k1_off3_eq i t⟩

theorem k1_off4_eq (t : Fin k1_t1_loop.trips) : k1_off4 t = ![0, 1, 0, 256 * t.val] := by
  rw [show k1_off4 t = ![0, 1, 0, k1_off2 t 3] from rfl, k1_off2_eq]; rfl
instance (t : Fin k1_t1_loop.trips) : ClosedOff (k1_off4 t) := ⟨_, k1_off4_eq t⟩
theorem k1_off5_eq (i : grid1.Coords) (t : Fin k1_t1_loop.trips) : k1_off5 i t = ![1, (i 0).val % 8, 256 * t.val] := by
  rw [show k1_off5 i t = ![1, k1_off3 i t 1, k1_off3 i t 2] from rfl, k1_off3_eq]; rfl
instance (i : grid1.Coords) (t : Fin k1_t1_loop.trips) : ClosedOff (k1_off5 i t) := ⟨_, k1_off5_eq i t⟩
theorem k1_off6_eq (t : Fin k1_t1_loop.trips) : k1_off6 t = ![0, 2, 0, 256 * t.val] := by
  rw [show k1_off6 t = ![0, 2, 0, k1_off2 t 3] from rfl, k1_off2_eq]; rfl
instance (t : Fin k1_t1_loop.trips) : ClosedOff (k1_off6 t) := ⟨_, k1_off6_eq t⟩
theorem k1_off7_eq (i : grid1.Coords) (t : Fin k1_t1_loop.trips) : k1_off7 i t = ![2, (i 0).val % 8, 256 * t.val] := by
  rw [show k1_off7 i t = ![2, k1_off3 i t 1, k1_off3 i t 2] from rfl, k1_off3_eq]; rfl
instance (i : grid1.Coords) (t : Fin k1_t1_loop.trips) : ClosedOff (k1_off7 i t) := ⟨_, k1_off7_eq i t⟩
theorem k1_off8_eq (t : Fin k1_t1_loop.trips) : k1_off8 t = ![0, 3, 0, 256 * t.val] := by
  rw [show k1_off8 t = ![0, 3, 0, k1_off2 t 3] from rfl, k1_off2_eq]; rfl
instance (t : Fin k1_t1_loop.trips) : ClosedOff (k1_off8 t) := ⟨_, k1_off8_eq t⟩
theorem k1_off9_eq (i : grid1.Coords) (t : Fin k1_t1_loop.trips) : k1_off9 i t = ![3, (i 0).val % 8, 256 * t.val] := by
  rw [show k1_off9 i t = ![3, k1_off3 i t 1, k1_off3 i t 2] from rfl, k1_off3_eq]; rfl
instance (i : grid1.Coords) (t : Fin k1_t1_loop.trips) : ClosedOff (k1_off9 i t) := ⟨_, k1_off9_eq i t⟩
theorem k1_off10_eq (t : Fin k1_t1_loop.trips) : k1_off10 t = ![0, 4, 0, 256 * t.val] := by
  rw [show k1_off10 t = ![0, 4, 0, k1_off2 t 3] from rfl, k1_off2_eq]; rfl
instance (t : Fin k1_t1_loop.trips) : ClosedOff (k1_off10 t) := ⟨_, k1_off10_eq t⟩
theorem k1_off11_eq (i : grid1.Coords) (t : Fin k1_t1_loop.trips) : k1_off11 i t = ![4, (i 0).val % 8, 256 * t.val] := by
  rw [show k1_off11 i t = ![4, k1_off3 i t 1, k1_off3 i t 2] from rfl, k1_off3_eq]; rfl
instance (i : grid1.Coords) (t : Fin k1_t1_loop.trips) : ClosedOff (k1_off11 i t) := ⟨_, k1_off11_eq i t⟩
theorem k1_off12_eq (t : Fin k1_t1_loop.trips) : k1_off12 t = ![0, 5, 0, 256 * t.val] := by
  rw [show k1_off12 t = ![0, 5, 0, k1_off2 t 3] from rfl, k1_off2_eq]; rfl
instance (t : Fin k1_t1_loop.trips) : ClosedOff (k1_off12 t) := ⟨_, k1_off12_eq t⟩
theorem k1_off13_eq (i : grid1.Coords) (t : Fin k1_t1_loop.trips) : k1_off13 i t = ![5, (i 0).val % 8, 256 * t.val] := by
  rw [show k1_off13 i t = ![5, k1_off3 i t 1, k1_off3 i t 2] from rfl, k1_off3_eq]; rfl
instance (i : grid1.Coords) (t : Fin k1_t1_loop.trips) : ClosedOff (k1_off13 i t) := ⟨_, k1_off13_eq i t⟩
theorem k1_off14_eq (t : Fin k1_t1_loop.trips) : k1_off14 t = ![0, 6, 0, 256 * t.val] := by
  rw [show k1_off14 t = ![0, 6, 0, k1_off2 t 3] from rfl, k1_off2_eq]; rfl
instance (t : Fin k1_t1_loop.trips) : ClosedOff (k1_off14 t) := ⟨_, k1_off14_eq t⟩
theorem k1_off15_eq (i : grid1.Coords) (t : Fin k1_t1_loop.trips) : k1_off15 i t = ![6, (i 0).val % 8, 256 * t.val] := by
  rw [show k1_off15 i t = ![6, k1_off3 i t 1, k1_off3 i t 2] from rfl, k1_off3_eq]; rfl
instance (i : grid1.Coords) (t : Fin k1_t1_loop.trips) : ClosedOff (k1_off15 i t) := ⟨_, k1_off15_eq i t⟩
theorem k1_off16_eq (t : Fin k1_t1_loop.trips) : k1_off16 t = ![0, 7, 0, 256 * t.val] := by
  rw [show k1_off16 t = ![0, 7, 0, k1_off2 t 3] from rfl, k1_off2_eq]; rfl
instance (t : Fin k1_t1_loop.trips) : ClosedOff (k1_off16 t) := ⟨_, k1_off16_eq t⟩
theorem k1_off17_eq (i : grid1.Coords) (t : Fin k1_t1_loop.trips) : k1_off17 i t = ![7, (i 0).val % 8, 256 * t.val] := by
  rw [show k1_off17 i t = ![7, k1_off3 i t 1, k1_off3 i t 2] from rfl, k1_off3_eq]; rfl
instance (i : grid1.Coords) (t : Fin k1_t1_loop.trips) : ClosedOff (k1_off17 i t) := ⟨_, k1_off17_eq i t⟩
theorem k1_off18_eq (t : Fin k1_t1_loop.trips) : k1_off18 t = ![0, 8, 0, 256 * t.val] := by
  rw [show k1_off18 t = ![0, 8, 0, k1_off2 t 3] from rfl, k1_off2_eq]; rfl
instance (t : Fin k1_t1_loop.trips) : ClosedOff (k1_off18 t) := ⟨_, k1_off18_eq t⟩
theorem k1_off19_eq (i : grid1.Coords) (t : Fin k1_t1_loop.trips) : k1_off19 i t = ![8, (i 0).val % 8, 256 * t.val] := by
  rw [show k1_off19 i t = ![8, k1_off3 i t 1, k1_off3 i t 2] from rfl, k1_off3_eq]; rfl
instance (i : grid1.Coords) (t : Fin k1_t1_loop.trips) : ClosedOff (k1_off19 i t) := ⟨_, k1_off19_eq i t⟩
theorem k1_off20_eq (t : Fin k1_t1_loop.trips) : k1_off20 t = ![0, 9, 0, 256 * t.val] := by
  rw [show k1_off20 t = ![0, 9, 0, k1_off2 t 3] from rfl, k1_off2_eq]; rfl
instance (t : Fin k1_t1_loop.trips) : ClosedOff (k1_off20 t) := ⟨_, k1_off20_eq t⟩
theorem k1_off21_eq (i : grid1.Coords) (t : Fin k1_t1_loop.trips) : k1_off21 i t = ![9, (i 0).val % 8, 256 * t.val] := by
  rw [show k1_off21 i t = ![9, k1_off3 i t 1, k1_off3 i t 2] from rfl, k1_off3_eq]; rfl
instance (i : grid1.Coords) (t : Fin k1_t1_loop.trips) : ClosedOff (k1_off21 i t) := ⟨_, k1_off21_eq i t⟩
theorem k1_off22_eq (t : Fin k1_t1_loop.trips) : k1_off22 t = ![0, 10, 0, 256 * t.val] := by
  rw [show k1_off22 t = ![0, 10, 0, k1_off2 t 3] from rfl, k1_off2_eq]; rfl
instance (t : Fin k1_t1_loop.trips) : ClosedOff (k1_off22 t) := ⟨_, k1_off22_eq t⟩
theorem k1_off23_eq (i : grid1.Coords) (t : Fin k1_t1_loop.trips) : k1_off23 i t = ![10, (i 0).val % 8, 256 * t.val] := by
  rw [show k1_off23 i t = ![10, k1_off3 i t 1, k1_off3 i t 2] from rfl, k1_off3_eq]; rfl
instance (i : grid1.Coords) (t : Fin k1_t1_loop.trips) : ClosedOff (k1_off23 i t) := ⟨_, k1_off23_eq i t⟩
theorem k1_off24_eq (t : Fin k1_t1_loop.trips) : k1_off24 t = ![0, 11, 0, 256 * t.val] := by
  rw [show k1_off24 t = ![0, 11, 0, k1_off2 t 3] from rfl, k1_off2_eq]; rfl
instance (t : Fin k1_t1_loop.trips) : ClosedOff (k1_off24 t) := ⟨_, k1_off24_eq t⟩
theorem k1_off25_eq (i : grid1.Coords) (t : Fin k1_t1_loop.trips) : k1_off25 i t = ![11, (i 0).val % 8, 256 * t.val] := by
  rw [show k1_off25 i t = ![11, k1_off3 i t 1, k1_off3 i t 2] from rfl, k1_off3_eq]; rfl
instance (i : grid1.Coords) (t : Fin k1_t1_loop.trips) : ClosedOff (k1_off25 i t) := ⟨_, k1_off25_eq i t⟩
theorem k1_off26_eq (t : Fin k1_t1_loop.trips) : k1_off26 t = ![0, 12, 0, 256 * t.val] := by
  rw [show k1_off26 t = ![0, 12, 0, k1_off2 t 3] from rfl, k1_off2_eq]; rfl
instance (t : Fin k1_t1_loop.trips) : ClosedOff (k1_off26 t) := ⟨_, k1_off26_eq t⟩
theorem k1_off27_eq (i : grid1.Coords) (t : Fin k1_t1_loop.trips) : k1_off27 i t = ![12, (i 0).val % 8, 256 * t.val] := by
  rw [show k1_off27 i t = ![12, k1_off3 i t 1, k1_off3 i t 2] from rfl, k1_off3_eq]; rfl
instance (i : grid1.Coords) (t : Fin k1_t1_loop.trips) : ClosedOff (k1_off27 i t) := ⟨_, k1_off27_eq i t⟩
theorem k1_off28_eq (t : Fin k1_t1_loop.trips) : k1_off28 t = ![0, 13, 0, 256 * t.val] := by
  rw [show k1_off28 t = ![0, 13, 0, k1_off2 t 3] from rfl, k1_off2_eq]; rfl
instance (t : Fin k1_t1_loop.trips) : ClosedOff (k1_off28 t) := ⟨_, k1_off28_eq t⟩
theorem k1_off29_eq (i : grid1.Coords) (t : Fin k1_t1_loop.trips) : k1_off29 i t = ![13, (i 0).val % 8, 256 * t.val] := by
  rw [show k1_off29 i t = ![13, k1_off3 i t 1, k1_off3 i t 2] from rfl, k1_off3_eq]; rfl
instance (i : grid1.Coords) (t : Fin k1_t1_loop.trips) : ClosedOff (k1_off29 i t) := ⟨_, k1_off29_eq i t⟩
theorem k1_off30_eq (t : Fin k1_t1_loop.trips) : k1_off30 t = ![0, 14, 0, 256 * t.val] := by
  rw [show k1_off30 t = ![0, 14, 0, k1_off2 t 3] from rfl, k1_off2_eq]; rfl
instance (t : Fin k1_t1_loop.trips) : ClosedOff (k1_off30 t) := ⟨_, k1_off30_eq t⟩
theorem k1_off31_eq (i : grid1.Coords) (t : Fin k1_t1_loop.trips) : k1_off31 i t = ![14, (i 0).val % 8, 256 * t.val] := by
  rw [show k1_off31 i t = ![14, k1_off3 i t 1, k1_off3 i t 2] from rfl, k1_off3_eq]; rfl
instance (i : grid1.Coords) (t : Fin k1_t1_loop.trips) : ClosedOff (k1_off31 i t) := ⟨_, k1_off31_eq i t⟩
theorem k1_off32_eq (t : Fin k1_t1_loop.trips) : k1_off32 t = ![0, 15, 0, 256 * t.val] := by
  rw [show k1_off32 t = ![0, 15, 0, k1_off2 t 3] from rfl, k1_off2_eq]; rfl
instance (t : Fin k1_t1_loop.trips) : ClosedOff (k1_off32 t) := ⟨_, k1_off32_eq t⟩
theorem k1_off33_eq (i : grid1.Coords) (t : Fin k1_t1_loop.trips) : k1_off33 i t = ![15, (i 0).val % 8, 256 * t.val] := by
  rw [show k1_off33 i t = ![15, k1_off3 i t 1, k1_off3 i t 2] from rfl, k1_off3_eq]; rfl
instance (i : grid1.Coords) (t : Fin k1_t1_loop.trips) : ClosedOff (k1_off33 i t) := ⟨_, k1_off33_eq i t⟩
theorem k1_off34_eq (t : Fin k1_t1_loop.trips) : k1_off34 t = ![0, 16, 0, 256 * t.val] := by
  rw [show k1_off34 t = ![0, 16, 0, k1_off2 t 3] from rfl, k1_off2_eq]; rfl
instance (t : Fin k1_t1_loop.trips) : ClosedOff (k1_off34 t) := ⟨_, k1_off34_eq t⟩
theorem k1_off35_eq (i : grid1.Coords) (t : Fin k1_t1_loop.trips) : k1_off35 i t = ![16, (i 0).val % 8, 256 * t.val] := by
  rw [show k1_off35 i t = ![16, k1_off3 i t 1, k1_off3 i t 2] from rfl, k1_off3_eq]; rfl
instance (i : grid1.Coords) (t : Fin k1_t1_loop.trips) : ClosedOff (k1_off35 i t) := ⟨_, k1_off35_eq i t⟩
theorem k1_off36_eq (t : Fin k1_t1_loop.trips) : k1_off36 t = ![0, 17, 0, 256 * t.val] := by
  rw [show k1_off36 t = ![0, 17, 0, k1_off2 t 3] from rfl, k1_off2_eq]; rfl
instance (t : Fin k1_t1_loop.trips) : ClosedOff (k1_off36 t) := ⟨_, k1_off36_eq t⟩
theorem k1_off37_eq (i : grid1.Coords) (t : Fin k1_t1_loop.trips) : k1_off37 i t = ![17, (i 0).val % 8, 256 * t.val] := by
  rw [show k1_off37 i t = ![17, k1_off3 i t 1, k1_off3 i t 2] from rfl, k1_off3_eq]; rfl
instance (i : grid1.Coords) (t : Fin k1_t1_loop.trips) : ClosedOff (k1_off37 i t) := ⟨_, k1_off37_eq i t⟩
theorem k1_off38_eq (t : Fin k1_t1_loop.trips) : k1_off38 t = ![0, 18, 0, 256 * t.val] := by
  rw [show k1_off38 t = ![0, 18, 0, k1_off2 t 3] from rfl, k1_off2_eq]; rfl
instance (t : Fin k1_t1_loop.trips) : ClosedOff (k1_off38 t) := ⟨_, k1_off38_eq t⟩
theorem k1_off39_eq (i : grid1.Coords) (t : Fin k1_t1_loop.trips) : k1_off39 i t = ![18, (i 0).val % 8, 256 * t.val] := by
  rw [show k1_off39 i t = ![18, k1_off3 i t 1, k1_off3 i t 2] from rfl, k1_off3_eq]; rfl
instance (i : grid1.Coords) (t : Fin k1_t1_loop.trips) : ClosedOff (k1_off39 i t) := ⟨_, k1_off39_eq i t⟩
theorem k1_off40_eq (t : Fin k1_t1_loop.trips) : k1_off40 t = ![0, 19, 0, 256 * t.val] := by
  rw [show k1_off40 t = ![0, 19, 0, k1_off2 t 3] from rfl, k1_off2_eq]; rfl
instance (t : Fin k1_t1_loop.trips) : ClosedOff (k1_off40 t) := ⟨_, k1_off40_eq t⟩
theorem k1_off41_eq (i : grid1.Coords) (t : Fin k1_t1_loop.trips) : k1_off41 i t = ![19, (i 0).val % 8, 256 * t.val] := by
  rw [show k1_off41 i t = ![19, k1_off3 i t 1, k1_off3 i t 2] from rfl, k1_off3_eq]; rfl
instance (i : grid1.Coords) (t : Fin k1_t1_loop.trips) : ClosedOff (k1_off41 i t) := ⟨_, k1_off41_eq i t⟩

end Cert.Kernel.Clip

end
-- ==== Proof.KernelTrip.lean ====
/- One trip of the clip search's loop. -/
module

public import proofs.«01_k».proof.Proof.KernelOff

@[expose] public section

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- Buffer of memref `a` held whole at `f`. -/
abbrev hold (c : Dev nD) {sp : Space} {s : Shape} {e : EltTy} (a : Memref sig .tc sp s e) (f : Buf (Elt F) (a.view.loc (c : Thread nD τ))) : sProp 𝕄 :=
  a.view.loc (c : Thread nD τ) ↦[a.view.set]{fullShare} f

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole) (v9 : BitVec 32) (v11 : FVec F S128x128 .f32)

/-- What a trip touches. -/
abbrev Trip (g1 : Buf (Elt F) (arg1.view.loc (c : Thread nD τ))) (g2 : Buf (Elt F) (arg2.view.loc (c : Thread nD τ)))
    (g7 : Buf (Elt F) (arg7.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) : sProp 𝕄 :=
  iprop(hold c arg1 g1 ∗ hold c arg2 g2 ∗ hold c arg7 g7 ∗ hold c arg4 f4 ∗ hold c arg5 f5 ∗ hold c arg6 f6)

/-- One trip: the lists of what it stores are found by the run. -/
@[irreducible] def trip (g1 : Buf (Elt F) (arg1.view.loc (c : Thread nD τ))) (g2 : Buf (Elt F) (arg2.view.loc (c : Thread nD τ)))
    (g7 : Buf (Elt F) (arg7.view.loc (c : Thread nD τ))) (t : Fin k1_t1_loop.trips) :
    Σ' (L4 : List (View.Piece (Elt F) S20x8x2048 .f32)) (L5 : List (View.Piece (Elt F) S1x20x64x2048 .i8)), {L6 : List (View.Piece (Elt F) S20x8x2048 .f32) //
      ∀ f4 f5 f6, Trip c arg1 arg2 arg4 arg5 arg6 arg7 g1 g2 g7 f4 f5 f6
        ⊢ wp frame (wpE (defs₀ (F := F)) 𝒱₀ (c : Thread nD τ) none) Set.univ (k1_t1_body (F := F) i arg1 harg1 arg2 harg2 arg3 harg3 arg4 harg4 arg5 harg5 arg6 harg6 arg7 harg7 v9 v11 t ())
          (fun _ => Trip c arg1 arg2 arg4 arg5 arg6 arg7 g1 g2 g7 (arg4.view.writes (Elt F) f4 L4) (arg5.view.writes (Elt F) f5 L5) (arg6.view.writes (Elt F) f6 L6))} := by
  have hk : t.val < 8 := Nat.lt_of_lt_of_le t.isLt k1_t1_abs.2.1
  refine ⟨?_, ?_, ?_, fun f4 f5 f6 => ?run⟩
  case run =>
    unfold k1_t1_body
    iintro ⟨H1, H2, H7, H4, H5, H6⟩
    sl_exec
    sl_step
    sl_close

end

end Cert.Kernel.Clip

end
-- ==== Proof.KernelTile.lean ====
/- What one trip of the clip search's loop leaves, as one function of the grid point's blocks: the loss, the packed
   codes and the scale of candidate ratio `k` and output row `o`, whichever trip covers `o`. -/
module

public import proofs.«01_k».proof.Proof.KernelTrip
public import Idealize.ShloMosaic.Lib.VecWindow
public import Idealize.ShloMosaic.Lib.Pointwise.Index

@[expose] public section

set_option maxRecDepth 16384

noncomputable section

namespace Cert.Kernel.Clip

open Cert.Kernel Cert.Kernel.Gen
open Idealize.ShloMosaic Idealize.ShloMosaic.TcCoe Idealize.ShloMosaic.Tactic

variable {F : FTy → Type} [FloatOps F]

/-! ### The three results of one tile of 256 output rows -/

/-- The loss of every row of tile `w` at ratio `r`, where `a` holds the scaled Gram matrix's three parts. -/
def lossT (v11 : FVec F S128x128 .f32) (w : Vec F S256x128 .bf16) (r : Elt F .f32) (a : Vec F S1x128x384 .bf16) : FVec F S1x1x256 .f32 :=
  k1_pay14 (k1_pay7 w) (k1_pay8 v11 w) (k1_pay9 w r) (k1_pay10 w r) (k1_pay11 w r) a

/-- The packed codes of tile `w` at ratio `r`. -/
def codeT (w : Vec F S256x128 .bf16) (r : Elt F .f32) : IVec S1x1x64x256 8 := k1_pay13 (k1_pay11 w r)

/-- The scale of every row of tile `w` at ratio `r`. -/
def scaleT (w : Vec F S256x128 .bf16) (r : Elt F .f32) : FVec F S1x1x256 .f32 := k1_pay15 (k1_pay9 w r)

/-! ### The blocks they are computed from -/

/-- Rows `256 t ..` of the weight block. -/
def wtile (W : Vec F S2048x128 .bf16) (t : Fin 8) : Vec F S256x128 .bf16 := fun y =>
  W (ix2 ⟨256 * t.val + (y 0).val, by have h : (y 0).val < 256 := (y 0).isLt; omega⟩ (y 1))

/-- Ratio `k`. -/
def ratioAt (R : Vec F S20 .f32) (k : Fin 20) : Elt F .f32 := R (ix1 k)

/-- The scaled Gram matrix of ratio `k`. -/
def gramAt (A : Vec F S20x128x384 .bf16) (k : Fin 20) : Vec F S1x128x384 .bf16 := fun y => A (ix3 k (y 1) (y 2))

/-- The tile that covers column `o` of the block. -/
def tileOf (o : Fin 2048) : Fin 8 := ⟨o.val / 256, by omega⟩

/-- Its place in the tile. -/
def inTile (o : Fin 2048) : Fin 256 := ⟨o.val % 256, by omega⟩

/-- The loss at ratio `k` and output row `o`. -/
def lossG (R : Vec F S20 .f32) (W : Vec F S2048x128 .bf16) (v11 : FVec F S128x128 .f32) (A : Vec F S20x128x384 .bf16)
    (y : S20x8x2048.Idx) : Elt F .f32 :=
  lossT v11 (wtile W (tileOf (y 2))) (ratioAt R (y 0)) (gramAt A (y 0)) (ix3 0 0 (inTile (y 2)))

/-- The packed codes at ratio `k`, pair `p` and output row `o`. -/
def codeG (R : Vec F S20 .f32) (W : Vec F S2048x128 .bf16) (y : S1x20x64x2048.Idx) : Elt F .i8 :=
  codeT (wtile W (tileOf (y 3))) (ratioAt R (y 1)) (ix4 0 0 (y 2) (inTile (y 3)))

/-- The scale at ratio `k` and output row `o`. -/
def scaleG (R : Vec F S20 .f32) (W : Vec F S2048x128 .bf16) (y : S20x8x2048.Idx) : Elt F .f32 :=
  scaleT (wtile W (tileOf (y 2))) (ratioAt R (y 0)) (ix3 0 0 (inTile (y 2)))

/-! ### Which elements a piece covers -/

theorem row_mem (k : Fin 20) (r : ℕ) (t : Fin 8) {off : Fin 3 → ℕ} (h : off = ![k.val, r, 256 * t.val]) (inb) (y : S20x8x2048.Idx) :
    y ∈ (Rect.unit (s := S20x8x2048) off S1x1x256.size inb).set ↔ y 0 = k ∧ (y 1).val = r ∧ tileOf (y 2) = t := by
  subst h
  rw [Rect.mem_set_unit]
  constructor
  · intro h
    have h0 : k.val ≤ (y 0).val ∧ (y 0).val < k.val + 1 := h 0
    have h1 : r ≤ (y 1).val ∧ (y 1).val < r + 1 := h 1
    have h2 : 256 * t.val ≤ (y 2).val ∧ (y 2).val < 256 * t.val + 256 := h 2
    exact ⟨Fin.ext (by omega), by omega, Fin.ext (show (y 2).val / 256 = t.val by omega)⟩
  · rintro ⟨h0, h1, h2⟩ a
    have h0 : (y 0).val = k.val := congrArg Fin.val h0
    have h2 : (y 2).val / 256 = t.val := congrArg Fin.val h2
    match a with
    | ⟨0, _⟩ => show k.val ≤ (y 0).val ∧ (y 0).val < k.val + 1; omega
    | ⟨1, _⟩ => show r ≤ (y 1).val ∧ (y 1).val < r + 1; omega
    | ⟨2, _⟩ => show 256 * t.val ≤ (y 2).val ∧ (y 2).val < 256 * t.val + 256; omega

theorem code_mem (k : Fin 20) (t : Fin 8) {off : Fin 4 → ℕ} (h : off = ![0, k.val, 0, 256 * t.val]) (inb) (y : S1x20x64x2048.Idx) :
    y ∈ (Rect.unit (s := S1x20x64x2048) off S1x1x64x256.size inb).set ↔ y 1 = k ∧ tileOf (y 3) = t := by
  subst h
  rw [Rect.mem_set_unit]
  constructor
  · intro h
    have h0 : k.val ≤ (y 1).val ∧ (y 1).val < k.val + 1 := h 1
    have h2 : 256 * t.val ≤ (y 3).val ∧ (y 3).val < 256 * t.val + 256 := h 3
    exact ⟨Fin.ext (by omega), Fin.ext (show (y 3).val / 256 = t.val by omega)⟩
  · rintro ⟨h0, h2⟩ a
    have h0 : (y 1).val = k.val := congrArg Fin.val h0
    have h2 : (y 3).val / 256 = t.val := congrArg Fin.val h2
    have h3 : (y 0).val < 1 := (y 0).isLt
    have h4 : (y 2).val < 64 := (y 2).isLt
    match a with
    | ⟨0, _⟩ => show 0 ≤ (y 0).val ∧ (y 0).val < 0 + 1; omega
    | ⟨1, _⟩ => show k.val ≤ (y 1).val ∧ (y 1).val < k.val + 1; omega
    | ⟨2, _⟩ => show 0 ≤ (y 2).val ∧ (y 2).val < 0 + 64; omega
    | ⟨3, _⟩ => show 256 * t.val ≤ (y 3).val ∧ (y 3).val < 256 * t.val + 256; omega

/-- Every candidate is one of the twenty. -/
theorem fin20 : ∀ k : Fin 20, k = 19 ∨ k = 18 ∨ k = 17 ∨ k = 16 ∨ k = 15 ∨ k = 14 ∨ k = 13 ∨ k = 12 ∨ k = 11 ∨ k = 10 ∨ k = 9 ∨ k = 8 ∨ k = 7 ∨ k = 6 ∨ k = 5 ∨ k = 4 ∨ k = 3 ∨ k = 2 ∨ k = 1 ∨ k = 0 := by decide

theorem fin20_and (k : Fin 20) {q : Prop} (h : q) : k = 19 ∧ q ∨ k = 18 ∧ q ∨ k = 17 ∧ q ∨ k = 16 ∧ q ∨ k = 15 ∧ q ∨ k = 14 ∧ q ∨ k = 13 ∧ q ∨ k = 12 ∧ q ∨ k = 11 ∧ q ∨ k = 10 ∧ q ∨ k = 9 ∧ q ∨ k = 8 ∧ q ∨ k = 7 ∧ q ∨ k = 6 ∧ q ∨ k = 5 ∧ q ∨ k = 4 ∧ q ∨ k = 3 ∧ q ∨ k = 2 ∧ q ∨ k = 1 ∧ q ∨ k = 0 ∧ q := by
  simpa only [h, and_true] using fin20 k

/-! ### A piece of the trip's stores, read at its own index -/

section
variable (c : Dev nD) (arg1 : Memref sig .tc .smem S20 .f32) (arg2 : Memref sig .tc .vmem S2048x128 .bf16) (arg7 : Memref sig .tc .vmem S20x128x384 .bf16) (v11 : FVec F S128x128 .f32)
variable (g1 : Buf (Elt F) (arg1.view.loc (c : Thread nD τ))) (g2 : Buf (Elt F) (arg2.view.loc (c : Thread nD τ))) (g7 : Buf (Elt F) (arg7.view.loc (c : Thread nD τ)))

theorem read_wtile (t : Fin 8) {off : Fin 2 → ℕ} (h : off = ![256 * t.val, 0]) (inb) :
    arg2.view.readAt (Elt F) (Rect.unit (s := S2048x128) off S256x128.size inb).toLoadRect g2 = wtile (arg2.view.read (Elt F) g2) t := by
  subst h
  funext y
  refine congrArg (arg2.view.read (Elt F) g2) (funext fun a => Fin.ext ?_)
  match a with
  | ⟨0, _⟩ => show 256 * t.val + 1 * (y 0).val = 256 * t.val + (y 0).val; omega
  | ⟨1, _⟩ => show 0 + 1 * (y 1).val = (y 1).val; omega

theorem read_ratio (k : Fin 20) (inb) (x) :
    arg1.view.readAt (Elt F) (Rect.unit (s := S20) ![k.val] S1.size inb).toLoadRect g1 x = ratioAt (arg1.view.read (Elt F) g1) k := by
  refine congrArg (arg1.view.read (Elt F) g1) (funext fun a => Fin.ext ?_)
  match a with
  | ⟨0, _⟩ => have : (x 0).val < 1 := (x 0).isLt; show k.val + 1 * (x 0).val = k.val; omega

theorem read_gram (k : Fin 20) (inb) :
    arg7.view.readAt (Elt F) (Rect.unit (s := S20x128x384) ![k.val, 0, 0] S1x128x384.size inb).toLoadRect g7 = gramAt (arg7.view.read (Elt F) g7) k := by
  funext y
  refine congrArg (arg7.view.read (Elt F) g7) (funext fun a => Fin.ext ?_)
  match a with
  | ⟨0, _⟩ => have : (y 0).val < 1 := (y 0).isLt; show k.val + 1 * (y 0).val = k.val; omega
  | ⟨1, _⟩ => show 0 + 1 * (y 1).val = (y 1).val; omega
  | ⟨2, _⟩ => show 0 + 1 * (y 2).val = (y 2).val; omega

/-- A row of 256 stored at row `r`, columns `256 t ..`, read where it lies. -/
theorem row_emb (k : Fin 20) (r : ℕ) (t : Fin 8) {off : Fin 3 → ℕ} (h : off = ![k.val, r, 256 * t.val]) (inb) (x : (Rect.unit (s := S20x8x2048) off S1x1x256.size inb).shape.Idx) :
    (Rect.unit (s := S20x8x2048) off S1x1x256.size inb).emb x 0 = k ∧ tileOf ((Rect.unit (s := S20x8x2048) off S1x1x256.size inb).emb x 2) = t ∧
      ix3 (n0 := 1) (n1 := 1) 0 0 (inTile ((Rect.unit (s := S20x8x2048) off S1x1x256.size inb).emb x 2)) = x := by
  subst h
  have h0 : (x 0).val < 1 := (x 0).isLt
  have h1 : (x 1).val < 1 := (x 1).isLt
  have h2 : (x 2).val < 256 := (x 2).isLt
  refine ⟨Fin.ext ?_, Fin.ext ?_, funext fun a => Fin.ext ?_⟩
  · show k.val + 1 * (x 0).val = k.val; omega
  · show (256 * t.val + 1 * (x 2).val) / 256 = t.val; omega
  · match a with
    | ⟨0, _⟩ => show 0 = (x 0).val; omega
    | ⟨1, _⟩ => show 0 = (x 1).val; omega
    | ⟨2, _⟩ => show (256 * t.val + 1 * (x 2).val) % 256 = (x 2).val; omega

/-- The same for the packed codes. -/
theorem code_emb (k : Fin 20) (t : Fin 8) {off : Fin 4 → ℕ} (h : off = ![0, k.val, 0, 256 * t.val]) (inb) (x : (Rect.unit (s := S1x20x64x2048) off S1x1x64x256.size inb).shape.Idx) :
    (Rect.unit (s := S1x20x64x2048) off S1x1x64x256.size inb).emb x 1 = k ∧ tileOf ((Rect.unit (s := S1x20x64x2048) off S1x1x64x256.size inb).emb x 3) = t ∧
      ix4 (n0 := 1) (n1 := 1) 0 0 ((Rect.unit (s := S1x20x64x2048) off S1x1x64x256.size inb).emb x 2) (inTile ((Rect.unit (s := S1x20x64x2048) off S1x1x64x256.size inb).emb x 3)) = x := by
  subst h
  have h0 : (x 0).val < 1 := (x 0).isLt
  have h1 : (x 1).val < 1 := (x 1).isLt
  have h2 : (x 3).val < 256 := (x 3).isLt
  refine ⟨Fin.ext ?_, Fin.ext ?_, funext fun a => Fin.ext ?_⟩
  · show k.val + 1 * (x 1).val = k.val; omega
  · show (256 * t.val + 1 * (x 3).val) / 256 = t.val; omega
  · match a with
    | ⟨0, _⟩ => show 0 = (x 0).val; omega
    | ⟨1, _⟩ => show 0 = (x 1).val; omega
    | ⟨2, _⟩ => show 0 + 1 * (x 2).val = (x 2).val; omega
    | ⟨3, _⟩ => show (256 * t.val + 1 * (x 3).val) % 256 = (x 3).val; omega

theorem piece4 (k : Fin 20) (r : ℕ) (t : Fin 8) {off1 : Fin 2 → ℕ} (h1 : off1 = ![256 * t.val, 0]) (inb1) (inbr) (xr) (inba)
    {off : Fin 3 → ℕ} (h : off = ![k.val, r, 256 * t.val]) (inb) (x : (Rect.unit (s := S20x8x2048) off S1x1x256.size inb).shape.Idx) :
    lossT v11 (arg2.view.readAt (Elt F) (Rect.unit (s := S2048x128) off1 S256x128.size inb1).toLoadRect g2)
        (arg1.view.readAt (Elt F) (Rect.unit (s := S20) ![k.val] S1.size inbr).toLoadRect g1 xr)
        (arg7.view.readAt (Elt F) (Rect.unit (s := S20x128x384) ![k.val, 0, 0] S1x128x384.size inba).toLoadRect g7) x
      = lossG (arg1.view.read (Elt F) g1) (arg2.view.read (Elt F) g2) v11 (arg7.view.read (Elt F) g7)
          ((Rect.unit (s := S20x8x2048) off S1x1x256.size inb).emb x) := by
  obtain ⟨e0, e1, e2⟩ := row_emb k r t h inb x
  rw [read_wtile (h := h1), read_ratio, read_gram]
  unfold lossG
  rw [e0, e1, e2]

theorem piece5 (k : Fin 20) (t : Fin 8) {off1 : Fin 2 → ℕ} (h1 : off1 = ![256 * t.val, 0]) (inb1) (inbr) (xr)
    {off : Fin 4 → ℕ} (h : off = ![0, k.val, 0, 256 * t.val]) (inb) (x : (Rect.unit (s := S1x20x64x2048) off S1x1x64x256.size inb).shape.Idx) :
    codeT (arg2.view.readAt (Elt F) (Rect.unit (s := S2048x128) off1 S256x128.size inb1).toLoadRect g2)
        (arg1.view.readAt (Elt F) (Rect.unit (s := S20) ![k.val] S1.size inbr).toLoadRect g1 xr) x
      = codeG (arg1.view.read (Elt F) g1) (arg2.view.read (Elt F) g2)
          ((Rect.unit (s := S1x20x64x2048) off S1x1x64x256.size inb).emb x) := by
  obtain ⟨e0, e1, e2⟩ := code_emb k t h inb x
  rw [read_wtile (h := h1), read_ratio]
  unfold codeG
  rw [e0, e1]
  exact congrArg (codeT _ _) e2.symm

theorem piece6 (k : Fin 20) (r : ℕ) (t : Fin 8) {off1 : Fin 2 → ℕ} (h1 : off1 = ![256 * t.val, 0]) (inb1) (inbr) (xr)
    {off : Fin 3 → ℕ} (h : off = ![k.val, r, 256 * t.val]) (inb) (x : (Rect.unit (s := S20x8x2048) off S1x1x256.size inb).shape.Idx) :
    scaleT (arg2.view.readAt (Elt F) (Rect.unit (s := S2048x128) off1 S256x128.size inb1).toLoadRect g2)
        (arg1.view.readAt (Elt F) (Rect.unit (s := S20) ![k.val] S1.size inbr).toLoadRect g1 xr) x
      = scaleG (arg1.view.read (Elt F) g1) (arg2.view.read (Elt F) g2)
          ((Rect.unit (s := S20x8x2048) off S1x1x256.size inb).emb x) := by
  obtain ⟨e0, e1, e2⟩ := row_emb k r t h inb x
  rw [read_wtile (h := h1), read_ratio]
  unfold scaleG
  rw [e0, e1, e2]

end

end Cert.Kernel.Clip

end
-- ==== Proof.KernelPieces.lean ====
/- The stores of one trip, piece by piece. -/
module

public import proofs.«01_k».proof.Proof.KernelTile

@[expose] public section

set_option maxRecDepth 16384

noncomputable section

namespace Cert.Kernel.Clip

open Cert.Kernel Cert.Kernel.Gen
open Idealize.ShloMosaic Idealize.ShloMosaic.TcCoe Idealize.ShloMosaic.Tactic

variable {F : FTy → Type} [FloatOps F]

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole) (v9 : BitVec 32) (v11 : FVec F S128x128 .f32)
variable (g1 : Buf (Elt F) (arg1.view.loc (c : Thread nD τ))) (g2 : Buf (Elt F) (arg2.view.loc (c : Thread nD τ))) (g7 : Buf (Elt F) (arg7.view.loc (c : Thread nD τ)))
variable (t : Fin k1_t1_loop.trips)

/-- The pieces of the loss stored by trip `t` all read the one function. -/
theorem trip_loss : ∀ p ∈ (trip c i arg1 harg1 arg2 harg2 arg3 harg3 arg4 harg4 arg5 harg5 arg6 harg6 arg7 harg7 v9 v11 g1 g2 g7 t).1,
    ∀ x, p.2 x = lossG (arg1.view.read (Elt F) g1) (arg2.view.read (Elt F) g2) v11 (arg7.view.read (Elt F) g7) (p.1.emb x) := by
  unfold trip
  simp only [List.forall_mem_cons]
  exact ⟨fun x => piece4 c arg1 arg2 arg7 v11 g1 g2 g7 19 _ t (k1_off1_eq t) _ _ _ _ (k1_off41_eq i t) _ x,
    fun x => piece4 c arg1 arg2 arg7 v11 g1 g2 g7 18 _ t (k1_off1_eq t) _ _ _ _ (k1_off39_eq i t) _ x,
    fun x => piece4 c arg1 arg2 arg7 v11 g1 g2 g7 17 _ t (k1_off1_eq t) _ _ _ _ (k1_off37_eq i t) _ x,
    fun x => piece4 c arg1 arg2 arg7 v11 g1 g2 g7 16 _ t (k1_off1_eq t) _ _ _ _ (k1_off35_eq i t) _ x,
    fun x => piece4 c arg1 arg2 arg7 v11 g1 g2 g7 15 _ t (k1_off1_eq t) _ _ _ _ (k1_off33_eq i t) _ x,
    fun x => piece4 c arg1 arg2 arg7 v11 g1 g2 g7 14 _ t (k1_off1_eq t) _ _ _ _ (k1_off31_eq i t) _ x,
    fun x => piece4 c arg1 arg2 arg7 v11 g1 g2 g7 13 _ t (k1_off1_eq t) _ _ _ _ (k1_off29_eq i t) _ x,
    fun x => piece4 c arg1 arg2 arg7 v11 g1 g2 g7 12 _ t (k1_off1_eq t) _ _ _ _ (k1_off27_eq i t) _ x,
    fun x => piece4 c arg1 arg2 arg7 v11 g1 g2 g7 11 _ t (k1_off1_eq t) _ _ _ _ (k1_off25_eq i t) _ x,
    fun x => piece4 c arg1 arg2 arg7 v11 g1 g2 g7 10 _ t (k1_off1_eq t) _ _ _ _ (k1_off23_eq i t) _ x,
    fun x => piece4 c arg1 arg2 arg7 v11 g1 g2 g7 9 _ t (k1_off1_eq t) _ _ _ _ (k1_off21_eq i t) _ x,
    fun x => piece4 c arg1 arg2 arg7 v11 g1 g2 g7 8 _ t (k1_off1_eq t) _ _ _ _ (k1_off19_eq i t) _ x,
    fun x => piece4 c arg1 arg2 arg7 v11 g1 g2 g7 7 _ t (k1_off1_eq t) _ _ _ _ (k1_off17_eq i t) _ x,
    fun x => piece4 c arg1 arg2 arg7 v11 g1 g2 g7 6 _ t (k1_off1_eq t) _ _ _ _ (k1_off15_eq i t) _ x,
    fun x => piece4 c arg1 arg2 arg7 v11 g1 g2 g7 5 _ t (k1_off1_eq t) _ _ _ _ (k1_off13_eq i t) _ x,
    fun x => piece4 c arg1 arg2 arg7 v11 g1 g2 g7 4 _ t (k1_off1_eq t) _ _ _ _ (k1_off11_eq i t) _ x,
    fun x => piece4 c arg1 arg2 arg7 v11 g1 g2 g7 3 _ t (k1_off1_eq t) _ _ _ _ (k1_off9_eq i t) _ x,
    fun x => piece4 c arg1 arg2 arg7 v11 g1 g2 g7 2 _ t (k1_off1_eq t) _ _ _ _ (k1_off7_eq i t) _ x,
    fun x => piece4 c arg1 arg2 arg7 v11 g1 g2 g7 1 _ t (k1_off1_eq t) _ _ _ _ (k1_off5_eq i t) _ x,
    fun x => piece4 c arg1 arg2 arg7 v11 g1 g2 g7 0 _ t (k1_off1_eq t) _ _ _ _ (k1_off3_eq i t) _ x,
    fun p hp => absurd hp List.not_mem_nil⟩

/-- They cover the trip's elements and no other. -/
theorem trip_loss_mem (y) : (∃ p ∈ (trip c i arg1 harg1 arg2 harg2 arg3 harg3 arg4 harg4 arg5 harg5 arg6 harg6 arg7 harg7 v9 v11 g1 g2 g7 t).1, y ∈ p.1.set) ↔ (y 1).val = (i 0).val % 8 ∧ tileOf (y 2) = t := by
  unfold trip
  simp only [List.exists_mem_cons_iff, List.not_mem_nil, false_and, exists_false, or_false]
  refine (show _ ↔ _ from (or_congr (row_mem 19 _ t (k1_off41_eq i t) _ y) (or_congr (row_mem 18 _ t (k1_off39_eq i t) _ y) (or_congr (row_mem 17 _ t (k1_off37_eq i t) _ y) (or_congr (row_mem 16 _ t (k1_off35_eq i t) _ y) (or_congr (row_mem 15 _ t (k1_off33_eq i t) _ y) (or_congr (row_mem 14 _ t (k1_off31_eq i t) _ y) (or_congr (row_mem 13 _ t (k1_off29_eq i t) _ y) (or_congr (row_mem 12 _ t (k1_off27_eq i t) _ y) (or_congr (row_mem 11 _ t (k1_off25_eq i t) _ y) (or_congr (row_mem 10 _ t (k1_off23_eq i t) _ y) (or_congr (row_mem 9 _ t (k1_off21_eq i t) _ y) (or_congr (row_mem 8 _ t (k1_off19_eq i t) _ y) (or_congr (row_mem 7 _ t (k1_off17_eq i t) _ y) (or_congr (row_mem 6 _ t (k1_off15_eq i t) _ y) (or_congr (row_mem 5 _ t (k1_off13_eq i t) _ y) (or_congr (row_mem 4 _ t (k1_off11_eq i t) _ y) (or_congr (row_mem 3 _ t (k1_off9_eq i t) _ y) (or_congr (row_mem 2 _ t (k1_off7_eq i t) _ y) (or_congr (row_mem 1 _ t (k1_off5_eq i t) _ y) (row_mem 0 _ t (k1_off3_eq i t) _ y))))))))))))))))))))).trans ⟨fun h => ?_, fun h => ?_⟩
  · rcases h with h | h | h | h | h | h | h | h | h | h | h | h | h | h | h | h | h | h | h | h <;> exact h.2
  · exact fin20_and (y 0) h

/-- The pieces of the packed codes stored by trip `t` all read the one function. -/
theorem trip_code : ∀ p ∈ (trip c i arg1 harg1 arg2 harg2 arg3 harg3 arg4 harg4 arg5 harg5 arg6 harg6 arg7 harg7 v9 v11 g1 g2 g7 t).2.1,
    ∀ x, p.2 x = codeG (arg1.view.read (Elt F) g1) (arg2.view.read (Elt F) g2) (p.1.emb x) := by
  unfold trip
  simp only [List.forall_mem_cons]
  exact ⟨fun x => piece5 c arg1 arg2 g1 g2 19 t (k1_off1_eq t) _ _ _ (k1_off40_eq t) _ x,
    fun x => piece5 c arg1 arg2 g1 g2 18 t (k1_off1_eq t) _ _ _ (k1_off38_eq t) _ x,
    fun x => piece5 c arg1 arg2 g1 g2 17 t (k1_off1_eq t) _ _ _ (k1_off36_eq t) _ x,
    fun x => piece5 c arg1 arg2 g1 g2 16 t (k1_off1_eq t) _ _ _ (k1_off34_eq t) _ x,
    fun x => piece5 c arg1 arg2 g1 g2 15 t (k1_off1_eq t) _ _ _ (k1_off32_eq t) _ x,
    fun x => piece5 c arg1 arg2 g1 g2 14 t (k1_off1_eq t) _ _ _ (k1_off30_eq t) _ x,
    fun x => piece5 c arg1 arg2 g1 g2 13 t (k1_off1_eq t) _ _ _ (k1_off28_eq t) _ x,
    fun x => piece5 c arg1 arg2 g1 g2 12 t (k1_off1_eq t) _ _ _ (k1_off26_eq t) _ x,
    fun x => piece5 c arg1 arg2 g1 g2 11 t (k1_off1_eq t) _ _ _ (k1_off24_eq t) _ x,
    fun x => piece5 c arg1 arg2 g1 g2 10 t (k1_off1_eq t) _ _ _ (k1_off22_eq t) _ x,
    fun x => piece5 c arg1 arg2 g1 g2 9 t (k1_off1_eq t) _ _ _ (k1_off20_eq t) _ x,
    fun x => piece5 c arg1 arg2 g1 g2 8 t (k1_off1_eq t) _ _ _ (k1_off18_eq t) _ x,
    fun x => piece5 c arg1 arg2 g1 g2 7 t (k1_off1_eq t) _ _ _ (k1_off16_eq t) _ x,
    fun x => piece5 c arg1 arg2 g1 g2 6 t (k1_off1_eq t) _ _ _ (k1_off14_eq t) _ x,
    fun x => piece5 c arg1 arg2 g1 g2 5 t (k1_off1_eq t) _ _ _ (k1_off12_eq t) _ x,
    fun x => piece5 c arg1 arg2 g1 g2 4 t (k1_off1_eq t) _ _ _ (k1_off10_eq t) _ x,
    fun x => piece5 c arg1 arg2 g1 g2 3 t (k1_off1_eq t) _ _ _ (k1_off8_eq t) _ x,
    fun x => piece5 c arg1 arg2 g1 g2 2 t (k1_off1_eq t) _ _ _ (k1_off6_eq t) _ x,
    fun x => piece5 c arg1 arg2 g1 g2 1 t (k1_off1_eq t) _ _ _ (k1_off4_eq t) _ x,
    fun x => piece5 c arg1 arg2 g1 g2 0 t (k1_off1_eq t) _ _ _ (k1_off2_eq t) _ x,
    fun p hp => absurd hp List.not_mem_nil⟩

/-- They cover the trip's elements and no other. -/
theorem trip_code_mem (y) : (∃ p ∈ (trip c i arg1 harg1 arg2 harg2 arg3 harg3 arg4 harg4 arg5 harg5 arg6 harg6 arg7 harg7 v9 v11 g1 g2 g7 t).2.1, y ∈ p.1.set) ↔ tileOf (y 3) = t := by
  unfold trip
  simp only [List.exists_mem_cons_iff, List.not_mem_nil, false_and, exists_false, or_false]
  refine (show _ ↔ _ from (or_congr (code_mem 19 t (k1_off40_eq t) _ y) (or_congr (code_mem 18 t (k1_off38_eq t) _ y) (or_congr (code_mem 17 t (k1_off36_eq t) _ y) (or_congr (code_mem 16 t (k1_off34_eq t) _ y) (or_congr (code_mem 15 t (k1_off32_eq t) _ y) (or_congr (code_mem 14 t (k1_off30_eq t) _ y) (or_congr (code_mem 13 t (k1_off28_eq t) _ y) (or_congr (code_mem 12 t (k1_off26_eq t) _ y) (or_congr (code_mem 11 t (k1_off24_eq t) _ y) (or_congr (code_mem 10 t (k1_off22_eq t) _ y) (or_congr (code_mem 9 t (k1_off20_eq t) _ y) (or_congr (code_mem 8 t (k1_off18_eq t) _ y) (or_congr (code_mem 7 t (k1_off16_eq t) _ y) (or_congr (code_mem 6 t (k1_off14_eq t) _ y) (or_congr (code_mem 5 t (k1_off12_eq t) _ y) (or_congr (code_mem 4 t (k1_off10_eq t) _ y) (or_congr (code_mem 3 t (k1_off8_eq t) _ y) (or_congr (code_mem 2 t (k1_off6_eq t) _ y) (or_congr (code_mem 1 t (k1_off4_eq t) _ y) (code_mem 0 t (k1_off2_eq t) _ y))))))))))))))))))))).trans ⟨fun h => ?_, fun h => ?_⟩
  · rcases h with h | h | h | h | h | h | h | h | h | h | h | h | h | h | h | h | h | h | h | h <;> exact h.2
  · exact fin20_and (y 1) h

/-- The pieces of the scales stored by trip `t` all read the one function. -/
theorem trip_scale : ∀ p ∈ (trip c i arg1 harg1 arg2 harg2 arg3 harg3 arg4 harg4 arg5 harg5 arg6 harg6 arg7 harg7 v9 v11 g1 g2 g7 t).2.2.1,
    ∀ x, p.2 x = scaleG (arg1.view.read (Elt F) g1) (arg2.view.read (Elt F) g2) (p.1.emb x) := by
  unfold trip
  simp only [List.forall_mem_cons]
  exact ⟨fun x => piece6 c arg1 arg2 g1 g2 19 _ t (k1_off1_eq t) _ _ _ (k1_off41_eq i t) _ x,
    fun x => piece6 c arg1 arg2 g1 g2 18 _ t (k1_off1_eq t) _ _ _ (k1_off39_eq i t) _ x,
    fun x => piece6 c arg1 arg2 g1 g2 17 _ t (k1_off1_eq t) _ _ _ (k1_off37_eq i t) _ x,
    fun x => piece6 c arg1 arg2 g1 g2 16 _ t (k1_off1_eq t) _ _ _ (k1_off35_eq i t) _ x,
    fun x => piece6 c arg1 arg2 g1 g2 15 _ t (k1_off1_eq t) _ _ _ (k1_off33_eq i t) _ x,
    fun x => piece6 c arg1 arg2 g1 g2 14 _ t (k1_off1_eq t) _ _ _ (k1_off31_eq i t) _ x,
    fun x => piece6 c arg1 arg2 g1 g2 13 _ t (k1_off1_eq t) _ _ _ (k1_off29_eq i t) _ x,
    fun x => piece6 c arg1 arg2 g1 g2 12 _ t (k1_off1_eq t) _ _ _ (k1_off27_eq i t) _ x,
    fun x => piece6 c arg1 arg2 g1 g2 11 _ t (k1_off1_eq t) _ _ _ (k1_off25_eq i t) _ x,
    fun x => piece6 c arg1 arg2 g1 g2 10 _ t (k1_off1_eq t) _ _ _ (k1_off23_eq i t) _ x,
    fun x => piece6 c arg1 arg2 g1 g2 9 _ t (k1_off1_eq t) _ _ _ (k1_off21_eq i t) _ x,
    fun x => piece6 c arg1 arg2 g1 g2 8 _ t (k1_off1_eq t) _ _ _ (k1_off19_eq i t) _ x,
    fun x => piece6 c arg1 arg2 g1 g2 7 _ t (k1_off1_eq t) _ _ _ (k1_off17_eq i t) _ x,
    fun x => piece6 c arg1 arg2 g1 g2 6 _ t (k1_off1_eq t) _ _ _ (k1_off15_eq i t) _ x,
    fun x => piece6 c arg1 arg2 g1 g2 5 _ t (k1_off1_eq t) _ _ _ (k1_off13_eq i t) _ x,
    fun x => piece6 c arg1 arg2 g1 g2 4 _ t (k1_off1_eq t) _ _ _ (k1_off11_eq i t) _ x,
    fun x => piece6 c arg1 arg2 g1 g2 3 _ t (k1_off1_eq t) _ _ _ (k1_off9_eq i t) _ x,
    fun x => piece6 c arg1 arg2 g1 g2 2 _ t (k1_off1_eq t) _ _ _ (k1_off7_eq i t) _ x,
    fun x => piece6 c arg1 arg2 g1 g2 1 _ t (k1_off1_eq t) _ _ _ (k1_off5_eq i t) _ x,
    fun x => piece6 c arg1 arg2 g1 g2 0 _ t (k1_off1_eq t) _ _ _ (k1_off3_eq i t) _ x,
    fun p hp => absurd hp List.not_mem_nil⟩

/-- They cover the trip's elements and no other. -/
theorem trip_scale_mem (y) : (∃ p ∈ (trip c i arg1 harg1 arg2 harg2 arg3 harg3 arg4 harg4 arg5 harg5 arg6 harg6 arg7 harg7 v9 v11 g1 g2 g7 t).2.2.1, y ∈ p.1.set) ↔ (y 1).val = (i 0).val % 8 ∧ tileOf (y 2) = t := by
  unfold trip
  simp only [List.exists_mem_cons_iff, List.not_mem_nil, false_and, exists_false, or_false]
  refine (show _ ↔ _ from (or_congr (row_mem 19 _ t (k1_off41_eq i t) _ y) (or_congr (row_mem 18 _ t (k1_off39_eq i t) _ y) (or_congr (row_mem 17 _ t (k1_off37_eq i t) _ y) (or_congr (row_mem 16 _ t (k1_off35_eq i t) _ y) (or_congr (row_mem 15 _ t (k1_off33_eq i t) _ y) (or_congr (row_mem 14 _ t (k1_off31_eq i t) _ y) (or_congr (row_mem 13 _ t (k1_off29_eq i t) _ y) (or_congr (row_mem 12 _ t (k1_off27_eq i t) _ y) (or_congr (row_mem 11 _ t (k1_off25_eq i t) _ y) (or_congr (row_mem 10 _ t (k1_off23_eq i t) _ y) (or_congr (row_mem 9 _ t (k1_off21_eq i t) _ y) (or_congr (row_mem 8 _ t (k1_off19_eq i t) _ y) (or_congr (row_mem 7 _ t (k1_off17_eq i t) _ y) (or_congr (row_mem 6 _ t (k1_off15_eq i t) _ y) (or_congr (row_mem 5 _ t (k1_off13_eq i t) _ y) (or_congr (row_mem 4 _ t (k1_off11_eq i t) _ y) (or_congr (row_mem 3 _ t (k1_off9_eq i t) _ y) (or_congr (row_mem 2 _ t (k1_off7_eq i t) _ y) (or_congr (row_mem 1 _ t (k1_off5_eq i t) _ y) (row_mem 0 _ t (k1_off3_eq i t) _ y))))))))))))))))))))).trans ⟨fun h => ?_, fun h => ?_⟩
  · rcases h with h | h | h | h | h | h | h | h | h | h | h | h | h | h | h | h | h | h | h | h <;> exact h.2
  · exact fin20_and (y 0) h

end

end Cert.Kernel.Clip

end
-- ==== Proof.KernelLoop.lean ====
/- The clip search's loop: its invariant, and the grid point's whole body. -/
module

public import proofs.«01_k».proof.Proof.KernelPieces

@[expose] public section

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole) (v9 : BitVec 32) (v11 : FVec F S128x128 .f32)

variable (g1 : Buf (Elt F) (arg1.view.loc (c : Thread nD τ))) (g2 : Buf (Elt F) (arg2.view.loc (c : Thread nD τ))) (g7 : Buf (Elt F) (arg7.view.loc (c : Thread nD τ)))

/-- What the trips before `k` stored into the loss block, newest first. -/
def done4 : ℕ → List (View.Piece (Elt F) S20x8x2048 .f32)
  | 0 => []
  | k + 1 => if h : k < k1_t1_loop.trips then (trip c i arg1 harg1 arg2 harg2 arg3 harg3 arg4 harg4 arg5 harg5 arg6 harg6 arg7 harg7 v9 v11 g1 g2 g7 ⟨k, h⟩).1 ++ done4 k else done4 k

/-- What the trips before `k` stored into the codes block, newest first. -/
def done5 : ℕ → List (View.Piece (Elt F) S1x20x64x2048 .i8)
  | 0 => []
  | k + 1 => if h : k < k1_t1_loop.trips then (trip c i arg1 harg1 arg2 harg2 arg3 harg3 arg4 harg4 arg5 harg5 arg6 harg6 arg7 harg7 v9 v11 g1 g2 g7 ⟨k, h⟩).2.1 ++ done5 k else done5 k

/-- What the trips before `k` stored into the scale block, newest first. -/
def done6 : ℕ → List (View.Piece (Elt F) S20x8x2048 .f32)
  | 0 => []
  | k + 1 => if h : k < k1_t1_loop.trips then (trip c i arg1 harg1 arg2 harg2 arg3 harg3 arg4 harg4 arg5 harg5 arg6 harg6 arg7 harg7 v9 v11 g1 g2 g7 ⟨k, h⟩).2.2.1 ++ done6 k else done6 k

set_option warn.classDefReducibility false in
/-- The loop's invariant: the three output blocks hold what the trips before `k` stored. -/
@[sl_loop] def loopInv (f4 : Buf (Elt F) (arg4.view.loc (c : Thread nD τ))) (f5 : Buf (Elt F) (arg5.view.loc (c : Thread nD τ)))
    (f6 : Buf (Elt F) (arg6.view.loc (c : Thread nD τ))) :
    LoopInvTy_k1_t1 (F := F) Unit ℕ (UU nD τ) ℕ 𝒱₀ c none Set.univ i arg1 harg1 arg2 harg2 arg3 harg3 arg4 harg4 arg5 harg5 arg6 harg6 arg7 harg7 v9 v11 where
  inv k _ := Trip c arg1 arg2 arg4 arg5 arg6 arg7 g1 g2 g7 (arg4.view.writes (Elt F) f4 (done4 c i arg1 harg1 arg2 harg2 arg3 harg3 arg4 harg4 arg5 harg5 arg6 harg6 arg7 harg7 v9 v11 g1 g2 g7 k))
    (arg5.view.writes (Elt F) f5 (done5 c i arg1 harg1 arg2 harg2 arg3 harg3 arg4 harg4 arg5 harg5 arg6 harg6 arg7 harg7 v9 v11 g1 g2 g7 k)) (arg6.view.writes (Elt F) f6 (done6 c i arg1 harg1 arg2 harg2 arg3 harg3 arg4 harg4 arg5 harg5 arg6 harg6 arg7 harg7 v9 v11 g1 g2 g7 k))
  step k _ := by
    rw [done4, done5, done6, dif_pos k.isLt, dif_pos k.isLt, dif_pos k.isLt, View.writes_append, View.writes_append, View.writes_append]
    exact (trip c i arg1 harg1 arg2 harg2 arg3 harg3 arg4 harg4 arg5 harg5 arg6 harg6 arg7 harg7 v9 v11 g1 g2 g7 k).2.2.2 _ _ _

/-! ### What the blocks hold after the trips before `k` -/

theorem done4_pieces : ∀ k, ∀ p ∈ done4 c i arg1 harg1 arg2 harg2 arg3 harg3 arg4 harg4 arg5 harg5 arg6 harg6 arg7 harg7 v9 v11 g1 g2 g7 k, ∀ x, p.2 x = lossG (arg1.view.read (Elt F) g1) (arg2.view.read (Elt F) g2) v11 (arg7.view.read (Elt F) g7) (p.1.emb x)
  | 0, p, hp => absurd hp List.not_mem_nil
  | k + 1, p, hp => by
    rw [done4] at hp
    split at hp
    · rcases List.mem_append.mp hp with h | h
      · exact trip_loss c i arg1 harg1 arg2 harg2 arg3 harg3 arg4 harg4 arg5 harg5 arg6 harg6 arg7 harg7 v9 v11 g1 g2 g7 _ p h
      · exact done4_pieces k p h
    · exact done4_pieces k p hp

theorem done4_mem (y) : ∀ k, k ≤ k1_t1_loop.trips → ((∃ p ∈ done4 c i arg1 harg1 arg2 harg2 arg3 harg3 arg4 harg4 arg5 harg5 arg6 harg6 arg7 harg7 v9 v11 g1 g2 g7 k, y ∈ p.1.set) ↔ (y 1).val = (i 0).val % 8 ∧ (tileOf (y 2)).val < k)
  | 0, _ => by simp only [done4, List.not_mem_nil, false_and, exists_false, Nat.not_lt_zero, and_false]
  | k + 1, hk => by
    have ih := done4_mem y k (by omega)
    have ht := trip_loss_mem c i arg1 harg1 arg2 harg2 arg3 harg3 arg4 harg4 arg5 harg5 arg6 harg6 arg7 harg7 v9 v11 g1 g2 g7 ⟨k, hk⟩ y
    rw [done4, dif_pos (show k < k1_t1_loop.trips from hk)]
    simp only [List.mem_append, or_and_right, exists_or]
    rw [ih, ht]
    have e : (tileOf (y 2) = (⟨k, hk⟩ : Fin k1_t1_loop.trips)) ↔ (tileOf (y 2)).val = k := Fin.ext_iff
    rw [e]
    constructor
    · intro h; omega
    · intro h; omega

/-- The loss block read at the loop's exit. -/
theorem done4_read (f : Buf (Elt F) (arg4.view.loc (c : Thread nD τ))) (y) :
    arg4.view.read (Elt F) (arg4.view.writes (Elt F) f (done4 c i arg1 harg1 arg2 harg2 arg3 harg3 arg4 harg4 arg5 harg5 arg6 harg6 arg7 harg7 v9 v11 g1 g2 g7 k1_t1_loop.trips)) y
      = if (y 1).val = (i 0).val % 8 then lossG (arg1.view.read (Elt F) g1) (arg2.view.read (Elt F) g2) v11 (arg7.view.read (Elt F) g7) y else arg4.view.read (Elt F) f y := by
  have hm := done4_mem c i arg1 harg1 arg2 harg2 arg3 harg3 arg4 harg4 arg5 harg5 arg6 harg6 arg7 harg7 v9 v11 g1 g2 g7 y _ le_rfl
  have h8 : (tileOf (y 2)).val < k1_t1_loop.trips := (tileOf (y 2)).isLt
  split
  next h => exact View.read_writes_apply_of_pieces _ _ _ _ (done4_pieces c i arg1 harg1 arg2 harg2 arg3 harg3 arg4 harg4 arg5 harg5 arg6 harg6 arg7 harg7 v9 v11 g1 g2 g7 _) y (hm.mpr ⟨h, h8⟩)
  next h => exact View.read_writes_apply_of_forall_not_mem _ _ y _ fun p hp hy => h (hm.mp ⟨p, hp, hy⟩).1

theorem done5_pieces : ∀ k, ∀ p ∈ done5 c i arg1 harg1 arg2 harg2 arg3 harg3 arg4 harg4 arg5 harg5 arg6 harg6 arg7 harg7 v9 v11 g1 g2 g7 k, ∀ x, p.2 x = codeG (arg1.view.read (Elt F) g1) (arg2.view.read (Elt F) g2) (p.1.emb x)
  | 0, p, hp => absurd hp List.not_mem_nil
  | k + 1, p, hp => by
    rw [done5] at hp
    split at hp
    · rcases List.mem_append.mp hp with h | h
      · exact trip_code c i arg1 harg1 arg2 harg2 arg3 harg3 arg4 harg4 arg5 harg5 arg6 harg6 arg7 harg7 v9 v11 g1 g2 g7 _ p h
      · exact done5_pieces k p h
    · exact done5_pieces k p hp

theorem done5_mem (y) : ∀ k, k ≤ k1_t1_loop.trips → ((∃ p ∈ done5 c i arg1 harg1 arg2 harg2 arg3 harg3 arg4 harg4 arg5 harg5 arg6 harg6 arg7 harg7 v9 v11 g1 g2 g7 k, y ∈ p.1.set) ↔ (tileOf (y 3)).val < k)
  | 0, _ => by simp only [done5, List.not_mem_nil, false_and, exists_false, Nat.not_lt_zero, and_false]
  | k + 1, hk => by
    have ih := done5_mem y k (by omega)
    have ht := trip_code_mem c i arg1 harg1 arg2 harg2 arg3 harg3 arg4 harg4 arg5 harg5 arg6 harg6 arg7 harg7 v9 v11 g1 g2 g7 ⟨k, hk⟩ y
    rw [done5, dif_pos (show k < k1_t1_loop.trips from hk)]
    simp only [List.mem_append, or_and_right, exists_or]
    rw [ih, ht]
    have e : (tileOf (y 3) = (⟨k, hk⟩ : Fin k1_t1_loop.trips)) ↔ (tileOf (y 3)).val = k := Fin.ext_iff
    rw [e]
    constructor
    · intro h; omega
    · intro h; omega

/-- The codes block read at the loop's exit. -/
theorem done5_read (f : Buf (Elt F) (arg5.view.loc (c : Thread nD τ))) (y) :
    arg5.view.read (Elt F) (arg5.view.writes (Elt F) f (done5 c i arg1 harg1 arg2 harg2 arg3 harg3 arg4 harg4 arg5 harg5 arg6 harg6 arg7 harg7 v9 v11 g1 g2 g7 k1_t1_loop.trips)) y
      = codeG (arg1.view.read (Elt F) g1) (arg2.view.read (Elt F) g2) y := by
  have hm := done5_mem c i arg1 harg1 arg2 harg2 arg3 harg3 arg4 harg4 arg5 harg5 arg6 harg6 arg7 harg7 v9 v11 g1 g2 g7 y _ le_rfl
  have h8 : (tileOf (y 3)).val < k1_t1_loop.trips := (tileOf (y 3)).isLt
  exact View.read_writes_apply_of_pieces _ _ _ _ (done5_pieces c i arg1 harg1 arg2 harg2 arg3 harg3 arg4 harg4 arg5 harg5 arg6 harg6 arg7 harg7 v9 v11 g1 g2 g7 _) y (hm.mpr h8)

theorem done6_pieces : ∀ k, ∀ p ∈ done6 c i arg1 harg1 arg2 harg2 arg3 harg3 arg4 harg4 arg5 harg5 arg6 harg6 arg7 harg7 v9 v11 g1 g2 g7 k, ∀ x, p.2 x = scaleG (arg1.view.read (Elt F) g1) (arg2.view.read (Elt F) g2) (p.1.emb x)
  | 0, p, hp => absurd hp List.not_mem_nil
  | k + 1, p, hp => by
    rw [done6] at hp
    split at hp
    · rcases List.mem_append.mp hp with h | h
      · exact trip_scale c i arg1 harg1 arg2 harg2 arg3 harg3 arg4 harg4 arg5 harg5 arg6 harg6 arg7 harg7 v9 v11 g1 g2 g7 _ p h
      · exact done6_pieces k p h
    · exact done6_pieces k p hp

theorem done6_mem (y) : ∀ k, k ≤ k1_t1_loop.trips → ((∃ p ∈ done6 c i arg1 harg1 arg2 harg2 arg3 harg3 arg4 harg4 arg5 harg5 arg6 harg6 arg7 harg7 v9 v11 g1 g2 g7 k, y ∈ p.1.set) ↔ (y 1).val = (i 0).val % 8 ∧ (tileOf (y 2)).val < k)
  | 0, _ => by simp only [done6, List.not_mem_nil, false_and, exists_false, Nat.not_lt_zero, and_false]
  | k + 1, hk => by
    have ih := done6_mem y k (by omega)
    have ht := trip_scale_mem c i arg1 harg1 arg2 harg2 arg3 harg3 arg4 harg4 arg5 harg5 arg6 harg6 arg7 harg7 v9 v11 g1 g2 g7 ⟨k, hk⟩ y
    rw [done6, dif_pos (show k < k1_t1_loop.trips from hk)]
    simp only [List.mem_append, or_and_right, exists_or]
    rw [ih, ht]
    have e : (tileOf (y 2) = (⟨k, hk⟩ : Fin k1_t1_loop.trips)) ↔ (tileOf (y 2)).val = k := Fin.ext_iff
    rw [e]
    constructor
    · intro h; omega
    · intro h; omega

/-- The scale block read at the loop's exit. -/
theorem done6_read (f : Buf (Elt F) (arg6.view.loc (c : Thread nD τ))) (y) :
    arg6.view.read (Elt F) (arg6.view.writes (Elt F) f (done6 c i arg1 harg1 arg2 harg2 arg3 harg3 arg4 harg4 arg5 harg5 arg6 harg6 arg7 harg7 v9 v11 g1 g2 g7 k1_t1_loop.trips)) y
      = if (y 1).val = (i 0).val % 8 then scaleG (arg1.view.read (Elt F) g1) (arg2.view.read (Elt F) g2) y else arg6.view.read (Elt F) f y := by
  have hm := done6_mem c i arg1 harg1 arg2 harg2 arg3 harg3 arg4 harg4 arg5 harg5 arg6 harg6 arg7 harg7 v9 v11 g1 g2 g7 y _ le_rfl
  have h8 : (tileOf (y 2)).val < k1_t1_loop.trips := (tileOf (y 2)).isLt
  split
  next h => exact View.read_writes_apply_of_pieces _ _ _ _ (done6_pieces c i arg1 harg1 arg2 harg2 arg3 harg3 arg4 harg4 arg5 harg5 arg6 harg6 arg7 harg7 v9 v11 g1 g2 g7 _) y (hm.mpr ⟨h, h8⟩)
  next h => exact View.read_writes_apply_of_forall_not_mem _ _ y _ fun p hp hy => h (hm.mp ⟨p, hp, hy⟩).1

end

end Cert.Kernel.Clip

end
-- ==== Proof.KernelBody.lean ====
/- A grid point's whole body: the scaled Gram matrices, then the loop. -/
module

public import proofs.«01_k».proof.Proof.KernelLoop

@[expose] public section

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)

/-- What a grid point touches. -/
abbrev Point (g1 : Buf (Elt F) (arg1.view.loc (c : Thread nD τ))) (g2 : Buf (Elt F) (arg2.view.loc (c : Thread nD τ)))
    (g3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) : sProp 𝕄 :=
  iprop(hold c arg1 g1 ∗ hold c arg2 g2 ∗ hold c arg3 g3 ∗ hold c arg4 f4 ∗ hold c arg5 f5 ∗ hold c arg6 f6 ∗ hold c arg7 f7)

/-- The body at a grid point: what it stores into the scaled Gram matrices' buffer is found by the run. -/
@[irreducible] def point (g1 : Buf (Elt F) (arg1.view.loc (c : Thread nD τ))) (g2 : Buf (Elt F) (arg2.view.loc (c : Thread nD τ)))
    (g3 : Buf (Elt F) (arg3.view.loc (c : Thread nD τ))) :
    Σ' (v9 : BitVec 32) (v11 : FVec F S128x128 .f32), {L7 : List (View.Piece (Elt F) S20x128x384 .bf16) //
      ∀ f4 f5 f6 f7, Point c arg1 arg2 arg3 arg4 arg5 arg6 arg7 g1 g2 g3 f4 f5 f6 f7
        ⊢ wp frame (wpE (defs₀ (F := F)) 𝒱₀ (c : Thread nD τ) none) Set.univ (cc1_clip_search (F := F) i arg1 harg1 arg2 harg2 arg3 harg3 arg4 harg4 arg5 harg5 arg6 harg6 arg7 harg7)
          (fun _ => Point c arg1 arg2 arg3 arg4 arg5 arg6 arg7 g1 g2 g3
            (arg4.view.writes (Elt F) f4 (done4 c i arg1 harg1 arg2 harg2 arg3 harg3 arg4 harg4 arg5 harg5 arg6 harg6 arg7 harg7 v9 v11 g1 g2 (arg7.view.writes (Elt F) arg7.view.junk L7) k1_t1_loop.trips))
            (arg5.view.writes (Elt F) f5 (done5 c i arg1 harg1 arg2 harg2 arg3 harg3 arg4 harg4 arg5 harg5 arg6 harg6 arg7 harg7 v9 v11 g1 g2 (arg7.view.writes (Elt F) arg7.view.junk L7) k1_t1_loop.trips))
            (arg6.view.writes (Elt F) f6 (done6 c i arg1 harg1 arg2 harg2 arg3 harg3 arg4 harg4 arg5 harg5 arg6 harg6 arg7 harg7 v9 v11 g1 g2 (arg7.view.writes (Elt F) arg7.view.junk L7) k1_t1_loop.trips))
            (arg7.view.writes (Elt F) arg7.view.junk L7))} := by
  refine ⟨?_, ?_, ?_, fun f4 f5 f6 f7 => ?run⟩
  case run =>
    rw [cc1_clip_search_eq_skeleton]; unfold cc1_clip_search_skel
    iintro ⟨H1, H2, H3, H4, H5, H6, H7⟩
    sl_exec
    sl_step
    sl_close

end

end Cert.Kernel.Clip

end
-- ==== Proof.KernelGramRegion.lean ====
/- The Gram matrices: the first call's body at a grid point, and the contents its pipeline names. -/
module

public import proofs.«01_k».proof.Proof.KernelBody
public import proofs.«01_k».proof.Proof.Gen.Kernel.Regions
public import proofs.«01_k».proof.Proof.Gen.Kernel.Points
public import Idealize.ShloMosaic.Lib.Pipeline.FrameBody
public import Idealize.ShloMosaic.Lib.VecWindow

@[expose] public section

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

/-- The Gram body on whole buffers: the block of `x` and the scales stay, the third buffer ends at their Gram matrix. -/
theorem sound_gram (c : Dev nD) (i : grid0.Coords) (arg1 : Memref sig .tc .vmem S256x128 .fp8e4m3) (harg1 : arg1.IsWhole) (arg2 : Memref sig .tc .vmem S256x1 .f32) (harg2 : arg2.IsWhole) (arg3 : Memref sig .tc .vmem S1x128x128 .f32) (harg3 : arg3.IsWhole)
    (x0 : Vec F S256x128 .fp8e4m3) (x1 : Vec F S256x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) 𝒱₀ c none) Set.univ (cc0_gram i arg1 harg1 arg2 harg2 arg3 harg3) K := by
  simp only [cc0_gram_eq_skeleton]; unfold cc0_gram_skel
  unfold owns
  iintro ⟨⟨%f0, %hf0, H0⟩, ⟨%f1, %hf1, H1⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  refine (View.read_writes_full _ _ _ _ _).trans ?_
  exact congrArg₂ k0_pay1 (View.readAt_full _ _ _) (View.readAt_full _ _ _)

section
variable (W : Dev nD → Valuation τ sig (Elt F))

/-- Window `w`'s block at point `t` of the arrays at `W`. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the first call's pipeline holds: its inputs' blocks, and the Gram matrix of the point. -/
def dat0 (c : Dev nD) : Dat τ (Elt F) Unit ℕ (UU nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => k0_pay1 (iblk0 W c 0 t) (iblk0 W c 1 t)
  Φ _ := Pipeline.scopedRest spec0 c
  q _ := fullShare
  owed _ := 0

theorem dat0_A (c : Dev nD) (w : Fin cfg0.W) : (dat0 W c).A w = W c (Proc.devRef .tc (Pipeline.arrRef spec0 w)) := by dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = k0_pay1 (iblk0 W c 0 t) (iblk0 W c 1 t) := by dsimp only [dat0]

theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)

theorem defs₀_row0 (t : Fin cfg0.N) : defs₀ (F := F) .tc cfg0.body (cfg0.bodyArgs t (cfg0.slots t)) = bodyAt0 t := by
  unfold defs₀; rw [Defs.onTc_tc]

/-- The first call's body obligation. -/
theorem body_obligation0 (c : Dev nD) : BodyObligation (dat0 W c) (defs₀ (F := F)) 𝒱₀ () Set.univ := fun t => by
  rw [bigSep_W0, bigSep_W0, defs₀_row0]
  refine triple_restated (P := iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))))
    (Q := fun _ => iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))) ?_ rfl .rfl fun _ => .rfl
  unfold bodyAt0
  simp only [before0_0, before0_1]
  rw [show (dat0 W c).Φ t.succ = (dat0 W c).Φ t.castSucc from rfl,
    show (dat0 W c).owesAt () t.succ = (dat0 W c).owesAt () t.castSucc from rfl, after0_0, after0_1, after0_2]
  iintro ⟨HΦ, Ho, ⟨%d0, H0⟩, ⟨%d1, H1⟩, ⟨%d2, H2⟩⟩
  iapply (sound_gram c _ _ _ _ _ _ _ (iblk0 W c 0 t) (iblk0 W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Clip

end
-- ==== Proof.KernelGram.lean ====
/- The scaled Gram matrices a grid point computes, as one function of its blocks. -/
module

public import proofs.«01_k».proof.Proof.KernelBody

@[expose] public section

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Part `j` of the Gram block scaled by ratio `r`: its leading part, what that leaves, and what both leave. -/
def partG (Gm : Vec F S1x128x128 .f32) (r : Elt F .f32) (j : Fin 3) : FVec F S1x128x128 .bf16 :=
  match j with
  | 0 => k1_pay152 Gm r
  | 1 => k1_pay153 Gm r
  | 2 => k1_pay154 Gm r

/-- The part that column `o` of the three side by side is of. -/
def partOf (o : Fin 384) : Fin 3 := ⟨o.val / 128, by omega⟩

/-- Its place in the part. -/
def inPart (o : Fin 384) : Fin 128 := ⟨o.val % 128, by omega⟩

/-- The scaled Gram matrices: ratio `k`, row, and the three parts side by side. -/
def gramG (R : Vec F S20 .f32) (Gm : Vec F S1x128x128 .f32) : Vec F S20x128x384 .bf16 := fun y =>
  partG Gm (ratioAt R (y 0)) (partOf (y 2)) (ix3 0 (y 1) (inPart (y 2)))

theorem gram_emb (k : Fin 20) (j : Fin 3) {o : ℕ} (ho : o = 128 * j.val) (inb) (x : (Rect.unit (s := S20x128x384) ![k.val, 0, o] S1x128x128.size inb).shape.Idx) :
    (Rect.unit (s := S20x128x384) ![k.val, 0, o] S1x128x128.size inb).emb x 0 = k ∧ partOf ((Rect.unit (s := S20x128x384) ![k.val, 0, o] S1x128x128.size inb).emb x 2) = j ∧
      ix3 (n0 := 1) (n1 := 128) 0 ((Rect.unit (s := S20x128x384) ![k.val, 0, o] S1x128x128.size inb).emb x 1) (inPart ((Rect.unit (s := S20x128x384) ![k.val, 0, o] S1x128x128.size inb).emb x 2)) = x := by
  subst ho
  have h0 : (x 0).val < 1 := (x 0).isLt
  have h2 : (x 2).val < 128 := (x 2).isLt
  refine ⟨Fin.ext ?_, Fin.ext ?_, funext fun a => Fin.ext ?_⟩
  · show k.val + 1 * (x 0).val = k.val; omega
  · show (128 * j.val + 1 * (x 2).val) / 128 = j.val; omega
  · match a with
    | ⟨0, _⟩ => show 0 = (x 0).val; omega
    | ⟨1, _⟩ => show 0 + 1 * (x 1).val = (x 1).val; omega
    | ⟨2, _⟩ => show (128 * j.val + 1 * (x 2).val) % 128 = (x 2).val; omega

theorem gram_mem (k : Fin 20) (j : Fin 3) (inb) (y : S20x128x384.Idx) :
    y ∈ (Rect.unit (s := S20x128x384) ![k.val, 0, 128 * j.val] S1x128x128.size inb).set ↔ y 0 = k ∧ partOf (y 2) = j := by
  rw [Rect.mem_set_unit]
  constructor
  · intro h
    have h0 : k.val ≤ (y 0).val ∧ (y 0).val < k.val + 1 := h 0
    have h2 : 128 * j.val ≤ (y 2).val ∧ (y 2).val < 128 * j.val + 128 := h 2
    exact ⟨Fin.ext (by omega), Fin.ext (show (y 2).val / 128 = j.val by omega)⟩
  · rintro ⟨h0, h2⟩ a
    have h0 : (y 0).val = k.val := congrArg Fin.val h0
    have h2 : (y 2).val / 128 = j.val := congrArg Fin.val h2
    have h1 : (y 1).val < 128 := (y 1).isLt
    match a with
    | ⟨0, _⟩ => show k.val ≤ (y 0).val ∧ (y 0).val < k.val + 1; omega
    | ⟨1, _⟩ => show 0 ≤ (y 1).val ∧ (y 1).val < 0 + 128; omega
    | ⟨2, _⟩ => show 128 * j.val ≤ (y 2).val ∧ (y 2).val < 128 * j.val + 128; omega

set_option synthInstance.maxHeartbeats 1000000 in
set_option synthInstance.maxSize 4000 in
/-- Every part of every candidate is one of the sixty. -/
theorem sixty : ∀ (k : Fin 20) (j : Fin 3), (k = 19 ∧ j = 2) ∨ (k = 19 ∧ j = 1) ∨ (k = 19 ∧ j = 0) ∨ (k = 18 ∧ j = 2) ∨ (k = 18 ∧ j = 1) ∨ (k = 18 ∧ j = 0) ∨ (k = 17 ∧ j = 2) ∨ (k = 17 ∧ j = 1) ∨ (k = 17 ∧ j = 0) ∨ (k = 16 ∧ j = 2) ∨ (k = 16 ∧ j = 1) ∨ (k = 16 ∧ j = 0) ∨ (k = 15 ∧ j = 2) ∨ (k = 15 ∧ j = 1) ∨ (k = 15 ∧ j = 0) ∨ (k = 14 ∧ j = 2) ∨ (k = 14 ∧ j = 1) ∨ (k = 14 ∧ j = 0) ∨ (k = 13 ∧ j = 2) ∨ (k = 13 ∧ j = 1) ∨ (k = 13 ∧ j = 0) ∨ (k = 12 ∧ j = 2) ∨ (k = 12 ∧ j = 1) ∨ (k = 12 ∧ j = 0) ∨ (k = 11 ∧ j = 2) ∨ (k = 11 ∧ j = 1) ∨ (k = 11 ∧ j = 0) ∨ (k = 10 ∧ j = 2) ∨ (k = 10 ∧ j = 1) ∨ (k = 10 ∧ j = 0) ∨ (k = 9 ∧ j = 2) ∨ (k = 9 ∧ j = 1) ∨ (k = 9 ∧ j = 0) ∨ (k = 8 ∧ j = 2) ∨ (k = 8 ∧ j = 1) ∨ (k = 8 ∧ j = 0) ∨ (k = 7 ∧ j = 2) ∨ (k = 7 ∧ j = 1) ∨ (k = 7 ∧ j = 0) ∨ (k = 6 ∧ j = 2) ∨ (k = 6 ∧ j = 1) ∨ (k = 6 ∧ j = 0) ∨ (k = 5 ∧ j = 2) ∨ (k = 5 ∧ j = 1) ∨ (k = 5 ∧ j = 0) ∨ (k = 4 ∧ j = 2) ∨ (k = 4 ∧ j = 1) ∨ (k = 4 ∧ j = 0) ∨ (k = 3 ∧ j = 2) ∨ (k = 3 ∧ j = 1) ∨ (k = 3 ∧ j = 0) ∨ (k = 2 ∧ j = 2) ∨ (k = 2 ∧ j = 1) ∨ (k = 2 ∧ j = 0) ∨ (k = 1 ∧ j = 2) ∨ (k = 1 ∧ j = 1) ∨ (k = 1 ∧ j = 0) ∨ (k = 0 ∧ j = 2) ∨ (k = 0 ∧ j = 1) ∨ (k = 0 ∧ j = 0) := by decide +kernel

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)

variable (g1 : Buf (Elt F) (arg1.view.loc (c : Thread nD τ))) (g2 : Buf (Elt F) (arg2.view.loc (c : Thread nD τ))) (g3 : Buf (Elt F) (arg3.view.loc (c : Thread nD τ)))

theorem piece7_0 (k : Fin 20) (inbg) (inbr) (xr) (inb) (x : (Rect.unit (s := S20x128x384) ![k.val, 0, 0] S1x128x128.size inb).shape.Idx) :
    k1_pay152 (arg3.view.readAt (Elt F) (Rect.unit (s := S1x128x128) ![0, 0, 0] S1x128x128.size inbg).toLoadRect g3)
        (arg1.view.readAt (Elt F) (Rect.unit (s := S20) ![k.val] S1.size inbr).toLoadRect g1 xr) x
      = gramG (arg1.view.read (Elt F) g1) (arg3.view.read (Elt F) g3) ((Rect.unit (s := S20x128x384) ![k.val, 0, 0] S1x128x128.size inb).emb x) := by
  obtain ⟨e0, e1, e2⟩ := gram_emb k 0 (o := 0) rfl inb x
  rw [View.readAt_full, read_ratio]
  unfold gramG
  rw [e0, e1]
  exact congrArg (partG _ _ 0) e2.symm

theorem piece7_1 (k : Fin 20) (inbg) (inbr) (xr) (inb) (x : (Rect.unit (s := S20x128x384) ![k.val, 0, 128] S1x128x128.size inb).shape.Idx) :
    k1_pay153 (arg3.view.readAt (Elt F) (Rect.unit (s := S1x128x128) ![0, 0, 0] S1x128x128.size inbg).toLoadRect g3)
        (arg1.view.readAt (Elt F) (Rect.unit (s := S20) ![k.val] S1.size inbr).toLoadRect g1 xr) x
      = gramG (arg1.view.read (Elt F) g1) (arg3.view.read (Elt F) g3) ((Rect.unit (s := S20x128x384) ![k.val, 0, 128] S1x128x128.size inb).emb x) := by
  obtain ⟨e0, e1, e2⟩ := gram_emb k 1 (o := 128) rfl inb x
  rw [View.readAt_full, read_ratio]
  unfold gramG
  rw [e0, e1]
  exact congrArg (partG _ _ 1) e2.symm

theorem piece7_2 (k : Fin 20) (inbg) (inbr) (xr) (inb) (x : (Rect.unit (s := S20x128x384) ![k.val, 0, 256] S1x128x128.size inb).shape.Idx) :
    k1_pay154 (arg3.view.readAt (Elt F) (Rect.unit (s := S1x128x128) ![0, 0, 0] S1x128x128.size inbg).toLoadRect g3)
        (arg1.view.readAt (Elt F) (Rect.unit (s := S20) ![k.val] S1.size inbr).toLoadRect g1 xr) x
      = gramG (arg1.view.read (Elt F) g1) (arg3.view.read (Elt F) g3) ((Rect.unit (s := S20x128x384) ![k.val, 0, 256] S1x128x128.size inb).emb x) := by
  obtain ⟨e0, e1, e2⟩ := gram_emb k 2 (o := 256) rfl inb x
  rw [View.readAt_full, read_ratio]
  unfold gramG
  rw [e0, e1]
  exact congrArg (partG _ _ 2) e2.symm

set_option maxHeartbeats 1000000 in
/-- The stored pieces all read the one function. -/
theorem point_pieces : ∀ p ∈ (point c i arg1 harg1 arg2 harg2 arg3 harg3 arg4 harg4 arg5 harg5 arg6 harg6 arg7 harg7 g1 g2 g3).2.2.1, ∀ x, p.2 x = gramG (arg1.view.read (Elt F) g1) (arg3.view.read (Elt F) g3) (p.1.emb x) := by
  unfold point
  simp only [point.sl.H7_60, List.forall_mem_cons]
  exact ⟨fun x => piece7_2 c arg1 arg3 g1 g3 19 _ _ _ _ x,
    fun x => piece7_1 c arg1 arg3 g1 g3 19 _ _ _ _ x,
    fun x => piece7_0 c arg1 arg3 g1 g3 19 _ _ _ _ x,
    fun x => piece7_2 c arg1 arg3 g1 g3 18 _ _ _ _ x,
    fun x => piece7_1 c arg1 arg3 g1 g3 18 _ _ _ _ x,
    fun x => piece7_0 c arg1 arg3 g1 g3 18 _ _ _ _ x,
    fun x => piece7_2 c arg1 arg3 g1 g3 17 _ _ _ _ x,
    fun x => piece7_1 c arg1 arg3 g1 g3 17 _ _ _ _ x,
    fun x => piece7_0 c arg1 arg3 g1 g3 17 _ _ _ _ x,
    fun x => piece7_2 c arg1 arg3 g1 g3 16 _ _ _ _ x,
    fun x => piece7_1 c arg1 arg3 g1 g3 16 _ _ _ _ x,
    fun x => piece7_0 c arg1 arg3 g1 g3 16 _ _ _ _ x,
    fun x => piece7_2 c arg1 arg3 g1 g3 15 _ _ _ _ x,
    fun x => piece7_1 c arg1 arg3 g1 g3 15 _ _ _ _ x,
    fun x => piece7_0 c arg1 arg3 g1 g3 15 _ _ _ _ x,
    fun x => piece7_2 c arg1 arg3 g1 g3 14 _ _ _ _ x,
    fun x => piece7_1 c arg1 arg3 g1 g3 14 _ _ _ _ x,
    fun x => piece7_0 c arg1 arg3 g1 g3 14 _ _ _ _ x,
    fun x => piece7_2 c arg1 arg3 g1 g3 13 _ _ _ _ x,
    fun x => piece7_1 c arg1 arg3 g1 g3 13 _ _ _ _ x,
    fun x => piece7_0 c arg1 arg3 g1 g3 13 _ _ _ _ x,
    fun x => piece7_2 c arg1 arg3 g1 g3 12 _ _ _ _ x,
    fun x => piece7_1 c arg1 arg3 g1 g3 12 _ _ _ _ x,
    fun x => piece7_0 c arg1 arg3 g1 g3 12 _ _ _ _ x,
    fun x => piece7_2 c arg1 arg3 g1 g3 11 _ _ _ _ x,
    fun x => piece7_1 c arg1 arg3 g1 g3 11 _ _ _ _ x,
    fun x => piece7_0 c arg1 arg3 g1 g3 11 _ _ _ _ x,
    fun x => piece7_2 c arg1 arg3 g1 g3 10 _ _ _ _ x,
    fun x => piece7_1 c arg1 arg3 g1 g3 10 _ _ _ _ x,
    fun x => piece7_0 c arg1 arg3 g1 g3 10 _ _ _ _ x,
    fun x => piece7_2 c arg1 arg3 g1 g3 9 _ _ _ _ x,
    fun x => piece7_1 c arg1 arg3 g1 g3 9 _ _ _ _ x,
    fun x => piece7_0 c arg1 arg3 g1 g3 9 _ _ _ _ x,
    fun x => piece7_2 c arg1 arg3 g1 g3 8 _ _ _ _ x,
    fun x => piece7_1 c arg1 arg3 g1 g3 8 _ _ _ _ x,
    fun x => piece7_0 c arg1 arg3 g1 g3 8 _ _ _ _ x,
    fun x => piece7_2 c arg1 arg3 g1 g3 7 _ _ _ _ x,
    fun x => piece7_1 c arg1 arg3 g1 g3 7 _ _ _ _ x,
    fun x => piece7_0 c arg1 arg3 g1 g3 7 _ _ _ _ x,
    fun x => piece7_2 c arg1 arg3 g1 g3 6 _ _ _ _ x,
    fun x => piece7_1 c arg1 arg3 g1 g3 6 _ _ _ _ x,
    fun x => piece7_0 c arg1 arg3 g1 g3 6 _ _ _ _ x,
    fun x => piece7_2 c arg1 arg3 g1 g3 5 _ _ _ _ x,
    fun x => piece7_1 c arg1 arg3 g1 g3 5 _ _ _ _ x,
    fun x => piece7_0 c arg1 arg3 g1 g3 5 _ _ _ _ x,
    fun x => piece7_2 c arg1 arg3 g1 g3 4 _ _ _ _ x,
    fun x => piece7_1 c arg1 arg3 g1 g3 4 _ _ _ _ x,
    fun x => piece7_0 c arg1 arg3 g1 g3 4 _ _ _ _ x,
    fun x => piece7_2 c arg1 arg3 g1 g3 3 _ _ _ _ x,
    fun x => piece7_1 c arg1 arg3 g1 g3 3 _ _ _ _ x,
    fun x => piece7_0 c arg1 arg3 g1 g3 3 _ _ _ _ x,
    fun x => piece7_2 c arg1 arg3 g1 g3 2 _ _ _ _ x,
    fun x => piece7_1 c arg1 arg3 g1 g3 2 _ _ _ _ x,
    fun x => piece7_0 c arg1 arg3 g1 g3 2 _ _ _ _ x,
    fun x => piece7_2 c arg1 arg3 g1 g3 1 _ _ _ _ x,
    fun x => piece7_1 c arg1 arg3 g1 g3 1 _ _ _ _ x,
    fun x => piece7_0 c arg1 arg3 g1 g3 1 _ _ _ _ x,
    fun x => piece7_2 c arg1 arg3 g1 g3 0 _ _ _ _ x,
    fun x => piece7_1 c arg1 arg3 g1 g3 0 _ _ _ _ x,
    fun x => piece7_0 c arg1 arg3 g1 g3 0 _ _ _ _ x,
    fun p hp => absurd hp List.not_mem_nil⟩

set_option maxHeartbeats 1000000 in
/-- They cover the whole buffer. -/
theorem point_cover (y) : ∃ p ∈ (point c i arg1 harg1 arg2 harg2 arg3 harg3 arg4 harg4 arg5 harg5 arg6 harg6 arg7 harg7 g1 g2 g3).2.2.1, y ∈ p.1.set := by
  unfold point
  simp only [point.sl.H7_60, List.exists_mem_cons_iff, List.not_mem_nil, false_and, exists_false, or_false]
  refine (show _ ↔ _ from (or_congr (gram_mem 19 2 _ y) (or_congr (gram_mem 19 1 _ y) (or_congr (gram_mem 19 0 _ y) (or_congr (gram_mem 18 2 _ y) (or_congr (gram_mem 18 1 _ y) (or_congr (gram_mem 18 0 _ y) (or_congr (gram_mem 17 2 _ y) (or_congr (gram_mem 17 1 _ y) (or_congr (gram_mem 17 0 _ y) (or_congr (gram_mem 16 2 _ y) (or_congr (gram_mem 16 1 _ y) (or_congr (gram_mem 16 0 _ y) (or_congr (gram_mem 15 2 _ y) (or_congr (gram_mem 15 1 _ y) (or_congr (gram_mem 15 0 _ y) (or_congr (gram_mem 14 2 _ y) (or_congr (gram_mem 14 1 _ y) (or_congr (gram_mem 14 0 _ y) (or_congr (gram_mem 13 2 _ y) (or_congr (gram_mem 13 1 _ y) (or_congr (gram_mem 13 0 _ y) (or_congr (gram_mem 12 2 _ y) (or_congr (gram_mem 12 1 _ y) (or_congr (gram_mem 12 0 _ y) (or_congr (gram_mem 11 2 _ y) (or_congr (gram_mem 11 1 _ y) (or_congr (gram_mem 11 0 _ y) (or_congr (gram_mem 10 2 _ y) (or_congr (gram_mem 10 1 _ y) (or_congr (gram_mem 10 0 _ y) (or_congr (gram_mem 9 2 _ y) (or_congr (gram_mem 9 1 _ y) (or_congr (gram_mem 9 0 _ y) (or_congr (gram_mem 8 2 _ y) (or_congr (gram_mem 8 1 _ y) (or_congr (gram_mem 8 0 _ y) (or_congr (gram_mem 7 2 _ y) (or_congr (gram_mem 7 1 _ y) (or_congr (gram_mem 7 0 _ y) (or_congr (gram_mem 6 2 _ y) (or_congr (gram_mem 6 1 _ y) (or_congr (gram_mem 6 0 _ y) (or_congr (gram_mem 5 2 _ y) (or_congr (gram_mem 5 1 _ y) (or_congr (gram_mem 5 0 _ y) (or_congr (gram_mem 4 2 _ y) (or_congr (gram_mem 4 1 _ y) (or_congr (gram_mem 4 0 _ y) (or_congr (gram_mem 3 2 _ y) (or_congr (gram_mem 3 1 _ y) (or_congr (gram_mem 3 0 _ y) (or_congr (gram_mem 2 2 _ y) (or_congr (gram_mem 2 1 _ y) (or_congr (gram_mem 2 0 _ y) (or_congr (gram_mem 1 2 _ y) (or_congr (gram_mem 1 1 _ y) (or_congr (gram_mem 1 0 _ y) (or_congr (gram_mem 0 2 _ y) (or_congr (gram_mem 0 1 _ y) (gram_mem 0 0 _ y))))))))))))))))))))))))))))))))))))))))))))))))))))))))))))).mpr ?_
  exact sixty (y 0) (partOf (y 2))

/-- The scaled Gram matrices' buffer, read. -/
theorem point_gram : arg7.view.read (Elt F) (arg7.view.writes (Elt F) arg7.view.junk (point c i arg1 harg1 arg2 harg2 arg3 harg3 arg4 harg4 arg5 harg5 arg6 harg6 arg7 harg7 g1 g2 g3).2.2.1)
    = gramG (arg1.view.read (Elt F) g1) (arg3.view.read (Elt F) g3) :=
  funext fun y => View.read_writes_apply_of_pieces _ _ _ _ (point_pieces c i arg1 harg1 arg2 harg2 arg3 harg3 arg4 harg4 arg5 harg5 arg6 harg6 arg7 harg7 g1 g2 g3) y (point_cover c i arg1 harg1 arg2 harg2 arg3 harg3 arg4 harg4 arg5 harg5 arg6 harg6 arg7 harg7 g1 g2 g3 y)

theorem point_v11 : (point c i arg1 harg1 arg2 harg2 arg3 harg3 arg4 harg4 arg5 harg5 arg6 harg6 arg7 harg7 g1 g2 g3).2.1 = k1_pay147 (arg3.view.read (Elt F) g3) := by
  unfold point
  exact congrArg k1_pay147 (View.readAt_full arg3.view g3 _)

end

end Cert.Kernel.Clip

end
-- ==== Proof.KernelClipRegion.lean ====
/- The clip search: the second call's body at a grid point, and the contents its pipeline names. -/
module

public import proofs.«01_k».proof.Proof.KernelGram
public import proofs.«01_k».proof.Proof.Gen.Kernel.Regions
public import proofs.«01_k».proof.Proof.Gen.Kernel.Points
public import Idealize.ShloMosaic.Lib.Pipeline.FrameBody
public import Idealize.ShloMosaic.Lib.Pipeline.DatRel
public import Idealize.ShloMosaic.Lib.VecWindow

@[expose] public section

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UU nD τ) ℕ

/-- The loss block after a grid point: its own row is written, the others stay. -/
def lossRow (x1 : Vec F S20 .f32) (x2 : Vec F S2048x128 .bf16) (x3 : Vec F S1x128x128 .f32) (r : ℕ) (Y : Vec F S20x8x2048 .f32) : Vec F S20x8x2048 .f32 :=
  fun y => if (y 1).val = r then lossG x1 x2 (k1_pay147 x3) (gramG x1 x3) y else Y y

/-- The scale block after a grid point. -/
def scaleRow (x1 : Vec F S20 .f32) (x2 : Vec F S2048x128 .bf16) (r : ℕ) (Y : Vec F S20x8x2048 .f32) : Vec F S20x8x2048 .f32 :=
  fun y => if (y 1).val = r then scaleG x1 x2 y else Y y

/-- The clip search's body on whole buffers. -/
theorem sound_clip (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)
    (x1 : Vec F S20 .f32) (x2 : Vec F S2048x128 .bf16) (x3 : Vec F S1x128x128 .f32) (Y4 Y6 : Vec F S20x8x2048 .f32) :
    (iprop(owns (c : Thread nD τ) arg1 fullShare x1 ∗ owns (c : Thread nD τ) arg2 fullShare x2 ∗ owns (c : Thread nD τ) arg3 fullShare x3
        ∗ owns (c : Thread nD τ) arg4 fullShare Y4 ∗ (∃ d, owns (c : Thread nD τ) arg5 fullShare d) ∗ owns (c : Thread nD τ) arg6 fullShare Y6
        ∗ (∃ f7, hold c arg7 f7)) : sProp 𝕄)
      ⊢ wp frame (wpE (defs₀ (F := F)) 𝒱₀ c none) Set.univ (cc1_clip_search i arg1 harg1 arg2 harg2 arg3 harg3 arg4 harg4 arg5 harg5 arg6 harg6 arg7 harg7)
        (fun _ => iprop(owns (c : Thread nD τ) arg1 fullShare x1 ∗ owns (c : Thread nD τ) arg2 fullShare x2 ∗ owns (c : Thread nD τ) arg3 fullShare x3
        ∗ owns (c : Thread nD τ) arg4 fullShare (lossRow x1 x2 x3 ((i 0).val % 8) Y4) ∗ owns (c : Thread nD τ) arg5 fullShare (codeG x1 x2)
        ∗ owns (c : Thread nD τ) arg6 fullShare (scaleRow x1 x2 ((i 0).val % 8) Y6) ∗ (∃ f7, hold c arg7 f7))) := by
  unfold owns
  iintro ⟨⟨%g1, %h1, H1⟩, ⟨%g2, %h2, H2⟩, ⟨%g3, %h3, H3⟩, ⟨%f4, %h4, H4⟩, ⟨%d5, %f5, -, H5⟩, ⟨%f6, %h6, H6⟩, ⟨%f7, H7⟩⟩
  subst h1 h2 h3 h4 h6
  have hpost := (point c i arg1 harg1 arg2 harg2 arg3 harg3 arg4 harg4 arg5 harg5 arg6 harg6 arg7 harg7 g1 g2 g3).2.2.2 f4 f5 f6 f7
  iapply (hpost.trans (wp_mono _ _ _ fun _ => ?_))
  rotate_left
  · isplitl [H1]; · iexact H1
    isplitl [H2]; · iexact H2
    isplitl [H3]; · iexact H3
    isplitl [H4]; · iexact H4
    isplitl [H5]; · iexact H5
    isplitl [H6]; · iexact H6
    iexact H7
  · iintro ⟨H1, H2, H3, H4, H5, H6, H7⟩
    isplitl [H1]
    · iexists g1; isplitr; · ipureintro; rfl
      iexact H1
    isplitl [H2]
    · iexists g2; isplitr; · ipureintro; rfl
      iexact H2
    isplitl [H3]
    · iexists g3; isplitr; · ipureintro; rfl
      iexact H3
    isplitl [H4]
    · iexists _; isplitr
      swap; · iexact H4
      ipureintro
      funext y
      rw [done4_read, point_gram, point_v11]; rfl
    isplitl [H5]
    · iexists _; isplitr
      swap; · iexact H5
      ipureintro
      funext y
      rw [done5_read]
    isplitl [H6]
    · iexists _; isplitr
      swap; · iexact H6
      ipureintro
      funext y
      rw [done6_read]; rfl
    iexists _; iexact H7

theorem sound_clipK (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)
    (x1 : Vec F S20 .f32) (x2 : Vec F S2048x128 .bf16) (x3 : Vec F S1x128x128 .f32) (Y4 Y6 : Vec F S20x8x2048 .f32) (K : PUnit → sProp 𝕄) :
    (iprop(iprop(owns (c : Thread nD τ) arg1 fullShare x1 ∗ owns (c : Thread nD τ) arg2 fullShare x2 ∗ owns (c : Thread nD τ) arg3 fullShare x3
        ∗ owns (c : Thread nD τ) arg4 fullShare Y4 ∗ (∃ d, owns (c : Thread nD τ) arg5 fullShare d) ∗ owns (c : Thread nD τ) arg6 fullShare Y6
        ∗ (∃ f7, hold c arg7 f7)) ∗ (iprop(owns (c : Thread nD τ) arg1 fullShare x1 ∗ owns (c : Thread nD τ) arg2 fullShare x2 ∗ owns (c : Thread nD τ) arg3 fullShare x3
        ∗ owns (c : Thread nD τ) arg4 fullShare (lossRow x1 x2 x3 ((i 0).val % 8) Y4) ∗ owns (c : Thread nD τ) arg5 fullShare (codeG x1 x2)
        ∗ owns (c : Thread nD τ) arg6 fullShare (scaleRow x1 x2 ((i 0).val % 8) Y6) ∗ (∃ f7, hold c arg7 f7)) -∗ K ⟨⟩)) : sProp 𝕄)
      ⊢ wp frame (wpE (defs₀ (F := F)) 𝒱₀ c none) Set.univ (cc1_clip_search i arg1 harg1 arg2 harg2 arg3 harg3 arg4 harg4 arg5 harg5 arg6 harg6 arg7 harg7) K :=
  (sep_mono (sound_clip c i arg1 harg1 arg2 harg2 arg3 harg3 arg4 harg4 arg5 harg5 arg6 harg6 arg7 harg7 x1 x2 x3 Y4 Y6) .rfl).trans ((wp_frame_r _ _ _).trans (wp_mono _ _ _ fun _ => by
    iintro ⟨H, Hk⟩; iapply Hk; iexact H))

/-- A whole buffer held through its memref is the buffer held. -/
theorem hold_whole (c : Dev nD) (b : Ref sig .tc) (f : Buf (Elt F) ((c : Thread nD τ).loc b)) :
    (hold c (Memref.whole b) f : sProp 𝕄) = (((c : Thread nD τ).loc b) ↦{fullShare} f) := by
  unfold hold; simp only [Memref.view_whole, View.set_whole]

theorem coords1 (t : Fin cfg1.N) : (grid1.coords t 0).val = t.val :=
  (by decide +kernel : ∀ t : Fin grid1.N, (grid1.coords t 0).val = t.val) t

/-- The grid point that writes row `r` of the block `t` lies in. -/
def rowPt (t : Fin cfg1.N) (r : Fin 8) : Fin cfg1.N :=
  ⟨8 * (t.val / 8) + r.val, by have h : t.val < 56 := N_1 ▸ t.isLt; have : cfg1.N = 56 := N_1; omega⟩

/-- The grid point before. -/
def prevPt (t : Fin cfg1.N) : Fin cfg1.N := ⟨t.val - 1, Nat.lt_of_le_of_lt (Nat.sub_le _ _) t.isLt⟩

theorem rowPt_self (t : Fin cfg1.N) (r : Fin 8) (h : r.val = t.val % 8) : rowPt t r = t := Fin.ext (by unfold rowPt; dsimp only; omega)

section
variable (W : Dev nD → Valuation τ sig (Elt F))

/-- Window `w`'s block at point `t` of the arrays at `W`. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The loss block that `t` lies in, every row at what its own point writes. -/
def lossAll (c : Dev nD) (t : Fin cfg1.N) : Vec F S20x8x2048 .f32 := fun y =>
  lossG (iblk1 W c 0 (rowPt t (y 1))) (iblk1 W c 1 (rowPt t (y 1))) (k1_pay147 (iblk1 W c 2 (rowPt t (y 1)))) (gramG (iblk1 W c 0 (rowPt t (y 1))) (iblk1 W c 2 (rowPt t (y 1)))) y

/-- The scale block that `t` lies in. -/
def scaleAll (c : Dev nD) (t : Fin cfg1.N) : Vec F S20x8x2048 .f32 := fun y =>
  scaleG (iblk1 W c 0 (rowPt t (y 1))) (iblk1 W c 1 (rowPt t (y 1))) y

/-- What the second call's pipeline holds. -/
def dat1 (c : Dev nD) : Dat τ (Elt F) Unit ℕ (UU nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => lossAll W c t
    | ⟨4, _⟩ => codeG (iblk1 W c 0 t) (iblk1 W c 1 t)
    | ⟨5, _⟩ => scaleAll W c t
  Φ _ := Pipeline.scopedRest spec1 c
  q _ := fullShare
  owed _ := 0

/-- The windows whose block several grid points fill row by row. -/
def fgt1 : Fin cfg1.W → Bool
  | ⟨0, _⟩ => false | ⟨1, _⟩ => false | ⟨2, _⟩ => false | ⟨3, _⟩ => true | ⟨4, _⟩ => false | ⟨5, _⟩ => true

/-- After point `t` the rows up to the point's own are written. -/
def Rl1 (c : Dev nD) (w : Fin cfg1.W) (t : Fin cfg1.N) (X : (cfg1.win w).block.Idx → Elt F (cfg1.win w).elt) : Prop :=
  match w, X with
  | ⟨0, _⟩, _ => True
  | ⟨1, _⟩, _ => True
  | ⟨2, _⟩, _ => True
  | ⟨3, _⟩, X => ∀ y : S20x8x2048.Idx, (y 1).val ≤ t.val % 8 → X y = lossAll W c t y
  | ⟨4, _⟩, _ => True
  | ⟨5, _⟩, X => ∀ y : S20x8x2048.Idx, (y 1).val ≤ t.val % 8 → X y = scaleAll W c t y

theorem dat1_A (c : Dev nD) (w : Fin cfg1.W) : (dat1 W c).A w = W c (Proc.devRef .tc (Pipeline.arrRef spec1 w)) := by dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = lossAll W c t := by dsimp only [dat1]
theorem after1_4 (c : Dev nD) (t : Fin cfg1.N) : (dat1 W c).after 4 t = codeG (iblk1 W c 0 t) (iblk1 W c 1 t) := by dsimp only [dat1]
theorem after1_5 (c : Dev nD) (t : Fin cfg1.N) : (dat1 W c).after 5 t = scaleAll W c t := by dsimp only [dat1]

theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)

/-- A marked window is found with the rows of the earlier points of its block written. -/
theorem finds1 (c : Dev nD) (w : Fin cfg1.W) (hw : fgt1 w = true) (hout : (cfg1.win w).isOut = true)
    (hflush : ∀ t : Fin cfg1.N, (cfg1.win w).flush t = true ↔ t.val % 8 = 7) (t : Fin cfg1.N) (ht : t.val % 8 ≠ 0)
    (Y : (cfg1.win w).block.Idx → Elt F (cfg1.win w).elt)
    (h : ((dat1 W c).toRRel fgt1 (Rl1 W c)).Finds w t Y) : Rl1 W c w (prevPt t) Y := by
  unfold RDat.Finds at h
  have h0 : ¬ (cfg1.win w).fetch t = true := by rw [(cfg1.win w).fetch_out hout]; exact Bool.false_ne_true
  have h1 : ¬ t.val = 0 := fun e => ht (by rw [e])
  have h2 : ¬ (cfg1.win w).flush (prevPt t) = true := fun e => by have := (hflush _).mp e; unfold prevPt at this; dsimp only at this; omega
  rw [if_neg h0, if_neg h1] at h
  obtain ⟨Z, -, hZ⟩ := (show ∃ Z, _ from (if_neg h2 : (if (cfg1.win w).flush (prevPt t) = true then True else _) = _) ▸ h)
  rw [(dat1 W c).toRRel_after_of_eq_true hw] at hZ
  exact hZ

theorem lossRow_rl (c : Dev nD) (t : Fin cfg1.N) (Y : (cfg1.win 3).block.Idx → Elt F (cfg1.win 3).elt)
    (h : ((dat1 W c).toRRel fgt1 (Rl1 W c)).Finds 3 t Y) :
    Rl1 W c 3 t (lossRow (iblk1 W c 0 t) (iblk1 W c 1 t) (iblk1 W c 2 t) (t.val % 8) Y) := by
  intro y hy
  show (if (y 1).val = t.val % 8 then _ else Y y) = _
  split
  next e => unfold lossAll; rw [rowPt_self t (y 1) e]
  next e =>
    have h1 := finds1 W c 3 rfl rfl flush1_3 t (fun e' => by omega) Y h y (by unfold prevPt; dsimp only; omega)
    rw [h1]; unfold lossAll
    rw [show rowPt (prevPt t) (y 1) = rowPt t (y 1) from Fin.ext (by unfold rowPt prevPt; dsimp only; omega)]

theorem scaleRow_rl (c : Dev nD) (t : Fin cfg1.N) (Y : (cfg1.win 5).block.Idx → Elt F (cfg1.win 5).elt)
    (h : ((dat1 W c).toRRel fgt1 (Rl1 W c)).Finds 5 t Y) :
    Rl1 W c 5 t (scaleRow (iblk1 W c 0 t) (iblk1 W c 1 t) (t.val % 8) Y) := by
  intro y hy
  show (if (y 1).val = t.val % 8 then _ else Y y) = _
  split
  next e => unfold scaleAll; rw [rowPt_self t (y 1) e]
  next e =>
    have h1 := finds1 W c 5 rfl rfl flush1_5 t (fun e' => by omega) Y h y (by unfold prevPt; dsimp only; omega)
    rw [h1]; unfold scaleAll
    rw [show rowPt (prevPt t) (y 1) = rowPt t (y 1) from Fin.ext (by unfold rowPt prevPt; dsimp only; omega)]

theorem defs₀_row1 (t : Fin cfg1.N) : defs₀ (F := F) .tc cfg1.body (cfg1.bodyArgs t (cfg1.slots t)) = bodyAt1 t := by
  unfold defs₀; rw [Defs.onTc_tc]

/-- The second call's body obligation. -/
theorem body_obligation1 (c : Dev nD) : BodyObligationRel (dat1 W c) (defs₀ (F := F)) 𝒱₀ () Set.univ fgt1 (Rl1 W c) := fun t => by
  rw [bigSep_W1, bigSep_W1, defs₀_row1]
  refine triple_restated (P := iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ Y, ⌜((dat1 W c).toRRel fgt1 (Rl1 W c)).Finds 3 t Y⌝ ∗ owns (c : Thread nD τ) (st1_3 t) fullShare Y)
    ∗ (∃ d, owns (c : Thread nD τ) (st1_4 t) fullShare ((dat1 W c).before 4 t d))
    ∗ (∃ Y, ⌜((dat1 W c).toRRel fgt1 (Rl1 W c)).Finds 5 t Y⌝ ∗ owns (c : Thread nD τ) (st1_5 t) fullShare Y)))
    (Q := fun _ => iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ (∃ X, ⌜Rl1 W c 3 t X⌝ ∗ owns (c : Thread nD τ) (st1_3 t) fullShare X)
    ∗ owns (c : Thread nD τ) (st1_4 t) fullShare ((dat1 W c).after 4 t)
    ∗ (∃ X, ⌜Rl1 W c 5 t X⌝ ∗ owns (c : Thread nD τ) (st1_5 t) fullShare X))) ?_ rfl .rfl fun _ => .rfl
  unfold bodyAt1
  simp only [before1_0, before1_1, before1_2]
  rw [show (dat1 W c).Φ t.succ = Pipeline.scopedRest spec1 c from rfl, show (dat1 W c).Φ t.castSucc = Pipeline.scopedRest spec1 c from rfl,
    show (dat1 W c).owesAt () t.succ = (dat1 W c).owesAt () t.castSucc from rfl, after1_0, after1_1, after1_2, after1_4, scopedRest1_eq]
  iintro ⟨⟨Ha, Hb, Hc, Hd, He, ⟨%f7, H7⟩⟩, Ho, ⟨%d0, H0⟩, ⟨%d1, H1⟩, ⟨%d2, H2⟩, ⟨%Y4, %hY4, H4⟩, ⟨%d5, H5⟩, ⟨%Y6, %hY6, H6⟩⟩
  iapply (sound_clipK c _ _ _ _ _ _ _ _ _ _ _ _ _ (Memref.whole cc1_scratch0) _ (iblk1 W c 0 t) (iblk1 W c 1 t) (iblk1 W c 2 t) Y4 Y6 _)
  isplitl [H0 H1 H2 H4 H5 H6 H7]
  · isplitl [H0]; · iexact H0
    isplitl [H1]; · iexact H1
    isplitl [H2]; · iexact H2
    isplitl [H4]; · iexact H4
    isplitl [H5]; · iexists _; iexact H5
    isplitl [H6]; · iexact H6
    iexists f7; rw [hold_whole]; iexact H7
  · iintro ⟨H0, H1, H2, H4, H5, H6, ⟨%f, H7⟩⟩
    rw [coords1]
    isplitl [Ha Hb Hc Hd He H7]
    · isplitl [Ha]; · iexact Ha
      isplitl [Hb]; · iexact Hb
      isplitl [Hc]; · iexact Hc
      isplitl [Hd]; · iexact Hd
      isplitl [He]; · iexact He
      iexists f; rw [← hold_whole c cc1_scratch0 f]; iexact H7
    isplitl [Ho]; · iexact Ho
    isplitl [H0]; · iexact H0
    isplitl [H1]; · iexact H1
    isplitl [H2]; · iexact H2
    isplitl [H4]
    · iexists _; isplitr; swap; · iexact H4
      ipureintro; exact lossRow_rl W c t Y4 hY4
    isplitl [H5]; · iexact H5
    iexists _; isplitr; swap; · iexact H6
    ipureintro; exact scaleRow_rl W c t Y6 hY6

end

end Cert.Kernel.Clip

end
-- ==== Proof.KernelRun.lean ====
/- The whole launch: both calls between the host stretches, every unscoped buffer read at the end. -/
module

public import proofs.«01_k».proof.Proof.RelRegion
public import Idealize.ShloMosaic.Lib.Pipeline.RegionArraysS
public import proofs.«01_k».proof.Proof.KernelGramRegion
public import proofs.«01_k».proof.Proof.KernelClipRegion

@[expose] public section

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg afterRegion)

variable {F : FTy → Type} [FloatOps F]

local notation "𝕄" => MT nD τ sig Unit (Elt F) ℕ (UU nD τ) ℕ

section
variable (W0 W1 : Dev nD → Valuation τ sig (Elt F))

def pdats : (p : Fin 2) → (c : Dev nD) → Dat τ (Elt F) Unit ℕ (UU nD τ) ℕ (cfgs p) c
  | ⟨0, _⟩, c => dat0 W0 c
  | ⟨1, _⟩, c => dat1 W1 c

/-- The windows proved relationally. -/
def fg : (p : Fin 2) → Fin (cfgs p).W → Bool
  | ⟨0, _⟩ => fun _ => false
  | ⟨1, _⟩ => fgt1

def Rls : (p : Fin 2) → (c : Dev nD) → (w : Fin (cfgs p).W) → Fin (cfgs p).N → (((cfgs p).win w).block.Idx → Elt F ((cfgs p).win w).elt) → Prop
  | ⟨0, _⟩ => fun _ _ _ _ => True
  | ⟨1, _⟩ => fun c => Rl1 W1 c

theorem exact0 (c : Dev nD) : RelRegion.Exact (dat0 W0 c) (fun _ => false) (fun _ _ _ => True) := fun _ h => absurd h Bool.false_ne_true

theorem exact1 (c : Dev nD) : RelRegion.Exact (dat1 W1 c) fgt1 (Rl1 W1 c)
  | ⟨0, _⟩, h => absurd h Bool.false_ne_true
  | ⟨1, _⟩, h => absurd h Bool.false_ne_true
  | ⟨2, _⟩, h => absurd h Bool.false_ne_true
  | ⟨3, _⟩, _ => fun u hu X hX => by
      have h7 := (flush1_3 u).mp hu
      refine funext fun y => (hX y ?_).trans ?_
      · rw [h7]; exact Nat.le_of_lt_succ (y 1).isLt
      · rfl
  | ⟨4, _⟩, h => absurd h Bool.false_ne_true
  | ⟨5, _⟩, _ => fun u hu X hX => by
      have h7 := (flush1_5 u).mp hu
      refine funext fun y => (hX y ?_).trans ?_
      · rw [h7]; exact Nat.le_of_lt_succ (y 1).isLt
      · rfl

/-- No level is assigned. -/
def noL : GSem nD τ sig → Finset Unit := fun _ => ∅
def noLv : GSem nD τ sig → Unit → ℕ := fun _ _ => 0

abbrev rdats : (p : Fin 2) → (c : Dev nD) → RDat τ (Elt F) Unit ℕ (UU nD τ) ℕ (cfgs p) c := RelRegion.rels (pcfgs (F := F)) adm (pdats W0 W1) fg (Rls W1)

theorem hbody0 (c : Dev nD) : ((dat0 W0 c).toRRel (fun _ => false) (fun _ _ _ => True)).BodyObligation (defs₀ (F := F)) 𝒱₀ () Set.univ :=
  (body_obligation0 W0 c).loose.toR

theorem hbody1 (c : Dev nD) : ((dat1 W1 c).toRRel fgt1 (Rl1 W1 c)).BodyObligation (defs₀ (F := F)) 𝒱₀ () Set.univ :=
  (body_obligation1 W1 c).toRRel

set_option maxHeartbeats 4000000 in
theorem hbodyP0 (c : Dev nD) : (RelRegion.rels (pcfgs (F := F)) adm (pdats W0 W1) fg (Rls W1) 0 c).BodyObligation (defs₀ (F := F)) 𝒱₀ () Set.univ := hbody0 W0 c
theorem howed0 (c : Dev nD) (t) : (pdats W0 W1 0 c).owed t = 0 := rfl
theorem hrec0 (c : Dev nD) : (pdats W0 W1 0 c).recorded 0 = Set.univ := rfl
theorem hshare0 (c : Dev nD) (w) : (pdats W0 W1 0 c).share w = fullShare := (dat0 W0 c).share_full (fun _ => rfl) w
seal Pipeline.scopedRest in
theorem hΦ0 (c : Dev nD) (t) : (pdats W0 W1 0 c).Φ t = Pipeline.scopedRest (Pipeline.pin (pcfgs (F := F)) adm 0).spec c := rfl
set_option maxHeartbeats 4000000 in
theorem hA0 (c : Dev nD) (w) : (pdats W0 W1 0 c).arrAt w 0 = W0 c (Proc.devRef .tc (Pipeline.arrRef (Pipeline.pin (pcfgs (F := F)) adm 0).spec w)) := rfl
set_option maxHeartbeats 4000000 in
theorem hE0 (c : Dev nD) : RelRegion.Exact (pdats W0 W1 0 c) (fg 0) (Rls W1 0 c) := exact0 W0 c

theorem unscoped0 : ∀ w : Fin 3, (Pipeline.arrRef spec0 w).isScoped = false := by decide

def reg0 : RDat.RegionSeg (pcfgs (F := F)) adm (rdats W0 W1) () defs₀ 𝒱₀ noL noLv 0 :=
  RelRegion.relRegion (pcfgs (F := F)) adm (pdats W0 W1) () defs₀ 𝒱₀ noL noLv fg (Rls W1) 0 launch0.toP rfl unscoped0
    (hbodyP0 W0 W1) (howed0 W0 W1) (hrec0 W0 W1) (hshare0 W0 W1) (hΦ0 W0 W1) (hE0 W0 W1) W0 (hA0 W0 W1)

set_option maxHeartbeats 4000000 in
theorem hbodyP1 (c : Dev nD) : (RelRegion.rels (pcfgs (F := F)) adm (pdats W0 W1) fg (Rls W1) 1 c).BodyObligation (defs₀ (F := F)) 𝒱₀ () Set.univ := hbody1 W1 c
theorem howed1 (c : Dev nD) (t) : (pdats W0 W1 1 c).owed t = 0 := rfl
theorem hrec1 (c : Dev nD) : (pdats W0 W1 1 c).recorded 0 = Set.univ := rfl
theorem hshare1 (c : Dev nD) (w) : (pdats W0 W1 1 c).share w = fullShare := (dat1 W1 c).share_full (fun _ => rfl) w
seal Pipeline.scopedRest in
theorem hΦ1 (c : Dev nD) (t) : (pdats W0 W1 1 c).Φ t = Pipeline.scopedRest (Pipeline.pin (pcfgs (F := F)) adm 1).spec c := rfl
set_option maxHeartbeats 4000000 in
theorem hA1 (c : Dev nD) (w) : (pdats W0 W1 1 c).arrAt w 0 = W1 c (Proc.devRef .tc (Pipeline.arrRef (Pipeline.pin (pcfgs (F := F)) adm 1).spec w)) := rfl
set_option maxHeartbeats 4000000 in
theorem hE1 (c : Dev nD) : RelRegion.Exact (pdats W0 W1 1 c) (fg 1) (Rls W1 1 c) := exact1 W1 c

theorem unscoped1 : ∀ w : Fin 6, (Pipeline.arrRef spec1 w).isScoped = false := by decide

def reg1 : RDat.RegionSeg (pcfgs (F := F)) adm (rdats W0 W1) () defs₀ 𝒱₀ noL noLv 1 :=
  RelRegion.relRegion (pcfgs (F := F)) adm (pdats W0 W1) () defs₀ 𝒱₀ noL noLv fg (Rls W1) 1 launch1.toP rfl unscoped1
    (hbodyP1 W0 W1) (howed1 W0 W1) (hrec1 W0 W1) (hshare1 W0 W1) (hΦ1 W0 W1) (hE1 W0 W1) W1 (hA1 W0 W1)

end

variable (m : (ℓ : Loc nD τ sig) → Buf (Elt F) ℓ)

/-- The buffers after the first call. -/
def Wb (c : Dev nD) : Valuation τ sig (Elt F) := afterRegion (dat0 (V1 m) c) (V1 m c)
/-- The buffers after the second call. -/
def Wc (c : Dev nD) : Valuation τ sig (Elt F) := afterRegion (dat1 (Wb m) c) (Wb m c)
/-- The buffers at the end. -/
def Wd (c : Dev nD) : Valuation τ sig (Elt F) := StableHlo.after hostOps2 (Wc m c)

/-- The host stretch after the calls. -/
def tail : HostSeg (Ix := Unit) (Name := ℕ) (U := UU nD τ) (Lvl := ℕ) (pcfgs (F := F)) defs₀ 𝒱₀ noL noLv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Wc m) RelRegion.idle

abbrev items (c : Dev nD) : List (RDat.Seg (pcfgs (F := F)) adm (rdats (V1 m) (Wb m)) () defs₀ 𝒱₀ noL noLv) :=
  [.host (seg0 m 𝒱₀ noL noLv fun _ => RelRegion.idle), .region (reg0 (V1 m) (Wb m)), .region (reg1 (V1 m) (Wb m)), .host (tail m)]

set_option maxHeartbeats 2000000 in
set_option backward.isDefEq.respectTransparency.types false in
/-- Every run ends; at the end every unscoped buffer of a core is at `Wd` and every semaphore counter at zero. -/
theorem run_all (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = Wd m c b) ∧ r.2.sem = fun _ => 0) := by
  refine Pipeline.RDat.θ_run_regions_kit_dev_sems (pcfgs (F := F)) adm (rdats (V1 m) (Wb m)) () cellOf_inj emb₁ defs₀ 𝒱₀ noL noLv m ρ main
    (items m)
    (fun c Q => by
      rewrite [main_chain c, RDat.Seg.run_eq_chain,
        show (items m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RelRegion.idle c))
    (Tₙ := fun c => StableHlo.held (c : Thread nD τ) (Pipeline.ucRefs τ sig) (Wd m c))
    (hch := fun c => ⟨.rfl, .rfl, .rfl, .rfl, .rfl⟩)
    (hinit := ?_) (QY := fun c s => ∀ b ∈ Pipeline.ucRefs τ sig, s.mem ((c : Thread nD τ).1, b) = Wd m c b)
    (hfin := fun c s' => ?_) (hQ := fun _ h hz => ⟨h, funext fun g => hz g (.inr (regions_no_unscoped g.2))⟩)
  · refine Pipeline.initEach noL noLv fun c => ?_
    rw [← Pipeline.unscopedBufs_held (Ix := Unit) (Name := ℕ) (U := UU nD τ) (Lvl := ℕ) c (V0 m c)]
    iintro ⟨⟨Hh, -, HO, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (Wd m c) s') $$ [Hh HSI]
    · isplitl [Hh] <;> iassumption
    icases Hr with ⟨%h, HSI⟩
    imodintro
    isplitr
    · ipureintro; exact h
    · iexact HSI

/-- A buffer that nothing writes is at the end as at the launch. -/
theorem Wd_keeps (c : Dev nD) (r : Ref sig .tc) (h0 : r ∉ hostOps0_W) (h2 : r ∉ hostOps2_W)
    (hr0 : ∀ w : Fin 3, Pipeline.arrRef spec0 w = r → (spec0 w).isOut = false) (hr1 : ∀ w : Fin 6, Pipeline.arrRef spec1 w = r → (spec1 w).isOut = false) :
    Wd m c (Proc.devRef .tc r) = m ((c.tc : Thread nD τ).loc r) :=
  (StableHlo.after_of_writes_sub hostOps2 _ hostOps2_writes h2).trans <|
    (Pipeline.afterRegion_keeps (dat1 (Wb m) c) (Wb m c) winFacts1.arr_inj (fun _ => rfl) r hr1).trans <|
      (Pipeline.afterRegion_keeps (dat0 (V1 m) c) (V1 m c) winFacts0.arr_inj (fun _ => rfl) r hr0).trans <|
        (V1_of m c r h0).trans rfl

theorem mem_ucRefs (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- The arguments end as launched, and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h.1 c _ (mem_ucRefs main_arg0 (by decide))).trans (Wd_keeps m c main_arg0 (by decide) (by decide) (by decide) (by decide)),
     (h.1 c _ (mem_ucRefs main_arg1 (by decide))).trans (Wd_keeps m c main_arg1 (by decide) (by decide) (by decide) (by decide)),
     (h.1 c _ (mem_ucRefs main_arg2 (by decide))).trans (Wd_keeps m c main_arg2 (by decide) (by decide) (by decide) (by decide))⟩, h.2⟩) (run_all m ρ)

/-- The results at the end, with the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v10) = Wd m c (Proc.devRef .tc main_v10)
      ∧ r.2.mem ((c.tc : Thread nD τ).loc main_v11) = Wd m c (Proc.devRef .tc main_v11)
      ∧ r.2.mem ((c.tc : Thread nD τ).loc main_v12) = Wd m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h.1 c _ (mem_ucRefs main_v10 (by decide)), h.1 c _ (mem_ucRefs main_v11 (by decide)), h.1 c _ (mem_ucRefs main_v12 (by decide)),
     (h.1 c _ (mem_ucRefs main_arg0 (by decide))).trans (Wd_keeps m c main_arg0 (by decide) (by decide) (by decide) (by decide)),
     (h.1 c _ (mem_ucRefs main_arg1 (by decide))).trans (Wd_keeps m c main_arg1 (by decide) (by decide) (by decide) (by decide)),
     (h.1 c _ (mem_ucRefs main_arg2 (by decide))).trans (Wd_keeps m c main_arg2 (by decide) (by decide) (by decide) (by decide))⟩) (run_all m ρ)

end Cert.Kernel.Clip
-- ==== Proof.KernelIdealOff.lean ====
/- The places the clip search writes to: trip `t` of the loop at grid point `i` stores row `i % 8`, columns
   `256 t ..` of the loss and scale blocks, and columns `256 t ..` of the packed codes. -/
module

public import proofs.«01_k».proof.Proof.Gen.KernelIdeal.Loops
public import proofs.«01_k».proof.Proof.Gen.KernelIdeal.Points
public import Idealize.ShloMosaic.Lib.Exec
public import Idealize.ShloMosaic.Lib.Tactic
public import Idealize.ShloMosaic.Lib.Pipeline.Kit

@[expose] public section

set_option maxRecDepth 16384

noncomputable section

namespace Cert.KernelIdeal.Clip

open Cert.KernelIdeal
open Idealize.ShloMosaic Idealize.ShloMosaic.TcCoe Idealize.ShloMosaic.Tactic

/-- The source rows of the trip. -/
theorem k1_off1_eq : ∀ t : Fin k1_t1_loop.trips, k1_off1 t = ![256 * t.val, 0] := by decide +kernel
instance (t : Fin k1_t1_loop.trips) : ClosedOff (k1_off1 t) := ⟨_, k1_off1_eq t⟩

/-- The columns of the packed codes. -/
theorem k1_off2_eq : ∀ t : Fin k1_t1_loop.trips, k1_off2 t = ![0, 0, 0, 256 * t.val] := by decide +kernel
instance (t : Fin k1_t1_loop.trips) : ClosedOff (k1_off2 t) := ⟨_, k1_off2_eq t⟩

/-- The row and columns of the loss and the scale. -/
theorem k1_off3_eq : ∀ (i : grid1.Coords) (t : Fin k1_t1_loop.trips), k1_off3 i t = ![0, (i 0).val % 8, 256 * t.val] := by
  decide +kernel
instance (i : grid1.Coords) (t : Fin k1_t1_loop.trips) : ClosedOff (k1_off3 i t) := ⟨_, k1_off3_eq i t⟩

theorem k1_off4_eq (t : Fin k1_t1_loop.trips) : k1_off4 t = ![0, 1, 0, 256 * t.val] := by
  rw [show k1_off4 t = ![0, 1, 0, k1_off2 t 3] from rfl, k1_off2_eq]; rfl
instance (t : Fin k1_t1_loop.trips) : ClosedOff (k1_off4 t) := ⟨_, k1_off4_eq t⟩
theorem k1_off5_eq (i : grid1.Coords) (t : Fin k1_t1_loop.trips) : k1_off5 i t = ![1, (i 0).val % 8, 256 * t.val] := by
  rw [show k1_off5 i t = ![1, k1_off3 i t 1, k1_off3 i t 2] from rfl, k1_off3_eq]; rfl
instance (i : grid1.Coords) (t : Fin k1_t1_loop.trips) : ClosedOff (k1_off5 i t) := ⟨_, k1_off5_eq i t⟩
theorem k1_off6_eq (t : Fin k1_t1_loop.trips) : k1_off6 t = ![0, 2, 0, 256 * t.val] := by
  rw [show k1_off6 t = ![0, 2, 0, k1_off2 t 3] from rfl, k1_off2_eq]; rfl
instance (t : Fin k1_t1_loop.trips) : ClosedOff (k1_off6 t) := ⟨_, k1_off6_eq t⟩
theorem k1_off7_eq (i : grid1.Coords) (t : Fin k1_t1_loop.trips) : k1_off7 i t = ![2, (i 0).val % 8, 256 * t.val] := by
  rw [show k1_off7 i t = ![2, k1_off3 i t 1, k1_off3 i t 2] from rfl, k1_off3_eq]; rfl
instance (i : grid1.Coords) (t : Fin k1_t1_loop.trips) : ClosedOff (k1_off7 i t) := ⟨_, k1_off7_eq i t⟩
theorem k1_off8_eq (t : Fin k1_t1_loop.trips) : k1_off8 t = ![0, 3, 0, 256 * t.val] := by
  rw [show k1_off8 t = ![0, 3, 0, k1_off2 t 3] from rfl, k1_off2_eq]; rfl
instance (t : Fin k1_t1_loop.trips) : ClosedOff (k1_off8 t) := ⟨_, k1_off8_eq t⟩
theorem k1_off9_eq (i : grid1.Coords) (t : Fin k1_t1_loop.trips) : k1_off9 i t = ![3, (i 0).val % 8, 256 * t.val] := by
  rw [show k1_off9 i t = ![3, k1_off3 i t 1, k1_off3 i t 2] from rfl, k1_off3_eq]; rfl
instance (i : grid1.Coords) (t : Fin k1_t1_loop.trips) : ClosedOff (k1_off9 i t) := ⟨_, k1_off9_eq i t⟩
theorem k1_off10_eq (t : Fin k1_t1_loop.trips) : k1_off10 t = ![0, 4, 0, 256 * t.val] := by
  rw [show k1_off10 t = ![0, 4, 0, k1_off2 t 3] from rfl, k1_off2_eq]; rfl
instance (t : Fin k1_t1_loop.trips) : ClosedOff (k1_off10 t) := ⟨_, k1_off10_eq t⟩
theorem k1_off11_eq (i : grid1.Coords) (t : Fin k1_t1_loop.trips) : k1_off11 i t = ![4, (i 0).val % 8, 256 * t.val] := by
  rw [show k1_off11 i t = ![4, k1_off3 i t 1, k1_off3 i t 2] from rfl, k1_off3_eq]; rfl
instance (i : grid1.Coords) (t : Fin k1_t1_loop.trips) : ClosedOff (k1_off11 i t) := ⟨_, k1_off11_eq i t⟩
theorem k1_off12_eq (t : Fin k1_t1_loop.trips) : k1_off12 t = ![0, 5, 0, 256 * t.val] := by
  rw [show k1_off12 t = ![0, 5, 0, k1_off2 t 3] from rfl, k1_off2_eq]; rfl
instance (t : Fin k1_t1_loop.trips) : ClosedOff (k1_off12 t) := ⟨_, k1_off12_eq t⟩
theorem k1_off13_eq (i : grid1.Coords) (t : Fin k1_t1_loop.trips) : k1_off13 i t = ![5, (i 0).val % 8, 256 * t.val] := by
  rw [show k1_off13 i t = ![5, k1_off3 i t 1, k1_off3 i t 2] from rfl, k1_off3_eq]; rfl
instance (i : grid1.Coords) (t : Fin k1_t1_loop.trips) : ClosedOff (k1_off13 i t) := ⟨_, k1_off13_eq i t⟩
theorem k1_off14_eq (t : Fin k1_t1_loop.trips) : k1_off14 t = ![0, 6, 0, 256 * t.val] := by
  rw [show k1_off14 t = ![0, 6, 0, k1_off2 t 3] from rfl, k1_off2_eq]; rfl
instance (t : Fin k1_t1_loop.trips) : ClosedOff (k1_off14 t) := ⟨_, k1_off14_eq t⟩
theorem k1_off15_eq (i : grid1.Coords) (t : Fin k1_t1_loop.trips) : k1_off15 i t = ![6, (i 0).val % 8, 256 * t.val] := by
  rw [show k1_off15 i t = ![6, k1_off3 i t 1, k1_off3 i t 2] from rfl, k1_off3_eq]; rfl
instance (i : grid1.Coords) (t : Fin k1_t1_loop.trips) : ClosedOff (k1_off15 i t) := ⟨_, k1_off15_eq i t⟩
theorem k1_off16_eq (t : Fin k1_t1_loop.trips) : k1_off16 t = ![0, 7, 0, 256 * t.val] := by
  rw [show k1_off16 t = ![0, 7, 0, k1_off2 t 3] from rfl, k1_off2_eq]; rfl
instance (t : Fin k1_t1_loop.trips) : ClosedOff (k1_off16 t) := ⟨_, k1_off16_eq t⟩
theorem k1_off17_eq (i : grid1.Coords) (t : Fin k1_t1_loop.trips) : k1_off17 i t = ![7, (i 0).val % 8, 256 * t.val] := by
  rw [show k1_off17 i t = ![7, k1_off3 i t 1, k1_off3 i t 2] from rfl, k1_off3_eq]; rfl
instance (i : grid1.Coords) (t : Fin k1_t1_loop.trips) : ClosedOff (k1_off17 i t) := ⟨_, k1_off17_eq i t⟩
theorem k1_off18_eq (t : Fin k1_t1_loop.trips) : k1_off18 t = ![0, 8, 0, 256 * t.val] := by
  rw [show k1_off18 t = ![0, 8, 0, k1_off2 t 3] from rfl, k1_off2_eq]; rfl
instance (t : Fin k1_t1_loop.trips) : ClosedOff (k1_off18 t) := ⟨_, k1_off18_eq t⟩
theorem k1_off19_eq (i : grid1.Coords) (t : Fin k1_t1_loop.trips) : k1_off19 i t = ![8, (i 0).val % 8, 256 * t.val] := by
  rw [show k1_off19 i t = ![8, k1_off3 i t 1, k1_off3 i t 2] from rfl, k1_off3_eq]; rfl
instance (i : grid1.Coords) (t : Fin k1_t1_loop.trips) : ClosedOff (k1_off19 i t) := ⟨_, k1_off19_eq i t⟩
theorem k1_off20_eq (t : Fin k1_t1_loop.trips) : k1_off20 t = ![0, 9, 0, 256 * t.val] := by
  rw [show k1_off20 t = ![0, 9, 0, k1_off2 t 3] from rfl, k1_off2_eq]; rfl
instance (t : Fin k1_t1_loop.trips) : ClosedOff (k1_off20 t) := ⟨_, k1_off20_eq t⟩
theorem k1_off21_eq (i : grid1.Coords) (t : Fin k1_t1_loop.trips) : k1_off21 i t = ![9, (i 0).val % 8, 256 * t.val] := by
  rw [show k1_off21 i t = ![9, k1_off3 i t 1, k1_off3 i t 2] from rfl, k1_off3_eq]; rfl
instance (i : grid1.Coords) (t : Fin k1_t1_loop.trips) : ClosedOff (k1_off21 i t) := ⟨_, k1_off21_eq i t⟩
theorem k1_off22_eq (t : Fin k1_t1_loop.trips) : k1_off22 t = ![0, 10, 0, 256 * t.val] := by
  rw [show k1_off22 t = ![0, 10, 0, k1_off2 t 3] from rfl, k1_off2_eq]; rfl
instance (t : Fin k1_t1_loop.trips) : ClosedOff (k1_off22 t) := ⟨_, k1_off22_eq t⟩
theorem k1_off23_eq (i : grid1.Coords) (t : Fin k1_t1_loop.trips) : k1_off23 i t = ![10, (i 0).val % 8, 256 * t.val] := by
  rw [show k1_off23 i t = ![10, k1_off3 i t 1, k1_off3 i t 2] from rfl, k1_off3_eq]; rfl
instance (i : grid1.Coords) (t : Fin k1_t1_loop.trips) : ClosedOff (k1_off23 i t) := ⟨_, k1_off23_eq i t⟩
theorem k1_off24_eq (t : Fin k1_t1_loop.trips) : k1_off24 t = ![0, 11, 0, 256 * t.val] := by
  rw [show k1_off24 t = ![0, 11, 0, k1_off2 t 3] from rfl, k1_off2_eq]; rfl
instance (t : Fin k1_t1_loop.trips) : ClosedOff (k1_off24 t) := ⟨_, k1_off24_eq t⟩
theorem k1_off25_eq (i : grid1.Coords) (t : Fin k1_t1_loop.trips) : k1_off25 i t = ![11, (i 0).val % 8, 256 * t.val] := by
  rw [show k1_off25 i t = ![11, k1_off3 i t 1, k1_off3 i t 2] from rfl, k1_off3_eq]; rfl
instance (i : grid1.Coords) (t : Fin k1_t1_loop.trips) : ClosedOff (k1_off25 i t) := ⟨_, k1_off25_eq i t⟩
theorem k1_off26_eq (t : Fin k1_t1_loop.trips) : k1_off26 t = ![0, 12, 0, 256 * t.val] := by
  rw [show k1_off26 t = ![0, 12, 0, k1_off2 t 3] from rfl, k1_off2_eq]; rfl
instance (t : Fin k1_t1_loop.trips) : ClosedOff (k1_off26 t) := ⟨_, k1_off26_eq t⟩
theorem k1_off27_eq (i : grid1.Coords) (t : Fin k1_t1_loop.trips) : k1_off27 i t = ![12, (i 0).val % 8, 256 * t.val] := by
  rw [show k1_off27 i t = ![12, k1_off3 i t 1, k1_off3 i t 2] from rfl, k1_off3_eq]; rfl
instance (i : grid1.Coords) (t : Fin k1_t1_loop.trips) : ClosedOff (k1_off27 i t) := ⟨_, k1_off27_eq i t⟩
theorem k1_off28_eq (t : Fin k1_t1_loop.trips) : k1_off28 t = ![0, 13, 0, 256 * t.val] := by
  rw [show k1_off28 t = ![0, 13, 0, k1_off2 t 3] from rfl, k1_off2_eq]; rfl
instance (t : Fin k1_t1_loop.trips) : ClosedOff (k1_off28 t) := ⟨_, k1_off28_eq t⟩
theorem k1_off29_eq (i : grid1.Coords) (t : Fin k1_t1_loop.trips) : k1_off29 i t = ![13, (i 0).val % 8, 256 * t.val] := by
  rw [show k1_off29 i t = ![13, k1_off3 i t 1, k1_off3 i t 2] from rfl, k1_off3_eq]; rfl
instance (i : grid1.Coords) (t : Fin k1_t1_loop.trips) : ClosedOff (k1_off29 i t) := ⟨_, k1_off29_eq i t⟩
theorem k1_off30_eq (t : Fin k1_t1_loop.trips) : k1_off30 t = ![0, 14, 0, 256 * t.val] := by
  rw [show k1_off30 t = ![0, 14, 0, k1_off2 t 3] from rfl, k1_off2_eq]; rfl
instance (t : Fin k1_t1_loop.trips) : ClosedOff (k1_off30 t) := ⟨_, k1_off30_eq t⟩
theorem k1_off31_eq (i : grid1.Coords) (t : Fin k1_t1_loop.trips) : k1_off31 i t = ![14, (i 0).val % 8, 256 * t.val] := by
  rw [show k1_off31 i t = ![14, k1_off3 i t 1, k1_off3 i t 2] from rfl, k1_off3_eq]; rfl
instance (i : grid1.Coords) (t : Fin k1_t1_loop.trips) : ClosedOff (k1_off31 i t) := ⟨_, k1_off31_eq i t⟩
theorem k1_off32_eq (t : Fin k1_t1_loop.trips) : k1_off32 t = ![0, 15, 0, 256 * t.val] := by
  rw [show k1_off32 t = ![0, 15, 0, k1_off2 t 3] from rfl, k1_off2_eq]; rfl
instance (t : Fin k1_t1_loop.trips) : ClosedOff (k1_off32 t) := ⟨_, k1_off32_eq t⟩
theorem k1_off33_eq (i : grid1.Coords) (t : Fin k1_t1_loop.trips) : k1_off33 i t = ![15, (i 0).val % 8, 256 * t.val] := by
  rw [show k1_off33 i t = ![15, k1_off3 i t 1, k1_off3 i t 2] from rfl, k1_off3_eq]; rfl
instance (i : grid1.Coords) (t : Fin k1_t1_loop.trips) : ClosedOff (k1_off33 i t) := ⟨_, k1_off33_eq i t⟩
theorem k1_off34_eq (t : Fin k1_t1_loop.trips) : k1_off34 t = ![0, 16, 0, 256 * t.val] := by
  rw [show k1_off34 t = ![0, 16, 0, k1_off2 t 3] from rfl, k1_off2_eq]; rfl
instance (t : Fin k1_t1_loop.trips) : ClosedOff (k1_off34 t) := ⟨_, k1_off34_eq t⟩
theorem k1_off35_eq (i : grid1.Coords) (t : Fin k1_t1_loop.trips) : k1_off35 i t = ![16, (i 0).val % 8, 256 * t.val] := by
  rw [show k1_off35 i t = ![16, k1_off3 i t 1, k1_off3 i t 2] from rfl, k1_off3_eq]; rfl
instance (i : grid1.Coords) (t : Fin k1_t1_loop.trips) : ClosedOff (k1_off35 i t) := ⟨_, k1_off35_eq i t⟩
theorem k1_off36_eq (t : Fin k1_t1_loop.trips) : k1_off36 t = ![0, 17, 0, 256 * t.val] := by
  rw [show k1_off36 t = ![0, 17, 0, k1_off2 t 3] from rfl, k1_off2_eq]; rfl
instance (t : Fin k1_t1_loop.trips) : ClosedOff (k1_off36 t) := ⟨_, k1_off36_eq t⟩
theorem k1_off37_eq (i : grid1.Coords) (t : Fin k1_t1_loop.trips) : k1_off37 i t = ![17, (i 0).val % 8, 256 * t.val] := by
  rw [show k1_off37 i t = ![17, k1_off3 i t 1, k1_off3 i t 2] from rfl, k1_off3_eq]; rfl
instance (i : grid1.Coords) (t : Fin k1_t1_loop.trips) : ClosedOff (k1_off37 i t) := ⟨_, k1_off37_eq i t⟩
theorem k1_off38_eq (t : Fin k1_t1_loop.trips) : k1_off38 t = ![0, 18, 0, 256 * t.val] := by
  rw [show k1_off38 t = ![0, 18, 0, k1_off2 t 3] from rfl, k1_off2_eq]; rfl
instance (t : Fin k1_t1_loop.trips) : ClosedOff (k1_off38 t) := ⟨_, k1_off38_eq t⟩
theorem k1_off39_eq (i : grid1.Coords) (t : Fin k1_t1_loop.trips) : k1_off39 i t = ![18, (i 0).val % 8, 256 * t.val] := by
  rw [show k1_off39 i t = ![18, k1_off3 i t 1, k1_off3 i t 2] from rfl, k1_off3_eq]; rfl
instance (i : grid1.Coords) (t : Fin k1_t1_loop.trips) : ClosedOff (k1_off39 i t) := ⟨_, k1_off39_eq i t⟩
theorem k1_off40_eq (t : Fin k1_t1_loop.trips) : k1_off40 t = ![0, 19, 0, 256 * t.val] := by
  rw [show k1_off40 t = ![0, 19, 0, k1_off2 t 3] from rfl, k1_off2_eq]; rfl
instance (t : Fin k1_t1_loop.trips) : ClosedOff (k1_off40 t) := ⟨_, k1_off40_eq t⟩
theorem k1_off41_eq (i : grid1.Coords) (t : Fin k1_t1_loop.trips) : k1_off41 i t = ![19, (i 0).val % 8, 256 * t.val] := by
  rw [show k1_off41 i t = ![19, k1_off3 i t 1, k1_off3 i t 2] from rfl, k1_off3_eq]; rfl
instance (i : grid1.Coords) (t : Fin k1_t1_loop.trips) : ClosedOff (k1_off41 i t) := ⟨_, k1_off41_eq i t⟩

end Cert.KernelIdeal.Clip

end
-- ==== Proof.KernelIdealTrip.lean ====
/- One trip of the clip search's loop. -/
module

public import proofs.«01_k».proof.Proof.KernelIdealOff

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- Buffer of memref `a` held whole at `f`. -/
abbrev hold (c : Dev nD) {sp : Space} {s : Shape} {e : EltTy} (a : Memref sig .tc sp s e) (f : Buf (Elt F) (a.view.loc (c : Thread nD τ))) : sProp 𝕄 :=
  a.view.loc (c : Thread nD τ) ↦[a.view.set]{fullShare} f

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole) (v9 : BitVec 32) (v11 : FVec F S128x128 .f32)

/-- What a trip touches. -/
abbrev Trip (g1 : Buf (Elt F) (arg1.view.loc (c : Thread nD τ))) (g2 : Buf (Elt F) (arg2.view.loc (c : Thread nD τ)))
    (g7 : Buf (Elt F) (arg7.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) : sProp 𝕄 :=
  iprop(hold c arg1 g1 ∗ hold c arg2 g2 ∗ hold c arg7 g7 ∗ hold c arg4 f4 ∗ hold c arg5 f5 ∗ hold c arg6 f6)

/-- One trip: the lists of what it stores are found by the run. -/
@[irreducible] def trip (g1 : Buf (Elt F) (arg1.view.loc (c : Thread nD τ))) (g2 : Buf (Elt F) (arg2.view.loc (c : Thread nD τ)))
    (g7 : Buf (Elt F) (arg7.view.loc (c : Thread nD τ))) (t : Fin k1_t1_loop.trips) :
    Σ' (L4 : List (View.Piece (Elt F) S20x8x2048 .f32)) (L5 : List (View.Piece (Elt F) S1x20x64x2048 .i8)), {L6 : List (View.Piece (Elt F) S20x8x2048 .f32) //
      ∀ f4 f5 f6, Trip c arg1 arg2 arg4 arg5 arg6 arg7 g1 g2 g7 f4 f5 f6
        ⊢ wp frame (wpE (defs₀ (F := F)) 𝒱₀ (c : Thread nD τ) none) Set.univ (k1_t1_body (F := F) i arg1 harg1 arg2 harg2 arg3 harg3 arg4 harg4 arg5 harg5 arg6 harg6 arg7 harg7 v9 v11 t ())
          (fun _ => Trip c arg1 arg2 arg4 arg5 arg6 arg7 g1 g2 g7 (arg4.view.writes (Elt F) f4 L4) (arg5.view.writes (Elt F) f5 L5) (arg6.view.writes (Elt F) f6 L6))} := by
  have hk : t.val < 8 := Nat.lt_of_lt_of_le t.isLt k1_t1_abs.2.1
  refine ⟨?_, ?_, ?_, fun f4 f5 f6 => ?run⟩
  case run =>
    unfold k1_t1_body
    iintro ⟨H1, H2, H7, H4, H5, H6⟩
    sl_exec
    sl_step
    sl_close

end

end Cert.KernelIdeal.Clip

end
-- ==== Proof.KernelIdealTile.lean ====
/- What one trip of the clip search's loop leaves, as one function of the grid point's blocks: the loss, the packed
   codes and the scale of candidate ratio `k` and output row `o`, whichever trip covers `o`. -/
module

public import proofs.«01_k».proof.Proof.KernelIdealTrip
public import Idealize.ShloMosaic.Lib.VecWindow
public import Idealize.ShloMosaic.Lib.Pointwise.Index

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic

variable {F : FTy → Type} [FloatOps F]

/-! ### The three results of one tile of 256 output rows -/

/-- The loss of every row of tile `w` at ratio `r`, where `a` holds the scaled Gram matrix's three parts. -/
def lossT (v11 : FVec F S128x128 .f32) (w : Vec F S256x128 .bf16) (r : Elt F .f32) (a : Vec F S1x128x384 .bf16) : FVec F S1x1x256 .f32 :=
  k1_pay14 (k1_pay7 w) (k1_pay8 v11 w) (k1_pay9 w r) (k1_pay10 w r) (k1_pay11 w r) a

/-- The packed codes of tile `w` at ratio `r`. -/
def codeT (w : Vec F S256x128 .bf16) (r : Elt F .f32) : IVec S1x1x64x256 8 := k1_pay13 (k1_pay11 w r)

/-- The scale of every row of tile `w` at ratio `r`. -/
def scaleT (w : Vec F S256x128 .bf16) (r : Elt F .f32) : FVec F S1x1x256 .f32 := k1_pay15 (k1_pay9 w r)

/-! ### The blocks they are computed from -/

/-- Rows `256 t ..` of the weight block. -/
def wtile (W : Vec F S2048x128 .bf16) (t : Fin 8) : Vec F S256x128 .bf16 := fun y =>
  W (ix2 ⟨256 * t.val + (y 0).val, by have h : (y 0).val < 256 := (y 0).isLt; omega⟩ (y 1))

/-- Ratio `k`. -/
def ratioAt (R : Vec F S20 .f32) (k : Fin 20) : Elt F .f32 := R (ix1 k)

/-- The scaled Gram matrix of ratio `k`. -/
def gramAt (A : Vec F S20x128x384 .bf16) (k : Fin 20) : Vec F S1x128x384 .bf16 := fun y => A (ix3 k (y 1) (y 2))

/-- The tile that covers column `o` of the block. -/
def tileOf (o : Fin 2048) : Fin 8 := ⟨o.val / 256, by omega⟩

/-- Its place in the tile. -/
def inTile (o : Fin 2048) : Fin 256 := ⟨o.val % 256, by omega⟩

/-- The loss at ratio `k` and output row `o`. -/
def lossG (R : Vec F S20 .f32) (W : Vec F S2048x128 .bf16) (v11 : FVec F S128x128 .f32) (A : Vec F S20x128x384 .bf16)
    (y : S20x8x2048.Idx) : Elt F .f32 :=
  lossT v11 (wtile W (tileOf (y 2))) (ratioAt R (y 0)) (gramAt A (y 0)) (ix3 0 0 (inTile (y 2)))

/-- The packed codes at ratio `k`, pair `p` and output row `o`. -/
def codeG (R : Vec F S20 .f32) (W : Vec F S2048x128 .bf16) (y : S1x20x64x2048.Idx) : Elt F .i8 :=
  codeT (wtile W (tileOf (y 3))) (ratioAt R (y 1)) (ix4 0 0 (y 2) (inTile (y 3)))

/-- The scale at ratio `k` and output row `o`. -/
def scaleG (R : Vec F S20 .f32) (W : Vec F S2048x128 .bf16) (y : S20x8x2048.Idx) : Elt F .f32 :=
  scaleT (wtile W (tileOf (y 2))) (ratioAt R (y 0)) (ix3 0 0 (inTile (y 2)))

/-! ### Which elements a piece covers -/

theorem row_mem (k : Fin 20) (r : ℕ) (t : Fin 8) {off : Fin 3 → ℕ} (h : off = ![k.val, r, 256 * t.val]) (inb) (y : S20x8x2048.Idx) :
    y ∈ (Rect.unit (s := S20x8x2048) off S1x1x256.size inb).set ↔ y 0 = k ∧ (y 1).val = r ∧ tileOf (y 2) = t := by
  subst h
  rw [Rect.mem_set_unit]
  constructor
  · intro h
    have h0 : k.val ≤ (y 0).val ∧ (y 0).val < k.val + 1 := h 0
    have h1 : r ≤ (y 1).val ∧ (y 1).val < r + 1 := h 1
    have h2 : 256 * t.val ≤ (y 2).val ∧ (y 2).val < 256 * t.val + 256 := h 2
    exact ⟨Fin.ext (by omega), by omega, Fin.ext (show (y 2).val / 256 = t.val by omega)⟩
  · rintro ⟨h0, h1, h2⟩ a
    have h0 : (y 0).val = k.val := congrArg Fin.val h0
    have h2 : (y 2).val / 256 = t.val := congrArg Fin.val h2
    match a with
    | ⟨0, _⟩ => show k.val ≤ (y 0).val ∧ (y 0).val < k.val + 1; omega
    | ⟨1, _⟩ => show r ≤ (y 1).val ∧ (y 1).val < r + 1; omega
    | ⟨2, _⟩ => show 256 * t.val ≤ (y 2).val ∧ (y 2).val < 256 * t.val + 256; omega

theorem code_mem (k : Fin 20) (t : Fin 8) {off : Fin 4 → ℕ} (h : off = ![0, k.val, 0, 256 * t.val]) (inb) (y : S1x20x64x2048.Idx) :
    y ∈ (Rect.unit (s := S1x20x64x2048) off S1x1x64x256.size inb).set ↔ y 1 = k ∧ tileOf (y 3) = t := by
  subst h
  rw [Rect.mem_set_unit]
  constructor
  · intro h
    have h0 : k.val ≤ (y 1).val ∧ (y 1).val < k.val + 1 := h 1
    have h2 : 256 * t.val ≤ (y 3).val ∧ (y 3).val < 256 * t.val + 256 := h 3
    exact ⟨Fin.ext (by omega), Fin.ext (show (y 3).val / 256 = t.val by omega)⟩
  · rintro ⟨h0, h2⟩ a
    have h0 : (y 1).val = k.val := congrArg Fin.val h0
    have h2 : (y 3).val / 256 = t.val := congrArg Fin.val h2
    have h3 : (y 0).val < 1 := (y 0).isLt
    have h4 : (y 2).val < 64 := (y 2).isLt
    match a with
    | ⟨0, _⟩ => show 0 ≤ (y 0).val ∧ (y 0).val < 0 + 1; omega
    | ⟨1, _⟩ => show k.val ≤ (y 1).val ∧ (y 1).val < k.val + 1; omega
    | ⟨2, _⟩ => show 0 ≤ (y 2).val ∧ (y 2).val < 0 + 64; omega
    | ⟨3, _⟩ => show 256 * t.val ≤ (y 3).val ∧ (y 3).val < 256 * t.val + 256; omega

/-- Every candidate is one of the twenty. -/
theorem fin20 : ∀ k : Fin 20, k = 19 ∨ k = 18 ∨ k = 17 ∨ k = 16 ∨ k = 15 ∨ k = 14 ∨ k = 13 ∨ k = 12 ∨ k = 11 ∨ k = 10 ∨ k = 9 ∨ k = 8 ∨ k = 7 ∨ k = 6 ∨ k = 5 ∨ k = 4 ∨ k = 3 ∨ k = 2 ∨ k = 1 ∨ k = 0 := by decide

theorem fin20_and (k : Fin 20) {q : Prop} (h : q) : k = 19 ∧ q ∨ k = 18 ∧ q ∨ k = 17 ∧ q ∨ k = 16 ∧ q ∨ k = 15 ∧ q ∨ k = 14 ∧ q ∨ k = 13 ∧ q ∨ k = 12 ∧ q ∨ k = 11 ∧ q ∨ k = 10 ∧ q ∨ k = 9 ∧ q ∨ k = 8 ∧ q ∨ k = 7 ∧ q ∨ k = 6 ∧ q ∨ k = 5 ∧ q ∨ k = 4 ∧ q ∨ k = 3 ∧ q ∨ k = 2 ∧ q ∨ k = 1 ∧ q ∨ k = 0 ∧ q := by
  simpa only [h, and_true] using fin20 k

/-! ### A piece of the trip's stores, read at its own index -/

section
variable (c : Dev nD) (arg1 : Memref sig .tc .smem S20 .f32) (arg2 : Memref sig .tc .vmem S2048x128 .bf16) (arg7 : Memref sig .tc .vmem S20x128x384 .bf16) (v11 : FVec F S128x128 .f32)
variable (g1 : Buf (Elt F) (arg1.view.loc (c : Thread nD τ))) (g2 : Buf (Elt F) (arg2.view.loc (c : Thread nD τ))) (g7 : Buf (Elt F) (arg7.view.loc (c : Thread nD τ)))

theorem read_wtile (t : Fin 8) {off : Fin 2 → ℕ} (h : off = ![256 * t.val, 0]) (inb) :
    arg2.view.readAt (Elt F) (Rect.unit (s := S2048x128) off S256x128.size inb).toLoadRect g2 = wtile (arg2.view.read (Elt F) g2) t := by
  subst h
  funext y
  refine congrArg (arg2.view.read (Elt F) g2) (funext fun a => Fin.ext ?_)
  match a with
  | ⟨0, _⟩ => show 256 * t.val + 1 * (y 0).val = 256 * t.val + (y 0).val; omega
  | ⟨1, _⟩ => show 0 + 1 * (y 1).val = (y 1).val; omega

theorem read_ratio (k : Fin 20) (inb) (x) :
    arg1.view.readAt (Elt F) (Rect.unit (s := S20) ![k.val] S1.size inb).toLoadRect g1 x = ratioAt (arg1.view.read (Elt F) g1) k := by
  refine congrArg (arg1.view.read (Elt F) g1) (funext fun a => Fin.ext ?_)
  match a with
  | ⟨0, _⟩ => have : (x 0).val < 1 := (x 0).isLt; show k.val + 1 * (x 0).val = k.val; omega

theorem read_gram (k : Fin 20) (inb) :
    arg7.view.readAt (Elt F) (Rect.unit (s := S20x128x384) ![k.val, 0, 0] S1x128x384.size inb).toLoadRect g7 = gramAt (arg7.view.read (Elt F) g7) k := by
  funext y
  refine congrArg (arg7.view.read (Elt F) g7) (funext fun a => Fin.ext ?_)
  match a with
  | ⟨0, _⟩ => have : (y 0).val < 1 := (y 0).isLt; show k.val + 1 * (y 0).val = k.val; omega
  | ⟨1, _⟩ => show 0 + 1 * (y 1).val = (y 1).val; omega
  | ⟨2, _⟩ => show 0 + 1 * (y 2).val = (y 2).val; omega

/-- A row of 256 stored at row `r`, columns `256 t ..`, read where it lies. -/
theorem row_emb (k : Fin 20) (r : ℕ) (t : Fin 8) {off : Fin 3 → ℕ} (h : off = ![k.val, r, 256 * t.val]) (inb) (x : (Rect.unit (s := S20x8x2048) off S1x1x256.size inb).shape.Idx) :
    (Rect.unit (s := S20x8x2048) off S1x1x256.size inb).emb x 0 = k ∧ tileOf ((Rect.unit (s := S20x8x2048) off S1x1x256.size inb).emb x 2) = t ∧
      ix3 (n0 := 1) (n1 := 1) 0 0 (inTile ((Rect.unit (s := S20x8x2048) off S1x1x256.size inb).emb x 2)) = x := by
  subst h
  have h0 : (x 0).val < 1 := (x 0).isLt
  have h1 : (x 1).val < 1 := (x 1).isLt
  have h2 : (x 2).val < 256 := (x 2).isLt
  refine ⟨Fin.ext ?_, Fin.ext ?_, funext fun a => Fin.ext ?_⟩
  · show k.val + 1 * (x 0).val = k.val; omega
  · show (256 * t.val + 1 * (x 2).val) / 256 = t.val; omega
  · match a with
    | ⟨0, _⟩ => show 0 = (x 0).val; omega
    | ⟨1, _⟩ => show 0 = (x 1).val; omega
    | ⟨2, _⟩ => show (256 * t.val + 1 * (x 2).val) % 256 = (x 2).val; omega

/-- The same for the packed codes. -/
theorem code_emb (k : Fin 20) (t : Fin 8) {off : Fin 4 → ℕ} (h : off = ![0, k.val, 0, 256 * t.val]) (inb) (x : (Rect.unit (s := S1x20x64x2048) off S1x1x64x256.size inb).shape.Idx) :
    (Rect.unit (s := S1x20x64x2048) off S1x1x64x256.size inb).emb x 1 = k ∧ tileOf ((Rect.unit (s := S1x20x64x2048) off S1x1x64x256.size inb).emb x 3) = t ∧
      ix4 (n0 := 1) (n1 := 1) 0 0 ((Rect.unit (s := S1x20x64x2048) off S1x1x64x256.size inb).emb x 2) (inTile ((Rect.unit (s := S1x20x64x2048) off S1x1x64x256.size inb).emb x 3)) = x := by
  subst h
  have h0 : (x 0).val < 1 := (x 0).isLt
  have h1 : (x 1).val < 1 := (x 1).isLt
  have h2 : (x 3).val < 256 := (x 3).isLt
  refine ⟨Fin.ext ?_, Fin.ext ?_, funext fun a => Fin.ext ?_⟩
  · show k.val + 1 * (x 1).val = k.val; omega
  · show (256 * t.val + 1 * (x 3).val) / 256 = t.val; omega
  · match a with
    | ⟨0, _⟩ => show 0 = (x 0).val; omega
    | ⟨1, _⟩ => show 0 = (x 1).val; omega
    | ⟨2, _⟩ => show 0 + 1 * (x 2).val = (x 2).val; omega
    | ⟨3, _⟩ => show (256 * t.val + 1 * (x 3).val) % 256 = (x 3).val; omega

theorem piece4 (k : Fin 20) (r : ℕ) (t : Fin 8) {off1 : Fin 2 → ℕ} (h1 : off1 = ![256 * t.val, 0]) (inb1) (inbr) (xr) (inba)
    {off : Fin 3 → ℕ} (h : off = ![k.val, r, 256 * t.val]) (inb) (x : (Rect.unit (s := S20x8x2048) off S1x1x256.size inb).shape.Idx) :
    lossT v11 (arg2.view.readAt (Elt F) (Rect.unit (s := S2048x128) off1 S256x128.size inb1).toLoadRect g2)
        (arg1.view.readAt (Elt F) (Rect.unit (s := S20) ![k.val] S1.size inbr).toLoadRect g1 xr)
        (arg7.view.readAt (Elt F) (Rect.unit (s := S20x128x384) ![k.val, 0, 0] S1x128x384.size inba).toLoadRect g7) x
      = lossG (arg1.view.read (Elt F) g1) (arg2.view.read (Elt F) g2) v11 (arg7.view.read (Elt F) g7)
          ((Rect.unit (s := S20x8x2048) off S1x1x256.size inb).emb x) := by
  obtain ⟨e0, e1, e2⟩ := row_emb k r t h inb x
  rw [read_wtile (h := h1), read_ratio, read_gram]
  unfold lossG
  rw [e0, e1, e2]

theorem piece5 (k : Fin 20) (t : Fin 8) {off1 : Fin 2 → ℕ} (h1 : off1 = ![256 * t.val, 0]) (inb1) (inbr) (xr)
    {off : Fin 4 → ℕ} (h : off = ![0, k.val, 0, 256 * t.val]) (inb) (x : (Rect.unit (s := S1x20x64x2048) off S1x1x64x256.size inb).shape.Idx) :
    codeT (arg2.view.readAt (Elt F) (Rect.unit (s := S2048x128) off1 S256x128.size inb1).toLoadRect g2)
        (arg1.view.readAt (Elt F) (Rect.unit (s := S20) ![k.val] S1.size inbr).toLoadRect g1 xr) x
      = codeG (arg1.view.read (Elt F) g1) (arg2.view.read (Elt F) g2)
          ((Rect.unit (s := S1x20x64x2048) off S1x1x64x256.size inb).emb x) := by
  obtain ⟨e0, e1, e2⟩ := code_emb k t h inb x
  rw [read_wtile (h := h1), read_ratio]
  unfold codeG
  rw [e0, e1]
  exact congrArg (codeT _ _) e2.symm

theorem piece6 (k : Fin 20) (r : ℕ) (t : Fin 8) {off1 : Fin 2 → ℕ} (h1 : off1 = ![256 * t.val, 0]) (inb1) (inbr) (xr)
    {off : Fin 3 → ℕ} (h : off = ![k.val, r, 256 * t.val]) (inb) (x : (Rect.unit (s := S20x8x2048) off S1x1x256.size inb).shape.Idx) :
    scaleT (arg2.view.readAt (Elt F) (Rect.unit (s := S2048x128) off1 S256x128.size inb1).toLoadRect g2)
        (arg1.view.readAt (Elt F) (Rect.unit (s := S20) ![k.val] S1.size inbr).toLoadRect g1 xr) x
      = scaleG (arg1.view.read (Elt F) g1) (arg2.view.read (Elt F) g2)
          ((Rect.unit (s := S20x8x2048) off S1x1x256.size inb).emb x) := by
  obtain ⟨e0, e1, e2⟩ := row_emb k r t h inb x
  rw [read_wtile (h := h1), read_ratio]
  unfold scaleG
  rw [e0, e1, e2]

end

end Cert.KernelIdeal.Clip

end
-- ==== Proof.KernelIdealPieces.lean ====
/- The stores of one trip, piece by piece. -/
module

public import proofs.«01_k».proof.Proof.KernelIdealTile

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic

variable {F : FTy → Type} [FloatOps F]

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole) (v9 : BitVec 32) (v11 : FVec F S128x128 .f32)
variable (g1 : Buf (Elt F) (arg1.view.loc (c : Thread nD τ))) (g2 : Buf (Elt F) (arg2.view.loc (c : Thread nD τ))) (g7 : Buf (Elt F) (arg7.view.loc (c : Thread nD τ)))
variable (t : Fin k1_t1_loop.trips)

/-- The pieces of the loss stored by trip `t` all read the one function. -/
theorem trip_loss : ∀ p ∈ (trip c i arg1 harg1 arg2 harg2 arg3 harg3 arg4 harg4 arg5 harg5 arg6 harg6 arg7 harg7 v9 v11 g1 g2 g7 t).1,
    ∀ x, p.2 x = lossG (arg1.view.read (Elt F) g1) (arg2.view.read (Elt F) g2) v11 (arg7.view.read (Elt F) g7) (p.1.emb x) := by
  unfold trip
  simp only [List.forall_mem_cons]
  exact ⟨fun x => piece4 c arg1 arg2 arg7 v11 g1 g2 g7 19 _ t (k1_off1_eq t) _ _ _ _ (k1_off41_eq i t) _ x,
    fun x => piece4 c arg1 arg2 arg7 v11 g1 g2 g7 18 _ t (k1_off1_eq t) _ _ _ _ (k1_off39_eq i t) _ x,
    fun x => piece4 c arg1 arg2 arg7 v11 g1 g2 g7 17 _ t (k1_off1_eq t) _ _ _ _ (k1_off37_eq i t) _ x,
    fun x => piece4 c arg1 arg2 arg7 v11 g1 g2 g7 16 _ t (k1_off1_eq t) _ _ _ _ (k1_off35_eq i t) _ x,
    fun x => piece4 c arg1 arg2 arg7 v11 g1 g2 g7 15 _ t (k1_off1_eq t) _ _ _ _ (k1_off33_eq i t) _ x,
    fun x => piece4 c arg1 arg2 arg7 v11 g1 g2 g7 14 _ t (k1_off1_eq t) _ _ _ _ (k1_off31_eq i t) _ x,
    fun x => piece4 c arg1 arg2 arg7 v11 g1 g2 g7 13 _ t (k1_off1_eq t) _ _ _ _ (k1_off29_eq i t) _ x,
    fun x => piece4 c arg1 arg2 arg7 v11 g1 g2 g7 12 _ t (k1_off1_eq t) _ _ _ _ (k1_off27_eq i t) _ x,
    fun x => piece4 c arg1 arg2 arg7 v11 g1 g2 g7 11 _ t (k1_off1_eq t) _ _ _ _ (k1_off25_eq i t) _ x,
    fun x => piece4 c arg1 arg2 arg7 v11 g1 g2 g7 10 _ t (k1_off1_eq t) _ _ _ _ (k1_off23_eq i t) _ x,
    fun x => piece4 c arg1 arg2 arg7 v11 g1 g2 g7 9 _ t (k1_off1_eq t) _ _ _ _ (k1_off21_eq i t) _ x,
    fun x => piece4 c arg1 arg2 arg7 v11 g1 g2 g7 8 _ t (k1_off1_eq t) _ _ _ _ (k1_off19_eq i t) _ x,
    fun x => piece4 c arg1 arg2 arg7 v11 g1 g2 g7 7 _ t (k1_off1_eq t) _ _ _ _ (k1_off17_eq i t) _ x,
    fun x => piece4 c arg1 arg2 arg7 v11 g1 g2 g7 6 _ t (k1_off1_eq t) _ _ _ _ (k1_off15_eq i t) _ x,
    fun x => piece4 c arg1 arg2 arg7 v11 g1 g2 g7 5 _ t (k1_off1_eq t) _ _ _ _ (k1_off13_eq i t) _ x,
    fun x => piece4 c arg1 arg2 arg7 v11 g1 g2 g7 4 _ t (k1_off1_eq t) _ _ _ _ (k1_off11_eq i t) _ x,
    fun x => piece4 c arg1 arg2 arg7 v11 g1 g2 g7 3 _ t (k1_off1_eq t) _ _ _ _ (k1_off9_eq i t) _ x,
    fun x => piece4 c arg1 arg2 arg7 v11 g1 g2 g7 2 _ t (k1_off1_eq t) _ _ _ _ (k1_off7_eq i t) _ x,
    fun x => piece4 c arg1 arg2 arg7 v11 g1 g2 g7 1 _ t (k1_off1_eq t) _ _ _ _ (k1_off5_eq i t) _ x,
    fun x => piece4 c arg1 arg2 arg7 v11 g1 g2 g7 0 _ t (k1_off1_eq t) _ _ _ _ (k1_off3_eq i t) _ x,
    fun p hp => absurd hp List.not_mem_nil⟩

/-- They cover the trip's elements and no other. -/
theorem trip_loss_mem (y) : (∃ p ∈ (trip c i arg1 harg1 arg2 harg2 arg3 harg3 arg4 harg4 arg5 harg5 arg6 harg6 arg7 harg7 v9 v11 g1 g2 g7 t).1, y ∈ p.1.set) ↔ (y 1).val = (i 0).val % 8 ∧ tileOf (y 2) = t := by
  unfold trip
  simp only [List.exists_mem_cons_iff, List.not_mem_nil, false_and, exists_false, or_false]
  refine (show _ ↔ _ from (or_congr (row_mem 19 _ t (k1_off41_eq i t) _ y) (or_congr (row_mem 18 _ t (k1_off39_eq i t) _ y) (or_congr (row_mem 17 _ t (k1_off37_eq i t) _ y) (or_congr (row_mem 16 _ t (k1_off35_eq i t) _ y) (or_congr (row_mem 15 _ t (k1_off33_eq i t) _ y) (or_congr (row_mem 14 _ t (k1_off31_eq i t) _ y) (or_congr (row_mem 13 _ t (k1_off29_eq i t) _ y) (or_congr (row_mem 12 _ t (k1_off27_eq i t) _ y) (or_congr (row_mem 11 _ t (k1_off25_eq i t) _ y) (or_congr (row_mem 10 _ t (k1_off23_eq i t) _ y) (or_congr (row_mem 9 _ t (k1_off21_eq i t) _ y) (or_congr (row_mem 8 _ t (k1_off19_eq i t) _ y) (or_congr (row_mem 7 _ t (k1_off17_eq i t) _ y) (or_congr (row_mem 6 _ t (k1_off15_eq i t) _ y) (or_congr (row_mem 5 _ t (k1_off13_eq i t) _ y) (or_congr (row_mem 4 _ t (k1_off11_eq i t) _ y) (or_congr (row_mem 3 _ t (k1_off9_eq i t) _ y) (or_congr (row_mem 2 _ t (k1_off7_eq i t) _ y) (or_congr (row_mem 1 _ t (k1_off5_eq i t) _ y) (row_mem 0 _ t (k1_off3_eq i t) _ y))))))))))))))))))))).trans ⟨fun h => ?_, fun h => ?_⟩
  · rcases h with h | h | h | h | h | h | h | h | h | h | h | h | h | h | h | h | h | h | h | h <;> exact h.2
  · exact fin20_and (y 0) h

/-- The pieces of the packed codes stored by trip `t` all read the one function. -/
theorem trip_code : ∀ p ∈ (trip c i arg1 harg1 arg2 harg2 arg3 harg3 arg4 harg4 arg5 harg5 arg6 harg6 arg7 harg7 v9 v11 g1 g2 g7 t).2.1,
    ∀ x, p.2 x = codeG (arg1.view.read (Elt F) g1) (arg2.view.read (Elt F) g2) (p.1.emb x) := by
  unfold trip
  simp only [List.forall_mem_cons]
  exact ⟨fun x => piece5 c arg1 arg2 g1 g2 19 t (k1_off1_eq t) _ _ _ (k1_off40_eq t) _ x,
    fun x => piece5 c arg1 arg2 g1 g2 18 t (k1_off1_eq t) _ _ _ (k1_off38_eq t) _ x,
    fun x => piece5 c arg1 arg2 g1 g2 17 t (k1_off1_eq t) _ _ _ (k1_off36_eq t) _ x,
    fun x => piece5 c arg1 arg2 g1 g2 16 t (k1_off1_eq t) _ _ _ (k1_off34_eq t) _ x,
    fun x => piece5 c arg1 arg2 g1 g2 15 t (k1_off1_eq t) _ _ _ (k1_off32_eq t) _ x,
    fun x => piece5 c arg1 arg2 g1 g2 14 t (k1_off1_eq t) _ _ _ (k1_off30_eq t) _ x,
    fun x => piece5 c arg1 arg2 g1 g2 13 t (k1_off1_eq t) _ _ _ (k1_off28_eq t) _ x,
    fun x => piece5 c arg1 arg2 g1 g2 12 t (k1_off1_eq t) _ _ _ (k1_off26_eq t) _ x,
    fun x => piece5 c arg1 arg2 g1 g2 11 t (k1_off1_eq t) _ _ _ (k1_off24_eq t) _ x,
    fun x => piece5 c arg1 arg2 g1 g2 10 t (k1_off1_eq t) _ _ _ (k1_off22_eq t) _ x,
    fun x => piece5 c arg1 arg2 g1 g2 9 t (k1_off1_eq t) _ _ _ (k1_off20_eq t) _ x,
    fun x => piece5 c arg1 arg2 g1 g2 8 t (k1_off1_eq t) _ _ _ (k1_off18_eq t) _ x,
    fun x => piece5 c arg1 arg2 g1 g2 7 t (k1_off1_eq t) _ _ _ (k1_off16_eq t) _ x,
    fun x => piece5 c arg1 arg2 g1 g2 6 t (k1_off1_eq t) _ _ _ (k1_off14_eq t) _ x,
    fun x => piece5 c arg1 arg2 g1 g2 5 t (k1_off1_eq t) _ _ _ (k1_off12_eq t) _ x,
    fun x => piece5 c arg1 arg2 g1 g2 4 t (k1_off1_eq t) _ _ _ (k1_off10_eq t) _ x,
    fun x => piece5 c arg1 arg2 g1 g2 3 t (k1_off1_eq t) _ _ _ (k1_off8_eq t) _ x,
    fun x => piece5 c arg1 arg2 g1 g2 2 t (k1_off1_eq t) _ _ _ (k1_off6_eq t) _ x,
    fun x => piece5 c arg1 arg2 g1 g2 1 t (k1_off1_eq t) _ _ _ (k1_off4_eq t) _ x,
    fun x => piece5 c arg1 arg2 g1 g2 0 t (k1_off1_eq t) _ _ _ (k1_off2_eq t) _ x,
    fun p hp => absurd hp List.not_mem_nil⟩

/-- They cover the trip's elements and no other. -/
theorem trip_code_mem (y) : (∃ p ∈ (trip c i arg1 harg1 arg2 harg2 arg3 harg3 arg4 harg4 arg5 harg5 arg6 harg6 arg7 harg7 v9 v11 g1 g2 g7 t).2.1, y ∈ p.1.set) ↔ tileOf (y 3) = t := by
  unfold trip
  simp only [List.exists_mem_cons_iff, List.not_mem_nil, false_and, exists_false, or_false]
  refine (show _ ↔ _ from (or_congr (code_mem 19 t (k1_off40_eq t) _ y) (or_congr (code_mem 18 t (k1_off38_eq t) _ y) (or_congr (code_mem 17 t (k1_off36_eq t) _ y) (or_congr (code_mem 16 t (k1_off34_eq t) _ y) (or_congr (code_mem 15 t (k1_off32_eq t) _ y) (or_congr (code_mem 14 t (k1_off30_eq t) _ y) (or_congr (code_mem 13 t (k1_off28_eq t) _ y) (or_congr (code_mem 12 t (k1_off26_eq t) _ y) (or_congr (code_mem 11 t (k1_off24_eq t) _ y) (or_congr (code_mem 10 t (k1_off22_eq t) _ y) (or_congr (code_mem 9 t (k1_off20_eq t) _ y) (or_congr (code_mem 8 t (k1_off18_eq t) _ y) (or_congr (code_mem 7 t (k1_off16_eq t) _ y) (or_congr (code_mem 6 t (k1_off14_eq t) _ y) (or_congr (code_mem 5 t (k1_off12_eq t) _ y) (or_congr (code_mem 4 t (k1_off10_eq t) _ y) (or_congr (code_mem 3 t (k1_off8_eq t) _ y) (or_congr (code_mem 2 t (k1_off6_eq t) _ y) (or_congr (code_mem 1 t (k1_off4_eq t) _ y) (code_mem 0 t (k1_off2_eq t) _ y))))))))))))))))))))).trans ⟨fun h => ?_, fun h => ?_⟩
  · rcases h with h | h | h | h | h | h | h | h | h | h | h | h | h | h | h | h | h | h | h | h <;> exact h.2
  · exact fin20_and (y 1) h

/-- The pieces of the scales stored by trip `t` all read the one function. -/
theorem trip_scale : ∀ p ∈ (trip c i arg1 harg1 arg2 harg2 arg3 harg3 arg4 harg4 arg5 harg5 arg6 harg6 arg7 harg7 v9 v11 g1 g2 g7 t).2.2.1,
    ∀ x, p.2 x = scaleG (arg1.view.read (Elt F) g1) (arg2.view.read (Elt F) g2) (p.1.emb x) := by
  unfold trip
  simp only [List.forall_mem_cons]
  exact ⟨fun x => piece6 c arg1 arg2 g1 g2 19 _ t (k1_off1_eq t) _ _ _ (k1_off41_eq i t) _ x,
    fun x => piece6 c arg1 arg2 g1 g2 18 _ t (k1_off1_eq t) _ _ _ (k1_off39_eq i t) _ x,
    fun x => piece6 c arg1 arg2 g1 g2 17 _ t (k1_off1_eq t) _ _ _ (k1_off37_eq i t) _ x,
    fun x => piece6 c arg1 arg2 g1 g2 16 _ t (k1_off1_eq t) _ _ _ (k1_off35_eq i t) _ x,
    fun x => piece6 c arg1 arg2 g1 g2 15 _ t (k1_off1_eq t) _ _ _ (k1_off33_eq i t) _ x,
    fun x => piece6 c arg1 arg2 g1 g2 14 _ t (k1_off1_eq t) _ _ _ (k1_off31_eq i t) _ x,
    fun x => piece6 c arg1 arg2 g1 g2 13 _ t (k1_off1_eq t) _ _ _ (k1_off29_eq i t) _ x,
    fun x => piece6 c arg1 arg2 g1 g2 12 _ t (k1_off1_eq t) _ _ _ (k1_off27_eq i t) _ x,
    fun x => piece6 c arg1 arg2 g1 g2 11 _ t (k1_off1_eq t) _ _ _ (k1_off25_eq i t) _ x,
    fun x => piece6 c arg1 arg2 g1 g2 10 _ t (k1_off1_eq t) _ _ _ (k1_off23_eq i t) _ x,
    fun x => piece6 c arg1 arg2 g1 g2 9 _ t (k1_off1_eq t) _ _ _ (k1_off21_eq i t) _ x,
    fun x => piece6 c arg1 arg2 g1 g2 8 _ t (k1_off1_eq t) _ _ _ (k1_off19_eq i t) _ x,
    fun x => piece6 c arg1 arg2 g1 g2 7 _ t (k1_off1_eq t) _ _ _ (k1_off17_eq i t) _ x,
    fun x => piece6 c arg1 arg2 g1 g2 6 _ t (k1_off1_eq t) _ _ _ (k1_off15_eq i t) _ x,
    fun x => piece6 c arg1 arg2 g1 g2 5 _ t (k1_off1_eq t) _ _ _ (k1_off13_eq i t) _ x,
    fun x => piece6 c arg1 arg2 g1 g2 4 _ t (k1_off1_eq t) _ _ _ (k1_off11_eq i t) _ x,
    fun x => piece6 c arg1 arg2 g1 g2 3 _ t (k1_off1_eq t) _ _ _ (k1_off9_eq i t) _ x,
    fun x => piece6 c arg1 arg2 g1 g2 2 _ t (k1_off1_eq t) _ _ _ (k1_off7_eq i t) _ x,
    fun x => piece6 c arg1 arg2 g1 g2 1 _ t (k1_off1_eq t) _ _ _ (k1_off5_eq i t) _ x,
    fun x => piece6 c arg1 arg2 g1 g2 0 _ t (k1_off1_eq t) _ _ _ (k1_off3_eq i t) _ x,
    fun p hp => absurd hp List.not_mem_nil⟩

/-- They cover the trip's elements and no other. -/
theorem trip_scale_mem (y) : (∃ p ∈ (trip c i arg1 harg1 arg2 harg2 arg3 harg3 arg4 harg4 arg5 harg5 arg6 harg6 arg7 harg7 v9 v11 g1 g2 g7 t).2.2.1, y ∈ p.1.set) ↔ (y 1).val = (i 0).val % 8 ∧ tileOf (y 2) = t := by
  unfold trip
  simp only [List.exists_mem_cons_iff, List.not_mem_nil, false_and, exists_false, or_false]
  refine (show _ ↔ _ from (or_congr (row_mem 19 _ t (k1_off41_eq i t) _ y) (or_congr (row_mem 18 _ t (k1_off39_eq i t) _ y) (or_congr (row_mem 17 _ t (k1_off37_eq i t) _ y) (or_congr (row_mem 16 _ t (k1_off35_eq i t) _ y) (or_congr (row_mem 15 _ t (k1_off33_eq i t) _ y) (or_congr (row_mem 14 _ t (k1_off31_eq i t) _ y) (or_congr (row_mem 13 _ t (k1_off29_eq i t) _ y) (or_congr (row_mem 12 _ t (k1_off27_eq i t) _ y) (or_congr (row_mem 11 _ t (k1_off25_eq i t) _ y) (or_congr (row_mem 10 _ t (k1_off23_eq i t) _ y) (or_congr (row_mem 9 _ t (k1_off21_eq i t) _ y) (or_congr (row_mem 8 _ t (k1_off19_eq i t) _ y) (or_congr (row_mem 7 _ t (k1_off17_eq i t) _ y) (or_congr (row_mem 6 _ t (k1_off15_eq i t) _ y) (or_congr (row_mem 5 _ t (k1_off13_eq i t) _ y) (or_congr (row_mem 4 _ t (k1_off11_eq i t) _ y) (or_congr (row_mem 3 _ t (k1_off9_eq i t) _ y) (or_congr (row_mem 2 _ t (k1_off7_eq i t) _ y) (or_congr (row_mem 1 _ t (k1_off5_eq i t) _ y) (row_mem 0 _ t (k1_off3_eq i t) _ y))))))))))))))))))))).trans ⟨fun h => ?_, fun h => ?_⟩
  · rcases h with h | h | h | h | h | h | h | h | h | h | h | h | h | h | h | h | h | h | h | h <;> exact h.2
  · exact fin20_and (y 0) h

end

end Cert.KernelIdeal.Clip

end
-- ==== Proof.KernelIdealLoop.lean ====
/- The clip search's loop: its invariant, and the grid point's whole body. -/
module

public import proofs.«01_k».proof.Proof.KernelIdealPieces

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole) (v9 : BitVec 32) (v11 : FVec F S128x128 .f32)

variable (g1 : Buf (Elt F) (arg1.view.loc (c : Thread nD τ))) (g2 : Buf (Elt F) (arg2.view.loc (c : Thread nD τ))) (g7 : Buf (Elt F) (arg7.view.loc (c : Thread nD τ)))

/-- What the trips before `k` stored into the loss block, newest first. -/
def done4 : ℕ → List (View.Piece (Elt F) S20x8x2048 .f32)
  | 0 => []
  | k + 1 => if h : k < k1_t1_loop.trips then (trip c i arg1 harg1 arg2 harg2 arg3 harg3 arg4 harg4 arg5 harg5 arg6 harg6 arg7 harg7 v9 v11 g1 g2 g7 ⟨k, h⟩).1 ++ done4 k else done4 k

/-- What the trips before `k` stored into the codes block, newest first. -/
def done5 : ℕ → List (View.Piece (Elt F) S1x20x64x2048 .i8)
  | 0 => []
  | k + 1 => if h : k < k1_t1_loop.trips then (trip c i arg1 harg1 arg2 harg2 arg3 harg3 arg4 harg4 arg5 harg5 arg6 harg6 arg7 harg7 v9 v11 g1 g2 g7 ⟨k, h⟩).2.1 ++ done5 k else done5 k

/-- What the trips before `k` stored into the scale block, newest first. -/
def done6 : ℕ → List (View.Piece (Elt F) S20x8x2048 .f32)
  | 0 => []
  | k + 1 => if h : k < k1_t1_loop.trips then (trip c i arg1 harg1 arg2 harg2 arg3 harg3 arg4 harg4 arg5 harg5 arg6 harg6 arg7 harg7 v9 v11 g1 g2 g7 ⟨k, h⟩).2.2.1 ++ done6 k else done6 k

set_option warn.classDefReducibility false in
/-- The loop's invariant: the three output blocks hold what the trips before `k` stored. -/
@[sl_loop] def loopInv (f4 : Buf (Elt F) (arg4.view.loc (c : Thread nD τ))) (f5 : Buf (Elt F) (arg5.view.loc (c : Thread nD τ)))
    (f6 : Buf (Elt F) (arg6.view.loc (c : Thread nD τ))) :
    LoopInvTy_k1_t1 (F := F) Unit ℕ (UU nD τ) ℕ 𝒱₀ c none Set.univ i arg1 harg1 arg2 harg2 arg3 harg3 arg4 harg4 arg5 harg5 arg6 harg6 arg7 harg7 v9 v11 where
  inv k _ := Trip c arg1 arg2 arg4 arg5 arg6 arg7 g1 g2 g7 (arg4.view.writes (Elt F) f4 (done4 c i arg1 harg1 arg2 harg2 arg3 harg3 arg4 harg4 arg5 harg5 arg6 harg6 arg7 harg7 v9 v11 g1 g2 g7 k))
    (arg5.view.writes (Elt F) f5 (done5 c i arg1 harg1 arg2 harg2 arg3 harg3 arg4 harg4 arg5 harg5 arg6 harg6 arg7 harg7 v9 v11 g1 g2 g7 k)) (arg6.view.writes (Elt F) f6 (done6 c i arg1 harg1 arg2 harg2 arg3 harg3 arg4 harg4 arg5 harg5 arg6 harg6 arg7 harg7 v9 v11 g1 g2 g7 k))
  step k _ := by
    rw [done4, done5, done6, dif_pos k.isLt, dif_pos k.isLt, dif_pos k.isLt, View.writes_append, View.writes_append, View.writes_append]
    exact (trip c i arg1 harg1 arg2 harg2 arg3 harg3 arg4 harg4 arg5 harg5 arg6 harg6 arg7 harg7 v9 v11 g1 g2 g7 k).2.2.2 _ _ _

/-! ### What the blocks hold after the trips before `k` -/

theorem done4_pieces : ∀ k, ∀ p ∈ done4 c i arg1 harg1 arg2 harg2 arg3 harg3 arg4 harg4 arg5 harg5 arg6 harg6 arg7 harg7 v9 v11 g1 g2 g7 k, ∀ x, p.2 x = lossG (arg1.view.read (Elt F) g1) (arg2.view.read (Elt F) g2) v11 (arg7.view.read (Elt F) g7) (p.1.emb x)
  | 0, p, hp => absurd hp List.not_mem_nil
  | k + 1, p, hp => by
    rw [done4] at hp
    split at hp
    · rcases List.mem_append.mp hp with h | h
      · exact trip_loss c i arg1 harg1 arg2 harg2 arg3 harg3 arg4 harg4 arg5 harg5 arg6 harg6 arg7 harg7 v9 v11 g1 g2 g7 _ p h
      · exact done4_pieces k p h
    · exact done4_pieces k p hp

theorem done4_mem (y) : ∀ k, k ≤ k1_t1_loop.trips → ((∃ p ∈ done4 c i arg1 harg1 arg2 harg2 arg3 harg3 arg4 harg4 arg5 harg5 arg6 harg6 arg7 harg7 v9 v11 g1 g2 g7 k, y ∈ p.1.set) ↔ (y 1).val = (i 0).val % 8 ∧ (tileOf (y 2)).val < k)
  | 0, _ => by simp only [done4, List.not_mem_nil, false_and, exists_false, Nat.not_lt_zero, and_false]
  | k + 1, hk => by
    have ih := done4_mem y k (by omega)
    have ht := trip_loss_mem c i arg1 harg1 arg2 harg2 arg3 harg3 arg4 harg4 arg5 harg5 arg6 harg6 arg7 harg7 v9 v11 g1 g2 g7 ⟨k, hk⟩ y
    rw [done4, dif_pos (show k < k1_t1_loop.trips from hk)]
    simp only [List.mem_append, or_and_right, exists_or]
    rw [ih, ht]
    have e : (tileOf (y 2) = (⟨k, hk⟩ : Fin k1_t1_loop.trips)) ↔ (tileOf (y 2)).val = k := Fin.ext_iff
    rw [e]
    constructor
    · intro h; omega
    · intro h; omega

/-- The loss block read at the loop's exit. -/
theorem done4_read (f : Buf (Elt F) (arg4.view.loc (c : Thread nD τ))) (y) :
    arg4.view.read (Elt F) (arg4.view.writes (Elt F) f (done4 c i arg1 harg1 arg2 harg2 arg3 harg3 arg4 harg4 arg5 harg5 arg6 harg6 arg7 harg7 v9 v11 g1 g2 g7 k1_t1_loop.trips)) y
      = if (y 1).val = (i 0).val % 8 then lossG (arg1.view.read (Elt F) g1) (arg2.view.read (Elt F) g2) v11 (arg7.view.read (Elt F) g7) y else arg4.view.read (Elt F) f y := by
  have hm := done4_mem c i arg1 harg1 arg2 harg2 arg3 harg3 arg4 harg4 arg5 harg5 arg6 harg6 arg7 harg7 v9 v11 g1 g2 g7 y _ le_rfl
  have h8 : (tileOf (y 2)).val < k1_t1_loop.trips := (tileOf (y 2)).isLt
  split
  next h => exact View.read_writes_apply_of_pieces _ _ _ _ (done4_pieces c i arg1 harg1 arg2 harg2 arg3 harg3 arg4 harg4 arg5 harg5 arg6 harg6 arg7 harg7 v9 v11 g1 g2 g7 _) y (hm.mpr ⟨h, h8⟩)
  next h => exact View.read_writes_apply_of_forall_not_mem _ _ y _ fun p hp hy => h (hm.mp ⟨p, hp, hy⟩).1

theorem done5_pieces : ∀ k, ∀ p ∈ done5 c i arg1 harg1 arg2 harg2 arg3 harg3 arg4 harg4 arg5 harg5 arg6 harg6 arg7 harg7 v9 v11 g1 g2 g7 k, ∀ x, p.2 x = codeG (arg1.view.read (Elt F) g1) (arg2.view.read (Elt F) g2) (p.1.emb x)
  | 0, p, hp => absurd hp List.not_mem_nil
  | k + 1, p, hp => by
    rw [done5] at hp
    split at hp
    · rcases List.mem_append.mp hp with h | h
      · exact trip_code c i arg1 harg1 arg2 harg2 arg3 harg3 arg4 harg4 arg5 harg5 arg6 harg6 arg7 harg7 v9 v11 g1 g2 g7 _ p h
      · exact done5_pieces k p h
    · exact done5_pieces k p hp

theorem done5_mem (y) : ∀ k, k ≤ k1_t1_loop.trips → ((∃ p ∈ done5 c i arg1 harg1 arg2 harg2 arg3 harg3 arg4 harg4 arg5 harg5 arg6 harg6 arg7 harg7 v9 v11 g1 g2 g7 k, y ∈ p.1.set) ↔ (tileOf (y 3)).val < k)
  | 0, _ => by simp only [done5, List.not_mem_nil, false_and, exists_false, Nat.not_lt_zero, and_false]
  | k + 1, hk => by
    have ih := done5_mem y k (by omega)
    have ht := trip_code_mem c i arg1 harg1 arg2 harg2 arg3 harg3 arg4 harg4 arg5 harg5 arg6 harg6 arg7 harg7 v9 v11 g1 g2 g7 ⟨k, hk⟩ y
    rw [done5, dif_pos (show k < k1_t1_loop.trips from hk)]
    simp only [List.mem_append, or_and_right, exists_or]
    rw [ih, ht]
    have e : (tileOf (y 3) = (⟨k, hk⟩ : Fin k1_t1_loop.trips)) ↔ (tileOf (y 3)).val = k := Fin.ext_iff
    rw [e]
    constructor
    · intro h; omega
    · intro h; omega

/-- The codes block read at the loop's exit. -/
theorem done5_read (f : Buf (Elt F) (arg5.view.loc (c : Thread nD τ))) (y) :
    arg5.view.read (Elt F) (arg5.view.writes (Elt F) f (done5 c i arg1 harg1 arg2 harg2 arg3 harg3 arg4 harg4 arg5 harg5 arg6 harg6 arg7 harg7 v9 v11 g1 g2 g7 k1_t1_loop.trips)) y
      = codeG (arg1.view.read (Elt F) g1) (arg2.view.read (Elt F) g2) y := by
  have hm := done5_mem c i arg1 harg1 arg2 harg2 arg3 harg3 arg4 harg4 arg5 harg5 arg6 harg6 arg7 harg7 v9 v11 g1 g2 g7 y _ le_rfl
  have h8 : (tileOf (y 3)).val < k1_t1_loop.trips := (tileOf (y 3)).isLt
  exact View.read_writes_apply_of_pieces _ _ _ _ (done5_pieces c i arg1 harg1 arg2 harg2 arg3 harg3 arg4 harg4 arg5 harg5 arg6 harg6 arg7 harg7 v9 v11 g1 g2 g7 _) y (hm.mpr h8)

theorem done6_pieces : ∀ k, ∀ p ∈ done6 c i arg1 harg1 arg2 harg2 arg3 harg3 arg4 harg4 arg5 harg5 arg6 harg6 arg7 harg7 v9 v11 g1 g2 g7 k, ∀ x, p.2 x = scaleG (arg1.view.read (Elt F) g1) (arg2.view.read (Elt F) g2) (p.1.emb x)
  | 0, p, hp => absurd hp List.not_mem_nil
  | k + 1, p, hp => by
    rw [done6] at hp
    split at hp
    · rcases List.mem_append.mp hp with h | h
      · exact trip_scale c i arg1 harg1 arg2 harg2 arg3 harg3 arg4 harg4 arg5 harg5 arg6 harg6 arg7 harg7 v9 v11 g1 g2 g7 _ p h
      · exact done6_pieces k p h
    · exact done6_pieces k p hp

theorem done6_mem (y) : ∀ k, k ≤ k1_t1_loop.trips → ((∃ p ∈ done6 c i arg1 harg1 arg2 harg2 arg3 harg3 arg4 harg4 arg5 harg5 arg6 harg6 arg7 harg7 v9 v11 g1 g2 g7 k, y ∈ p.1.set) ↔ (y 1).val = (i 0).val % 8 ∧ (tileOf (y 2)).val < k)
  | 0, _ => by simp only [done6, List.not_mem_nil, false_and, exists_false, Nat.not_lt_zero, and_false]
  | k + 1, hk => by
    have ih := done6_mem y k (by omega)
    have ht := trip_scale_mem c i arg1 harg1 arg2 harg2 arg3 harg3 arg4 harg4 arg5 harg5 arg6 harg6 arg7 harg7 v9 v11 g1 g2 g7 ⟨k, hk⟩ y
    rw [done6, dif_pos (show k < k1_t1_loop.trips from hk)]
    simp only [List.mem_append, or_and_right, exists_or]
    rw [ih, ht]
    have e : (tileOf (y 2) = (⟨k, hk⟩ : Fin k1_t1_loop.trips)) ↔ (tileOf (y 2)).val = k := Fin.ext_iff
    rw [e]
    constructor
    · intro h; omega
    · intro h; omega

/-- The scale block read at the loop's exit. -/
theorem done6_read (f : Buf (Elt F) (arg6.view.loc (c : Thread nD τ))) (y) :
    arg6.view.read (Elt F) (arg6.view.writes (Elt F) f (done6 c i arg1 harg1 arg2 harg2 arg3 harg3 arg4 harg4 arg5 harg5 arg6 harg6 arg7 harg7 v9 v11 g1 g2 g7 k1_t1_loop.trips)) y
      = if (y 1).val = (i 0).val % 8 then scaleG (arg1.view.read (Elt F) g1) (arg2.view.read (Elt F) g2) y else arg6.view.read (Elt F) f y := by
  have hm := done6_mem c i arg1 harg1 arg2 harg2 arg3 harg3 arg4 harg4 arg5 harg5 arg6 harg6 arg7 harg7 v9 v11 g1 g2 g7 y _ le_rfl
  have h8 : (tileOf (y 2)).val < k1_t1_loop.trips := (tileOf (y 2)).isLt
  split
  next h => exact View.read_writes_apply_of_pieces _ _ _ _ (done6_pieces c i arg1 harg1 arg2 harg2 arg3 harg3 arg4 harg4 arg5 harg5 arg6 harg6 arg7 harg7 v9 v11 g1 g2 g7 _) y (hm.mpr ⟨h, h8⟩)
  next h => exact View.read_writes_apply_of_forall_not_mem _ _ y _ fun p hp hy => h (hm.mp ⟨p, hp, hy⟩).1

end

end Cert.KernelIdeal.Clip

end
-- ==== Proof.KernelIdealBody.lean ====
/- A grid point's whole body: the scaled Gram matrices, then the loop. -/
module

public import proofs.«01_k».proof.Proof.KernelIdealLoop

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)

/-- What a grid point touches. -/
abbrev Point (g1 : Buf (Elt F) (arg1.view.loc (c : Thread nD τ))) (g2 : Buf (Elt F) (arg2.view.loc (c : Thread nD τ)))
    (g3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) : sProp 𝕄 :=
  iprop(hold c arg1 g1 ∗ hold c arg2 g2 ∗ hold c arg3 g3 ∗ hold c arg4 f4 ∗ hold c arg5 f5 ∗ hold c arg6 f6 ∗ hold c arg7 f7)

/-- The body at a grid point: what it stores into the scaled Gram matrices' buffer is found by the run. -/
@[irreducible] def point (g1 : Buf (Elt F) (arg1.view.loc (c : Thread nD τ))) (g2 : Buf (Elt F) (arg2.view.loc (c : Thread nD τ)))
    (g3 : Buf (Elt F) (arg3.view.loc (c : Thread nD τ))) :
    Σ' (v9 : BitVec 32) (v11 : FVec F S128x128 .f32), {L7 : List (View.Piece (Elt F) S20x128x384 .bf16) //
      ∀ f4 f5 f6 f7, Point c arg1 arg2 arg3 arg4 arg5 arg6 arg7 g1 g2 g3 f4 f5 f6 f7
        ⊢ wp frame (wpE (defs₀ (F := F)) 𝒱₀ (c : Thread nD τ) none) Set.univ (cc1_clip_search (F := F) i arg1 harg1 arg2 harg2 arg3 harg3 arg4 harg4 arg5 harg5 arg6 harg6 arg7 harg7)
          (fun _ => Point c arg1 arg2 arg3 arg4 arg5 arg6 arg7 g1 g2 g3
            (arg4.view.writes (Elt F) f4 (done4 c i arg1 harg1 arg2 harg2 arg3 harg3 arg4 harg4 arg5 harg5 arg6 harg6 arg7 harg7 v9 v11 g1 g2 (arg7.view.writes (Elt F) arg7.view.junk L7) k1_t1_loop.trips))
            (arg5.view.writes (Elt F) f5 (done5 c i arg1 harg1 arg2 harg2 arg3 harg3 arg4 harg4 arg5 harg5 arg6 harg6 arg7 harg7 v9 v11 g1 g2 (arg7.view.writes (Elt F) arg7.view.junk L7) k1_t1_loop.trips))
            (arg6.view.writes (Elt F) f6 (done6 c i arg1 harg1 arg2 harg2 arg3 harg3 arg4 harg4 arg5 harg5 arg6 harg6 arg7 harg7 v9 v11 g1 g2 (arg7.view.writes (Elt F) arg7.view.junk L7) k1_t1_loop.trips))
            (arg7.view.writes (Elt F) arg7.view.junk L7))} := by
  refine ⟨?_, ?_, ?_, fun f4 f5 f6 f7 => ?run⟩
  case run =>
    rw [cc1_clip_search_eq_skeleton]; unfold cc1_clip_search_skel
    iintro ⟨H1, H2, H3, H4, H5, H6, H7⟩
    sl_exec
    sl_step
    sl_close

end

end Cert.KernelIdeal.Clip

end
-- ==== Proof.KernelIdealGramRegion.lean ====
/- The Gram matrices: the first call's body at a grid point, and the contents its pipeline names. -/
module

public import proofs.«01_k».proof.Proof.KernelIdealBody
public import proofs.«01_k».proof.Proof.Gen.KernelIdeal.Regions
public import proofs.«01_k».proof.Proof.Gen.KernelIdeal.Points
public import Idealize.ShloMosaic.Lib.Pipeline.FrameBody
public import Idealize.ShloMosaic.Lib.VecWindow

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

/-- The Gram body on whole buffers: the block of `x` and the scales stay, the third buffer ends at their Gram matrix. -/
theorem sound_gram (c : Dev nD) (i : grid0.Coords) (arg1 : Memref sig .tc .vmem S256x128 .fp8e4m3) (harg1 : arg1.IsWhole) (arg2 : Memref sig .tc .vmem S256x1 .f32) (harg2 : arg2.IsWhole) (arg3 : Memref sig .tc .vmem S1x128x128 .f32) (harg3 : arg3.IsWhole)
    (x0 : Vec F S256x128 .fp8e4m3) (x1 : Vec F S256x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) 𝒱₀ c none) Set.univ (cc0_gram i arg1 harg1 arg2 harg2 arg3 harg3) K := by
  simp only [cc0_gram_eq_skeleton]; unfold cc0_gram_skel
  unfold owns
  iintro ⟨⟨%f0, %hf0, H0⟩, ⟨%f1, %hf1, H1⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  refine (View.read_writes_full _ _ _ _ _).trans ?_
  exact congrArg₂ k0_pay1 (View.readAt_full _ _ _) (View.readAt_full _ _ _)

section
variable (W : Dev nD → Valuation τ sig (Elt F))

/-- Window `w`'s block at point `t` of the arrays at `W`. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the first call's pipeline holds: its inputs' blocks, and the Gram matrix of the point. -/
def dat0 (c : Dev nD) : Dat τ (Elt F) Unit ℕ (UU nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => k0_pay1 (iblk0 W c 0 t) (iblk0 W c 1 t)
  Φ _ := Pipeline.scopedRest spec0 c
  q _ := fullShare
  owed _ := 0

theorem dat0_A (c : Dev nD) (w : Fin cfg0.W) : (dat0 W c).A w = W c (Proc.devRef .tc (Pipeline.arrRef spec0 w)) := by dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = k0_pay1 (iblk0 W c 0 t) (iblk0 W c 1 t) := by dsimp only [dat0]

theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)

theorem defs₀_row0 (t : Fin cfg0.N) : defs₀ (F := F) .tc cfg0.body (cfg0.bodyArgs t (cfg0.slots t)) = bodyAt0 t := by
  unfold defs₀; rw [Defs.onTc_tc]

/-- The first call's body obligation. -/
theorem body_obligation0 (c : Dev nD) : BodyObligation (dat0 W c) (defs₀ (F := F)) 𝒱₀ () Set.univ := fun t => by
  rw [bigSep_W0, bigSep_W0, defs₀_row0]
  refine triple_restated (P := iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))))
    (Q := fun _ => iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))) ?_ rfl .rfl fun _ => .rfl
  unfold bodyAt0
  simp only [before0_0, before0_1]
  rw [show (dat0 W c).Φ t.succ = (dat0 W c).Φ t.castSucc from rfl,
    show (dat0 W c).owesAt () t.succ = (dat0 W c).owesAt () t.castSucc from rfl, after0_0, after0_1, after0_2]
  iintro ⟨HΦ, Ho, ⟨%d0, H0⟩, ⟨%d1, H1⟩, ⟨%d2, H2⟩⟩
  iapply (sound_gram c _ _ _ _ _ _ _ (iblk0 W c 0 t) (iblk0 W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Clip

end
-- ==== Proof.KernelIdealGram.lean ====
/- The scaled Gram matrices a grid point computes, as one function of its blocks. -/
module

public import proofs.«01_k».proof.Proof.KernelIdealBody

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Part `j` of the Gram block scaled by ratio `r`: its leading part, what that leaves, and what both leave. -/
def partG (Gm : Vec F S1x128x128 .f32) (r : Elt F .f32) (j : Fin 3) : FVec F S1x128x128 .bf16 :=
  match j with
  | 0 => k1_pay152 Gm r
  | 1 => k1_pay153 Gm r
  | 2 => k1_pay154 Gm r

/-- The part that column `o` of the three side by side is of. -/
def partOf (o : Fin 384) : Fin 3 := ⟨o.val / 128, by omega⟩

/-- Its place in the part. -/
def inPart (o : Fin 384) : Fin 128 := ⟨o.val % 128, by omega⟩

/-- The scaled Gram matrices: ratio `k`, row, and the three parts side by side. -/
def gramG (R : Vec F S20 .f32) (Gm : Vec F S1x128x128 .f32) : Vec F S20x128x384 .bf16 := fun y =>
  partG Gm (ratioAt R (y 0)) (partOf (y 2)) (ix3 0 (y 1) (inPart (y 2)))

theorem gram_emb (k : Fin 20) (j : Fin 3) {o : ℕ} (ho : o = 128 * j.val) (inb) (x : (Rect.unit (s := S20x128x384) ![k.val, 0, o] S1x128x128.size inb).shape.Idx) :
    (Rect.unit (s := S20x128x384) ![k.val, 0, o] S1x128x128.size inb).emb x 0 = k ∧ partOf ((Rect.unit (s := S20x128x384) ![k.val, 0, o] S1x128x128.size inb).emb x 2) = j ∧
      ix3 (n0 := 1) (n1 := 128) 0 ((Rect.unit (s := S20x128x384) ![k.val, 0, o] S1x128x128.size inb).emb x 1) (inPart ((Rect.unit (s := S20x128x384) ![k.val, 0, o] S1x128x128.size inb).emb x 2)) = x := by
  subst ho
  have h0 : (x 0).val < 1 := (x 0).isLt
  have h2 : (x 2).val < 128 := (x 2).isLt
  refine ⟨Fin.ext ?_, Fin.ext ?_, funext fun a => Fin.ext ?_⟩
  · show k.val + 1 * (x 0).val = k.val; omega
  · show (128 * j.val + 1 * (x 2).val) / 128 = j.val; omega
  · match a with
    | ⟨0, _⟩ => show 0 = (x 0).val; omega
    | ⟨1, _⟩ => show 0 + 1 * (x 1).val = (x 1).val; omega
    | ⟨2, _⟩ => show (128 * j.val + 1 * (x 2).val) % 128 = (x 2).val; omega

theorem gram_mem (k : Fin 20) (j : Fin 3) (inb) (y : S20x128x384.Idx) :
    y ∈ (Rect.unit (s := S20x128x384) ![k.val, 0, 128 * j.val] S1x128x128.size inb).set ↔ y 0 = k ∧ partOf (y 2) = j := by
  rw [Rect.mem_set_unit]
  constructor
  · intro h
    have h0 : k.val ≤ (y 0).val ∧ (y 0).val < k.val + 1 := h 0
    have h2 : 128 * j.val ≤ (y 2).val ∧ (y 2).val < 128 * j.val + 128 := h 2
    exact ⟨Fin.ext (by omega), Fin.ext (show (y 2).val / 128 = j.val by omega)⟩
  · rintro ⟨h0, h2⟩ a
    have h0 : (y 0).val = k.val := congrArg Fin.val h0
    have h2 : (y 2).val / 128 = j.val := congrArg Fin.val h2
    have h1 : (y 1).val < 128 := (y 1).isLt
    match a with
    | ⟨0, _⟩ => show k.val ≤ (y 0).val ∧ (y 0).val < k.val + 1; omega
    | ⟨1, _⟩ => show 0 ≤ (y 1).val ∧ (y 1).val < 0 + 128; omega
    | ⟨2, _⟩ => show 128 * j.val ≤ (y 2).val ∧ (y 2).val < 128 * j.val + 128; omega

set_option synthInstance.maxHeartbeats 1000000 in
set_option synthInstance.maxSize 4000 in
/-- Every part of every candidate is one of the sixty. -/
theorem sixty : ∀ (k : Fin 20) (j : Fin 3), (k = 19 ∧ j = 2) ∨ (k = 19 ∧ j = 1) ∨ (k = 19 ∧ j = 0) ∨ (k = 18 ∧ j = 2) ∨ (k = 18 ∧ j = 1) ∨ (k = 18 ∧ j = 0) ∨ (k = 17 ∧ j = 2) ∨ (k = 17 ∧ j = 1) ∨ (k = 17 ∧ j = 0) ∨ (k = 16 ∧ j = 2) ∨ (k = 16 ∧ j = 1) ∨ (k = 16 ∧ j = 0) ∨ (k = 15 ∧ j = 2) ∨ (k = 15 ∧ j = 1) ∨ (k = 15 ∧ j = 0) ∨ (k = 14 ∧ j = 2) ∨ (k = 14 ∧ j = 1) ∨ (k = 14 ∧ j = 0) ∨ (k = 13 ∧ j = 2) ∨ (k = 13 ∧ j = 1) ∨ (k = 13 ∧ j = 0) ∨ (k = 12 ∧ j = 2) ∨ (k = 12 ∧ j = 1) ∨ (k = 12 ∧ j = 0) ∨ (k = 11 ∧ j = 2) ∨ (k = 11 ∧ j = 1) ∨ (k = 11 ∧ j = 0) ∨ (k = 10 ∧ j = 2) ∨ (k = 10 ∧ j = 1) ∨ (k = 10 ∧ j = 0) ∨ (k = 9 ∧ j = 2) ∨ (k = 9 ∧ j = 1) ∨ (k = 9 ∧ j = 0) ∨ (k = 8 ∧ j = 2) ∨ (k = 8 ∧ j = 1) ∨ (k = 8 ∧ j = 0) ∨ (k = 7 ∧ j = 2) ∨ (k = 7 ∧ j = 1) ∨ (k = 7 ∧ j = 0) ∨ (k = 6 ∧ j = 2) ∨ (k = 6 ∧ j = 1) ∨ (k = 6 ∧ j = 0) ∨ (k = 5 ∧ j = 2) ∨ (k = 5 ∧ j = 1) ∨ (k = 5 ∧ j = 0) ∨ (k = 4 ∧ j = 2) ∨ (k = 4 ∧ j = 1) ∨ (k = 4 ∧ j = 0) ∨ (k = 3 ∧ j = 2) ∨ (k = 3 ∧ j = 1) ∨ (k = 3 ∧ j = 0) ∨ (k = 2 ∧ j = 2) ∨ (k = 2 ∧ j = 1) ∨ (k = 2 ∧ j = 0) ∨ (k = 1 ∧ j = 2) ∨ (k = 1 ∧ j = 1) ∨ (k = 1 ∧ j = 0) ∨ (k = 0 ∧ j = 2) ∨ (k = 0 ∧ j = 1) ∨ (k = 0 ∧ j = 0) := by decide +kernel

section
variable (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)

variable (g1 : Buf (Elt F) (arg1.view.loc (c : Thread nD τ))) (g2 : Buf (Elt F) (arg2.view.loc (c : Thread nD τ))) (g3 : Buf (Elt F) (arg3.view.loc (c : Thread nD τ)))

theorem piece7_0 (k : Fin 20) (inbg) (inbr) (xr) (inb) (x : (Rect.unit (s := S20x128x384) ![k.val, 0, 0] S1x128x128.size inb).shape.Idx) :
    k1_pay152 (arg3.view.readAt (Elt F) (Rect.unit (s := S1x128x128) ![0, 0, 0] S1x128x128.size inbg).toLoadRect g3)
        (arg1.view.readAt (Elt F) (Rect.unit (s := S20) ![k.val] S1.size inbr).toLoadRect g1 xr) x
      = gramG (arg1.view.read (Elt F) g1) (arg3.view.read (Elt F) g3) ((Rect.unit (s := S20x128x384) ![k.val, 0, 0] S1x128x128.size inb).emb x) := by
  obtain ⟨e0, e1, e2⟩ := gram_emb k 0 (o := 0) rfl inb x
  rw [View.readAt_full, read_ratio]
  unfold gramG
  rw [e0, e1]
  exact congrArg (partG _ _ 0) e2.symm

theorem piece7_1 (k : Fin 20) (inbg) (inbr) (xr) (inb) (x : (Rect.unit (s := S20x128x384) ![k.val, 0, 128] S1x128x128.size inb).shape.Idx) :
    k1_pay153 (arg3.view.readAt (Elt F) (Rect.unit (s := S1x128x128) ![0, 0, 0] S1x128x128.size inbg).toLoadRect g3)
        (arg1.view.readAt (Elt F) (Rect.unit (s := S20) ![k.val] S1.size inbr).toLoadRect g1 xr) x
      = gramG (arg1.view.read (Elt F) g1) (arg3.view.read (Elt F) g3) ((Rect.unit (s := S20x128x384) ![k.val, 0, 128] S1x128x128.size inb).emb x) := by
  obtain ⟨e0, e1, e2⟩ := gram_emb k 1 (o := 128) rfl inb x
  rw [View.readAt_full, read_ratio]
  unfold gramG
  rw [e0, e1]
  exact congrArg (partG _ _ 1) e2.symm

theorem piece7_2 (k : Fin 20) (inbg) (inbr) (xr) (inb) (x : (Rect.unit (s := S20x128x384) ![k.val, 0, 256] S1x128x128.size inb).shape.Idx) :
    k1_pay154 (arg3.view.readAt (Elt F) (Rect.unit (s := S1x128x128) ![0, 0, 0] S1x128x128.size inbg).toLoadRect g3)
        (arg1.view.readAt (Elt F) (Rect.unit (s := S20) ![k.val] S1.size inbr).toLoadRect g1 xr) x
      = gramG (arg1.view.read (Elt F) g1) (arg3.view.read (Elt F) g3) ((Rect.unit (s := S20x128x384) ![k.val, 0, 256] S1x128x128.size inb).emb x) := by
  obtain ⟨e0, e1, e2⟩ := gram_emb k 2 (o := 256) rfl inb x
  rw [View.readAt_full, read_ratio]
  unfold gramG
  rw [e0, e1]
  exact congrArg (partG _ _ 2) e2.symm

set_option maxHeartbeats 1000000 in
/-- The stored pieces all read the one function. -/
theorem point_pieces : ∀ p ∈ (point c i arg1 harg1 arg2 harg2 arg3 harg3 arg4 harg4 arg5 harg5 arg6 harg6 arg7 harg7 g1 g2 g3).2.2.1, ∀ x, p.2 x = gramG (arg1.view.read (Elt F) g1) (arg3.view.read (Elt F) g3) (p.1.emb x) := by
  unfold point
  simp only [point.sl.H7_60, List.forall_mem_cons]
  exact ⟨fun x => piece7_2 c arg1 arg3 g1 g3 19 _ _ _ _ x,
    fun x => piece7_1 c arg1 arg3 g1 g3 19 _ _ _ _ x,
    fun x => piece7_0 c arg1 arg3 g1 g3 19 _ _ _ _ x,
    fun x => piece7_2 c arg1 arg3 g1 g3 18 _ _ _ _ x,
    fun x => piece7_1 c arg1 arg3 g1 g3 18 _ _ _ _ x,
    fun x => piece7_0 c arg1 arg3 g1 g3 18 _ _ _ _ x,
    fun x => piece7_2 c arg1 arg3 g1 g3 17 _ _ _ _ x,
    fun x => piece7_1 c arg1 arg3 g1 g3 17 _ _ _ _ x,
    fun x => piece7_0 c arg1 arg3 g1 g3 17 _ _ _ _ x,
    fun x => piece7_2 c arg1 arg3 g1 g3 16 _ _ _ _ x,
    fun x => piece7_1 c arg1 arg3 g1 g3 16 _ _ _ _ x,
    fun x => piece7_0 c arg1 arg3 g1 g3 16 _ _ _ _ x,
    fun x => piece7_2 c arg1 arg3 g1 g3 15 _ _ _ _ x,
    fun x => piece7_1 c arg1 arg3 g1 g3 15 _ _ _ _ x,
    fun x => piece7_0 c arg1 arg3 g1 g3 15 _ _ _ _ x,
    fun x => piece7_2 c arg1 arg3 g1 g3 14 _ _ _ _ x,
    fun x => piece7_1 c arg1 arg3 g1 g3 14 _ _ _ _ x,
    fun x => piece7_0 c arg1 arg3 g1 g3 14 _ _ _ _ x,
    fun x => piece7_2 c arg1 arg3 g1 g3 13 _ _ _ _ x,
    fun x => piece7_1 c arg1 arg3 g1 g3 13 _ _ _ _ x,
    fun x => piece7_0 c arg1 arg3 g1 g3 13 _ _ _ _ x,
    fun x => piece7_2 c arg1 arg3 g1 g3 12 _ _ _ _ x,
    fun x => piece7_1 c arg1 arg3 g1 g3 12 _ _ _ _ x,
    fun x => piece7_0 c arg1 arg3 g1 g3 12 _ _ _ _ x,
    fun x => piece7_2 c arg1 arg3 g1 g3 11 _ _ _ _ x,
    fun x => piece7_1 c arg1 arg3 g1 g3 11 _ _ _ _ x,
    fun x => piece7_0 c arg1 arg3 g1 g3 11 _ _ _ _ x,
    fun x => piece7_2 c arg1 arg3 g1 g3 10 _ _ _ _ x,
    fun x => piece7_1 c arg1 arg3 g1 g3 10 _ _ _ _ x,
    fun x => piece7_0 c arg1 arg3 g1 g3 10 _ _ _ _ x,
    fun x => piece7_2 c arg1 arg3 g1 g3 9 _ _ _ _ x,
    fun x => piece7_1 c arg1 arg3 g1 g3 9 _ _ _ _ x,
    fun x => piece7_0 c arg1 arg3 g1 g3 9 _ _ _ _ x,
    fun x => piece7_2 c arg1 arg3 g1 g3 8 _ _ _ _ x,
    fun x => piece7_1 c arg1 arg3 g1 g3 8 _ _ _ _ x,
    fun x => piece7_0 c arg1 arg3 g1 g3 8 _ _ _ _ x,
    fun x => piece7_2 c arg1 arg3 g1 g3 7 _ _ _ _ x,
    fun x => piece7_1 c arg1 arg3 g1 g3 7 _ _ _ _ x,
    fun x => piece7_0 c arg1 arg3 g1 g3 7 _ _ _ _ x,
    fun x => piece7_2 c arg1 arg3 g1 g3 6 _ _ _ _ x,
    fun x => piece7_1 c arg1 arg3 g1 g3 6 _ _ _ _ x,
    fun x => piece7_0 c arg1 arg3 g1 g3 6 _ _ _ _ x,
    fun x => piece7_2 c arg1 arg3 g1 g3 5 _ _ _ _ x,
    fun x => piece7_1 c arg1 arg3 g1 g3 5 _ _ _ _ x,
    fun x => piece7_0 c arg1 arg3 g1 g3 5 _ _ _ _ x,
    fun x => piece7_2 c arg1 arg3 g1 g3 4 _ _ _ _ x,
    fun x => piece7_1 c arg1 arg3 g1 g3 4 _ _ _ _ x,
    fun x => piece7_0 c arg1 arg3 g1 g3 4 _ _ _ _ x,
    fun x => piece7_2 c arg1 arg3 g1 g3 3 _ _ _ _ x,
    fun x => piece7_1 c arg1 arg3 g1 g3 3 _ _ _ _ x,
    fun x => piece7_0 c arg1 arg3 g1 g3 3 _ _ _ _ x,
    fun x => piece7_2 c arg1 arg3 g1 g3 2 _ _ _ _ x,
    fun x => piece7_1 c arg1 arg3 g1 g3 2 _ _ _ _ x,
    fun x => piece7_0 c arg1 arg3 g1 g3 2 _ _ _ _ x,
    fun x => piece7_2 c arg1 arg3 g1 g3 1 _ _ _ _ x,
    fun x => piece7_1 c arg1 arg3 g1 g3 1 _ _ _ _ x,
    fun x => piece7_0 c arg1 arg3 g1 g3 1 _ _ _ _ x,
    fun x => piece7_2 c arg1 arg3 g1 g3 0 _ _ _ _ x,
    fun x => piece7_1 c arg1 arg3 g1 g3 0 _ _ _ _ x,
    fun x => piece7_0 c arg1 arg3 g1 g3 0 _ _ _ _ x,
    fun p hp => absurd hp List.not_mem_nil⟩

set_option maxHeartbeats 1000000 in
/-- They cover the whole buffer. -/
theorem point_cover (y) : ∃ p ∈ (point c i arg1 harg1 arg2 harg2 arg3 harg3 arg4 harg4 arg5 harg5 arg6 harg6 arg7 harg7 g1 g2 g3).2.2.1, y ∈ p.1.set := by
  unfold point
  simp only [point.sl.H7_60, List.exists_mem_cons_iff, List.not_mem_nil, false_and, exists_false, or_false]
  refine (show _ ↔ _ from (or_congr (gram_mem 19 2 _ y) (or_congr (gram_mem 19 1 _ y) (or_congr (gram_mem 19 0 _ y) (or_congr (gram_mem 18 2 _ y) (or_congr (gram_mem 18 1 _ y) (or_congr (gram_mem 18 0 _ y) (or_congr (gram_mem 17 2 _ y) (or_congr (gram_mem 17 1 _ y) (or_congr (gram_mem 17 0 _ y) (or_congr (gram_mem 16 2 _ y) (or_congr (gram_mem 16 1 _ y) (or_congr (gram_mem 16 0 _ y) (or_congr (gram_mem 15 2 _ y) (or_congr (gram_mem 15 1 _ y) (or_congr (gram_mem 15 0 _ y) (or_congr (gram_mem 14 2 _ y) (or_congr (gram_mem 14 1 _ y) (or_congr (gram_mem 14 0 _ y) (or_congr (gram_mem 13 2 _ y) (or_congr (gram_mem 13 1 _ y) (or_congr (gram_mem 13 0 _ y) (or_congr (gram_mem 12 2 _ y) (or_congr (gram_mem 12 1 _ y) (or_congr (gram_mem 12 0 _ y) (or_congr (gram_mem 11 2 _ y) (or_congr (gram_mem 11 1 _ y) (or_congr (gram_mem 11 0 _ y) (or_congr (gram_mem 10 2 _ y) (or_congr (gram_mem 10 1 _ y) (or_congr (gram_mem 10 0 _ y) (or_congr (gram_mem 9 2 _ y) (or_congr (gram_mem 9 1 _ y) (or_congr (gram_mem 9 0 _ y) (or_congr (gram_mem 8 2 _ y) (or_congr (gram_mem 8 1 _ y) (or_congr (gram_mem 8 0 _ y) (or_congr (gram_mem 7 2 _ y) (or_congr (gram_mem 7 1 _ y) (or_congr (gram_mem 7 0 _ y) (or_congr (gram_mem 6 2 _ y) (or_congr (gram_mem 6 1 _ y) (or_congr (gram_mem 6 0 _ y) (or_congr (gram_mem 5 2 _ y) (or_congr (gram_mem 5 1 _ y) (or_congr (gram_mem 5 0 _ y) (or_congr (gram_mem 4 2 _ y) (or_congr (gram_mem 4 1 _ y) (or_congr (gram_mem 4 0 _ y) (or_congr (gram_mem 3 2 _ y) (or_congr (gram_mem 3 1 _ y) (or_congr (gram_mem 3 0 _ y) (or_congr (gram_mem 2 2 _ y) (or_congr (gram_mem 2 1 _ y) (or_congr (gram_mem 2 0 _ y) (or_congr (gram_mem 1 2 _ y) (or_congr (gram_mem 1 1 _ y) (or_congr (gram_mem 1 0 _ y) (or_congr (gram_mem 0 2 _ y) (or_congr (gram_mem 0 1 _ y) (gram_mem 0 0 _ y))))))))))))))))))))))))))))))))))))))))))))))))))))))))))))).mpr ?_
  exact sixty (y 0) (partOf (y 2))

/-- The scaled Gram matrices' buffer, read. -/
theorem point_gram : arg7.view.read (Elt F) (arg7.view.writes (Elt F) arg7.view.junk (point c i arg1 harg1 arg2 harg2 arg3 harg3 arg4 harg4 arg5 harg5 arg6 harg6 arg7 harg7 g1 g2 g3).2.2.1)
    = gramG (arg1.view.read (Elt F) g1) (arg3.view.read (Elt F) g3) :=
  funext fun y => View.read_writes_apply_of_pieces _ _ _ _ (point_pieces c i arg1 harg1 arg2 harg2 arg3 harg3 arg4 harg4 arg5 harg5 arg6 harg6 arg7 harg7 g1 g2 g3) y (point_cover c i arg1 harg1 arg2 harg2 arg3 harg3 arg4 harg4 arg5 harg5 arg6 harg6 arg7 harg7 g1 g2 g3 y)

theorem point_v11 : (point c i arg1 harg1 arg2 harg2 arg3 harg3 arg4 harg4 arg5 harg5 arg6 harg6 arg7 harg7 g1 g2 g3).2.1 = k1_pay147 (arg3.view.read (Elt F) g3) := by
  unfold point
  exact congrArg k1_pay147 (View.readAt_full arg3.view g3 _)

end

end Cert.KernelIdeal.Clip

end
-- ==== Proof.KernelIdealClipRegion.lean ====
/- The clip search: the second call's body at a grid point, and the contents its pipeline names. -/
module

public import proofs.«01_k».proof.Proof.KernelIdealGram
public import proofs.«01_k».proof.Proof.Gen.KernelIdeal.Regions
public import proofs.«01_k».proof.Proof.Gen.KernelIdeal.Points
public import Idealize.ShloMosaic.Lib.Pipeline.FrameBody
public import Idealize.ShloMosaic.Lib.Pipeline.DatRel
public import Idealize.ShloMosaic.Lib.VecWindow

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UU nD τ) ℕ

/-- The loss block after a grid point: its own row is written, the others stay. -/
def lossRow (x1 : Vec F S20 .f32) (x2 : Vec F S2048x128 .bf16) (x3 : Vec F S1x128x128 .f32) (r : ℕ) (Y : Vec F S20x8x2048 .f32) : Vec F S20x8x2048 .f32 :=
  fun y => if (y 1).val = r then lossG x1 x2 (k1_pay147 x3) (gramG x1 x3) y else Y y

/-- The scale block after a grid point. -/
def scaleRow (x1 : Vec F S20 .f32) (x2 : Vec F S2048x128 .bf16) (r : ℕ) (Y : Vec F S20x8x2048 .f32) : Vec F S20x8x2048 .f32 :=
  fun y => if (y 1).val = r then scaleG x1 x2 y else Y y

/-- The clip search's body on whole buffers. -/
theorem sound_clip (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)
    (x1 : Vec F S20 .f32) (x2 : Vec F S2048x128 .bf16) (x3 : Vec F S1x128x128 .f32) (Y4 Y6 : Vec F S20x8x2048 .f32) :
    (iprop(owns (c : Thread nD τ) arg1 fullShare x1 ∗ owns (c : Thread nD τ) arg2 fullShare x2 ∗ owns (c : Thread nD τ) arg3 fullShare x3
        ∗ owns (c : Thread nD τ) arg4 fullShare Y4 ∗ (∃ d, owns (c : Thread nD τ) arg5 fullShare d) ∗ owns (c : Thread nD τ) arg6 fullShare Y6
        ∗ (∃ f7, hold c arg7 f7)) : sProp 𝕄)
      ⊢ wp frame (wpE (defs₀ (F := F)) 𝒱₀ c none) Set.univ (cc1_clip_search i arg1 harg1 arg2 harg2 arg3 harg3 arg4 harg4 arg5 harg5 arg6 harg6 arg7 harg7)
        (fun _ => iprop(owns (c : Thread nD τ) arg1 fullShare x1 ∗ owns (c : Thread nD τ) arg2 fullShare x2 ∗ owns (c : Thread nD τ) arg3 fullShare x3
        ∗ owns (c : Thread nD τ) arg4 fullShare (lossRow x1 x2 x3 ((i 0).val % 8) Y4) ∗ owns (c : Thread nD τ) arg5 fullShare (codeG x1 x2)
        ∗ owns (c : Thread nD τ) arg6 fullShare (scaleRow x1 x2 ((i 0).val % 8) Y6) ∗ (∃ f7, hold c arg7 f7))) := by
  unfold owns
  iintro ⟨⟨%g1, %h1, H1⟩, ⟨%g2, %h2, H2⟩, ⟨%g3, %h3, H3⟩, ⟨%f4, %h4, H4⟩, ⟨%d5, %f5, -, H5⟩, ⟨%f6, %h6, H6⟩, ⟨%f7, H7⟩⟩
  subst h1 h2 h3 h4 h6
  have hpost := (point c i arg1 harg1 arg2 harg2 arg3 harg3 arg4 harg4 arg5 harg5 arg6 harg6 arg7 harg7 g1 g2 g3).2.2.2 f4 f5 f6 f7
  iapply (hpost.trans (wp_mono _ _ _ fun _ => ?_))
  rotate_left
  · isplitl [H1]; · iexact H1
    isplitl [H2]; · iexact H2
    isplitl [H3]; · iexact H3
    isplitl [H4]; · iexact H4
    isplitl [H5]; · iexact H5
    isplitl [H6]; · iexact H6
    iexact H7
  · iintro ⟨H1, H2, H3, H4, H5, H6, H7⟩
    isplitl [H1]
    · iexists g1; isplitr; · ipureintro; rfl
      iexact H1
    isplitl [H2]
    · iexists g2; isplitr; · ipureintro; rfl
      iexact H2
    isplitl [H3]
    · iexists g3; isplitr; · ipureintro; rfl
      iexact H3
    isplitl [H4]
    · iexists _; isplitr
      swap; · iexact H4
      ipureintro
      funext y
      rw [done4_read, point_gram, point_v11]; rfl
    isplitl [H5]
    · iexists _; isplitr
      swap; · iexact H5
      ipureintro
      funext y
      rw [done5_read]
    isplitl [H6]
    · iexists _; isplitr
      swap; · iexact H6
      ipureintro
      funext y
      rw [done6_read]; rfl
    iexists _; iexact H7

theorem sound_clipK (c : Dev nD) (i : grid1.Coords) (arg1 : Memref sig .tc .smem S20 .f32) (harg1 : arg1.IsWhole) (arg2 : Memref sig .tc .vmem S2048x128 .bf16) (harg2 : arg2.IsWhole) (arg3 : Memref sig .tc .vmem S1x128x128 .f32) (harg3 : arg3.IsWhole) (arg4 : Memref sig .tc .vmem S20x8x2048 .f32) (harg4 : arg4.IsWhole) (arg5 : Memref sig .tc .vmem S1x20x64x2048 .i8) (harg5 : arg5.IsWhole) (arg6 : Memref sig .tc .vmem S20x8x2048 .f32) (harg6 : arg6.IsWhole) (arg7 : Memref sig .tc .vmem S20x128x384 .bf16) (harg7 : arg7.IsWhole)
    (x1 : Vec F S20 .f32) (x2 : Vec F S2048x128 .bf16) (x3 : Vec F S1x128x128 .f32) (Y4 Y6 : Vec F S20x8x2048 .f32) (K : PUnit → sProp 𝕄) :
    (iprop(iprop(owns (c : Thread nD τ) arg1 fullShare x1 ∗ owns (c : Thread nD τ) arg2 fullShare x2 ∗ owns (c : Thread nD τ) arg3 fullShare x3
        ∗ owns (c : Thread nD τ) arg4 fullShare Y4 ∗ (∃ d, owns (c : Thread nD τ) arg5 fullShare d) ∗ owns (c : Thread nD τ) arg6 fullShare Y6
        ∗ (∃ f7, hold c arg7 f7)) ∗ (iprop(owns (c : Thread nD τ) arg1 fullShare x1 ∗ owns (c : Thread nD τ) arg2 fullShare x2 ∗ owns (c : Thread nD τ) arg3 fullShare x3
        ∗ owns (c : Thread nD τ) arg4 fullShare (lossRow x1 x2 x3 ((i 0).val % 8) Y4) ∗ owns (c : Thread nD τ) arg5 fullShare (codeG x1 x2)
        ∗ owns (c : Thread nD τ) arg6 fullShare (scaleRow x1 x2 ((i 0).val % 8) Y6) ∗ (∃ f7, hold c arg7 f7)) -∗ K ⟨⟩)) : sProp 𝕄)
      ⊢ wp frame (wpE (defs₀ (F := F)) 𝒱₀ c none) Set.univ (cc1_clip_search i arg1 harg1 arg2 harg2 arg3 harg3 arg4 harg4 arg5 harg5 arg6 harg6 arg7 harg7) K :=
  (sep_mono (sound_clip c i arg1 harg1 arg2 harg2 arg3 harg3 arg4 harg4 arg5 harg5 arg6 harg6 arg7 harg7 x1 x2 x3 Y4 Y6) .rfl).trans ((wp_frame_r _ _ _).trans (wp_mono _ _ _ fun _ => by
    iintro ⟨H, Hk⟩; iapply Hk; iexact H))

/-- A whole buffer held through its memref is the buffer held. -/
theorem hold_whole (c : Dev nD) (b : Ref sig .tc) (f : Buf (Elt F) ((c : Thread nD τ).loc b)) :
    (hold c (Memref.whole b) f : sProp 𝕄) = (((c : Thread nD τ).loc b) ↦{fullShare} f) := by
  unfold hold; simp only [Memref.view_whole, View.set_whole]

theorem coords1 (t : Fin cfg1.N) : (grid1.coords t 0).val = t.val :=
  (by decide +kernel : ∀ t : Fin grid1.N, (grid1.coords t 0).val = t.val) t

/-- The grid point that writes row `r` of the block `t` lies in. -/
def rowPt (t : Fin cfg1.N) (r : Fin 8) : Fin cfg1.N :=
  ⟨8 * (t.val / 8) + r.val, by have h : t.val < 56 := N_1 ▸ t.isLt; have : cfg1.N = 56 := N_1; omega⟩

/-- The grid point before. -/
def prevPt (t : Fin cfg1.N) : Fin cfg1.N := ⟨t.val - 1, Nat.lt_of_le_of_lt (Nat.sub_le _ _) t.isLt⟩

theorem rowPt_self (t : Fin cfg1.N) (r : Fin 8) (h : r.val = t.val % 8) : rowPt t r = t := Fin.ext (by unfold rowPt; dsimp only; omega)

section
variable (W : Dev nD → Valuation τ sig (Elt F))

/-- Window `w`'s block at point `t` of the arrays at `W`. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The loss block that `t` lies in, every row at what its own point writes. -/
def lossAll (c : Dev nD) (t : Fin cfg1.N) : Vec F S20x8x2048 .f32 := fun y =>
  lossG (iblk1 W c 0 (rowPt t (y 1))) (iblk1 W c 1 (rowPt t (y 1))) (k1_pay147 (iblk1 W c 2 (rowPt t (y 1)))) (gramG (iblk1 W c 0 (rowPt t (y 1))) (iblk1 W c 2 (rowPt t (y 1)))) y

/-- The scale block that `t` lies in. -/
def scaleAll (c : Dev nD) (t : Fin cfg1.N) : Vec F S20x8x2048 .f32 := fun y =>
  scaleG (iblk1 W c 0 (rowPt t (y 1))) (iblk1 W c 1 (rowPt t (y 1))) y

/-- What the second call's pipeline holds. -/
def dat1 (c : Dev nD) : Dat τ (Elt F) Unit ℕ (UU nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => lossAll W c t
    | ⟨4, _⟩ => codeG (iblk1 W c 0 t) (iblk1 W c 1 t)
    | ⟨5, _⟩ => scaleAll W c t
  Φ _ := Pipeline.scopedRest spec1 c
  q _ := fullShare
  owed _ := 0

/-- The windows whose block several grid points fill row by row. -/
def fgt1 : Fin cfg1.W → Bool
  | ⟨0, _⟩ => false | ⟨1, _⟩ => false | ⟨2, _⟩ => false | ⟨3, _⟩ => true | ⟨4, _⟩ => false | ⟨5, _⟩ => true

/-- After point `t` the rows up to the point's own are written. -/
def Rl1 (c : Dev nD) (w : Fin cfg1.W) (t : Fin cfg1.N) (X : (cfg1.win w).block.Idx → Elt F (cfg1.win w).elt) : Prop :=
  match w, X with
  | ⟨0, _⟩, _ => True
  | ⟨1, _⟩, _ => True
  | ⟨2, _⟩, _ => True
  | ⟨3, _⟩, X => ∀ y : S20x8x2048.Idx, (y 1).val ≤ t.val % 8 → X y = lossAll W c t y
  | ⟨4, _⟩, _ => True
  | ⟨5, _⟩, X => ∀ y : S20x8x2048.Idx, (y 1).val ≤ t.val % 8 → X y = scaleAll W c t y

theorem dat1_A (c : Dev nD) (w : Fin cfg1.W) : (dat1 W c).A w = W c (Proc.devRef .tc (Pipeline.arrRef spec1 w)) := by dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = lossAll W c t := by dsimp only [dat1]
theorem after1_4 (c : Dev nD) (t : Fin cfg1.N) : (dat1 W c).after 4 t = codeG (iblk1 W c 0 t) (iblk1 W c 1 t) := by dsimp only [dat1]
theorem after1_5 (c : Dev nD) (t : Fin cfg1.N) : (dat1 W c).after 5 t = scaleAll W c t := by dsimp only [dat1]

theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)

/-- A marked window is found with the rows of the earlier points of its block written. -/
theorem finds1 (c : Dev nD) (w : Fin cfg1.W) (hw : fgt1 w = true) (hout : (cfg1.win w).isOut = true)
    (hflush : ∀ t : Fin cfg1.N, (cfg1.win w).flush t = true ↔ t.val % 8 = 7) (t : Fin cfg1.N) (ht : t.val % 8 ≠ 0)
    (Y : (cfg1.win w).block.Idx → Elt F (cfg1.win w).elt)
    (h : ((dat1 W c).toRRel fgt1 (Rl1 W c)).Finds w t Y) : Rl1 W c w (prevPt t) Y := by
  unfold RDat.Finds at h
  have h0 : ¬ (cfg1.win w).fetch t = true := by rw [(cfg1.win w).fetch_out hout]; exact Bool.false_ne_true
  have h1 : ¬ t.val = 0 := fun e => ht (by rw [e])
  have h2 : ¬ (cfg1.win w).flush (prevPt t) = true := fun e => by have := (hflush _).mp e; unfold prevPt at this; dsimp only at this; omega
  rw [if_neg h0, if_neg h1] at h
  obtain ⟨Z, -, hZ⟩ := (show ∃ Z, _ from (if_neg h2 : (if (cfg1.win w).flush (prevPt t) = true then True else _) = _) ▸ h)
  rw [(dat1 W c).toRRel_after_of_eq_true hw] at hZ
  exact hZ

theorem lossRow_rl (c : Dev nD) (t : Fin cfg1.N) (Y : (cfg1.win 3).block.Idx → Elt F (cfg1.win 3).elt)
    (h : ((dat1 W c).toRRel fgt1 (Rl1 W c)).Finds 3 t Y) :
    Rl1 W c 3 t (lossRow (iblk1 W c 0 t) (iblk1 W c 1 t) (iblk1 W c 2 t) (t.val % 8) Y) := by
  intro y hy
  show (if (y 1).val = t.val % 8 then _ else Y y) = _
  split
  next e => unfold lossAll; rw [rowPt_self t (y 1) e]
  next e =>
    have h1 := finds1 W c 3 rfl rfl flush1_3 t (fun e' => by omega) Y h y (by unfold prevPt; dsimp only; omega)
    rw [h1]; unfold lossAll
    rw [show rowPt (prevPt t) (y 1) = rowPt t (y 1) from Fin.ext (by unfold rowPt prevPt; dsimp only; omega)]

theorem scaleRow_rl (c : Dev nD) (t : Fin cfg1.N) (Y : (cfg1.win 5).block.Idx → Elt F (cfg1.win 5).elt)
    (h : ((dat1 W c).toRRel fgt1 (Rl1 W c)).Finds 5 t Y) :
    Rl1 W c 5 t (scaleRow (iblk1 W c 0 t) (iblk1 W c 1 t) (t.val % 8) Y) := by
  intro y hy
  show (if (y 1).val = t.val % 8 then _ else Y y) = _
  split
  next e => unfold scaleAll; rw [rowPt_self t (y 1) e]
  next e =>
    have h1 := finds1 W c 5 rfl rfl flush1_5 t (fun e' => by omega) Y h y (by unfold prevPt; dsimp only; omega)
    rw [h1]; unfold scaleAll
    rw [show rowPt (prevPt t) (y 1) = rowPt t (y 1) from Fin.ext (by unfold rowPt prevPt; dsimp only; omega)]

theorem defs₀_row1 (t : Fin cfg1.N) : defs₀ (F := F) .tc cfg1.body (cfg1.bodyArgs t (cfg1.slots t)) = bodyAt1 t := by
  unfold defs₀; rw [Defs.onTc_tc]

/-- The second call's body obligation. -/
theorem body_obligation1 (c : Dev nD) : BodyObligationRel (dat1 W c) (defs₀ (F := F)) 𝒱₀ () Set.univ fgt1 (Rl1 W c) := fun t => by
  rw [bigSep_W1, bigSep_W1, defs₀_row1]
  refine triple_restated (P := iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ Y, ⌜((dat1 W c).toRRel fgt1 (Rl1 W c)).Finds 3 t Y⌝ ∗ owns (c : Thread nD τ) (st1_3 t) fullShare Y)
    ∗ (∃ d, owns (c : Thread nD τ) (st1_4 t) fullShare ((dat1 W c).before 4 t d))
    ∗ (∃ Y, ⌜((dat1 W c).toRRel fgt1 (Rl1 W c)).Finds 5 t Y⌝ ∗ owns (c : Thread nD τ) (st1_5 t) fullShare Y)))
    (Q := fun _ => iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ (∃ X, ⌜Rl1 W c 3 t X⌝ ∗ owns (c : Thread nD τ) (st1_3 t) fullShare X)
    ∗ owns (c : Thread nD τ) (st1_4 t) fullShare ((dat1 W c).after 4 t)
    ∗ (∃ X, ⌜Rl1 W c 5 t X⌝ ∗ owns (c : Thread nD τ) (st1_5 t) fullShare X))) ?_ rfl .rfl fun _ => .rfl
  unfold bodyAt1
  simp only [before1_0, before1_1, before1_2]
  rw [show (dat1 W c).Φ t.succ = Pipeline.scopedRest spec1 c from rfl, show (dat1 W c).Φ t.castSucc = Pipeline.scopedRest spec1 c from rfl,
    show (dat1 W c).owesAt () t.succ = (dat1 W c).owesAt () t.castSucc from rfl, after1_0, after1_1, after1_2, after1_4, scopedRest1_eq]
  iintro ⟨⟨Ha, Hb, Hc, Hd, He, ⟨%f7, H7⟩⟩, Ho, ⟨%d0, H0⟩, ⟨%d1, H1⟩, ⟨%d2, H2⟩, ⟨%Y4, %hY4, H4⟩, ⟨%d5, H5⟩, ⟨%Y6, %hY6, H6⟩⟩
  iapply (sound_clipK c _ _ _ _ _ _ _ _ _ _ _ _ _ (Memref.whole cc1_scratch0) _ (iblk1 W c 0 t) (iblk1 W c 1 t) (iblk1 W c 2 t) Y4 Y6 _)
  isplitl [H0 H1 H2 H4 H5 H6 H7]
  · isplitl [H0]; · iexact H0
    isplitl [H1]; · iexact H1
    isplitl [H2]; · iexact H2
    isplitl [H4]; · iexact H4
    isplitl [H5]; · iexists _; iexact H5
    isplitl [H6]; · iexact H6
    iexists f7; rw [hold_whole]; iexact H7
  · iintro ⟨H0, H1, H2, H4, H5, H6, ⟨%f, H7⟩⟩
    rw [coords1]
    isplitl [Ha Hb Hc Hd He H7]
    · isplitl [Ha]; · iexact Ha
      isplitl [Hb]; · iexact Hb
      isplitl [Hc]; · iexact Hc
      isplitl [Hd]; · iexact Hd
      isplitl [He]; · iexact He
      iexists f; rw [← hold_whole c cc1_scratch0 f]; iexact H7
    isplitl [Ho]; · iexact Ho
    isplitl [H0]; · iexact H0
    isplitl [H1]; · iexact H1
    isplitl [H2]; · iexact H2
    isplitl [H4]
    · iexists _; isplitr; swap; · iexact H4
      ipureintro; exact lossRow_rl W c t Y4 hY4
    isplitl [H5]; · iexact H5
    iexists _; isplitr; swap; · iexact H6
    ipureintro; exact scaleRow_rl W c t Y6 hY6

end

end Cert.KernelIdeal.Clip

end
-- ==== Proof.KernelIdealRun.lean ====
/- The whole launch: both calls between the host stretches, every unscoped buffer read at the end. -/
module

public import proofs.«01_k».proof.Proof.RelRegion
public import Idealize.ShloMosaic.Lib.Pipeline.RegionArraysS
public import proofs.«01_k».proof.Proof.KernelIdealGramRegion
public import proofs.«01_k».proof.Proof.KernelIdealClipRegion

@[expose] public section

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg afterRegion)

variable {F : FTy → Type} [FloatOps F]

local notation "𝕄" => MT nD τ sig Unit (Elt F) ℕ (UU nD τ) ℕ

section
variable (W0 W1 : Dev nD → Valuation τ sig (Elt F))

def pdats : (p : Fin 2) → (c : Dev nD) → Dat τ (Elt F) Unit ℕ (UU nD τ) ℕ (cfgs p) c
  | ⟨0, _⟩, c => dat0 W0 c
  | ⟨1, _⟩, c => dat1 W1 c

/-- The windows proved relationally. -/
def fg : (p : Fin 2) → Fin (cfgs p).W → Bool
  | ⟨0, _⟩ => fun _ => false
  | ⟨1, _⟩ => fgt1

def Rls : (p : Fin 2) → (c : Dev nD) → (w : Fin (cfgs p).W) → Fin (cfgs p).N → (((cfgs p).win w).block.Idx → Elt F ((cfgs p).win w).elt) → Prop
  | ⟨0, _⟩ => fun _ _ _ _ => True
  | ⟨1, _⟩ => fun c => Rl1 W1 c

theorem exact0 (c : Dev nD) : RelRegion.Exact (dat0 W0 c) (fun _ => false) (fun _ _ _ => True) := fun _ h => absurd h Bool.false_ne_true

theorem exact1 (c : Dev nD) : RelRegion.Exact (dat1 W1 c) fgt1 (Rl1 W1 c)
  | ⟨0, _⟩, h => absurd h Bool.false_ne_true
  | ⟨1, _⟩, h => absurd h Bool.false_ne_true
  | ⟨2, _⟩, h => absurd h Bool.false_ne_true
  | ⟨3, _⟩, _ => fun u hu X hX => by
      have h7 := (flush1_3 u).mp hu
      refine funext fun y => (hX y ?_).trans ?_
      · rw [h7]; exact Nat.le_of_lt_succ (y 1).isLt
      · rfl
  | ⟨4, _⟩, h => absurd h Bool.false_ne_true
  | ⟨5, _⟩, _ => fun u hu X hX => by
      have h7 := (flush1_5 u).mp hu
      refine funext fun y => (hX y ?_).trans ?_
      · rw [h7]; exact Nat.le_of_lt_succ (y 1).isLt
      · rfl

/-- No level is assigned. -/
def noL : GSem nD τ sig → Finset Unit := fun _ => ∅
def noLv : GSem nD τ sig → Unit → ℕ := fun _ _ => 0

abbrev rdats : (p : Fin 2) → (c : Dev nD) → RDat τ (Elt F) Unit ℕ (UU nD τ) ℕ (cfgs p) c := RelRegion.rels (pcfgs (F := F)) adm (pdats W0 W1) fg (Rls W1)

theorem hbody0 (c : Dev nD) : ((dat0 W0 c).toRRel (fun _ => false) (fun _ _ _ => True)).BodyObligation (defs₀ (F := F)) 𝒱₀ () Set.univ :=
  (body_obligation0 W0 c).loose.toR

theorem hbody1 (c : Dev nD) : ((dat1 W1 c).toRRel fgt1 (Rl1 W1 c)).BodyObligation (defs₀ (F := F)) 𝒱₀ () Set.univ :=
  (body_obligation1 W1 c).toRRel

set_option maxHeartbeats 4000000 in
theorem hbodyP0 (c : Dev nD) : (RelRegion.rels (pcfgs (F := F)) adm (pdats W0 W1) fg (Rls W1) 0 c).BodyObligation (defs₀ (F := F)) 𝒱₀ () Set.univ := hbody0 W0 c
theorem howed0 (c : Dev nD) (t) : (pdats W0 W1 0 c).owed t = 0 := rfl
theorem hrec0 (c : Dev nD) : (pdats W0 W1 0 c).recorded 0 = Set.univ := rfl
theorem hshare0 (c : Dev nD) (w) : (pdats W0 W1 0 c).share w = fullShare := (dat0 W0 c).share_full (fun _ => rfl) w
seal Pipeline.scopedRest in
theorem hΦ0 (c : Dev nD) (t) : (pdats W0 W1 0 c).Φ t = Pipeline.scopedRest (Pipeline.pin (pcfgs (F := F)) adm 0).spec c := rfl
set_option maxHeartbeats 4000000 in
theorem hA0 (c : Dev nD) (w) : (pdats W0 W1 0 c).arrAt w 0 = W0 c (Proc.devRef .tc (Pipeline.arrRef (Pipeline.pin (pcfgs (F := F)) adm 0).spec w)) := rfl
set_option maxHeartbeats 4000000 in
theorem hE0 (c : Dev nD) : RelRegion.Exact (pdats W0 W1 0 c) (fg 0) (Rls W1 0 c) := exact0 W0 c

theorem unscoped0 : ∀ w : Fin 3, (Pipeline.arrRef spec0 w).isScoped = false := by decide

def reg0 : RDat.RegionSeg (pcfgs (F := F)) adm (rdats W0 W1) () defs₀ 𝒱₀ noL noLv 0 :=
  RelRegion.relRegion (pcfgs (F := F)) adm (pdats W0 W1) () defs₀ 𝒱₀ noL noLv fg (Rls W1) 0 launch0.toP rfl unscoped0
    (hbodyP0 W0 W1) (howed0 W0 W1) (hrec0 W0 W1) (hshare0 W0 W1) (hΦ0 W0 W1) (hE0 W0 W1) W0 (hA0 W0 W1)

set_option maxHeartbeats 4000000 in
theorem hbodyP1 (c : Dev nD) : (RelRegion.rels (pcfgs (F := F)) adm (pdats W0 W1) fg (Rls W1) 1 c).BodyObligation (defs₀ (F := F)) 𝒱₀ () Set.univ := hbody1 W1 c
theorem howed1 (c : Dev nD) (t) : (pdats W0 W1 1 c).owed t = 0 := rfl
theorem hrec1 (c : Dev nD) : (pdats W0 W1 1 c).recorded 0 = Set.univ := rfl
theorem hshare1 (c : Dev nD) (w) : (pdats W0 W1 1 c).share w = fullShare := (dat1 W1 c).share_full (fun _ => rfl) w
seal Pipeline.scopedRest in
theorem hΦ1 (c : Dev nD) (t) : (pdats W0 W1 1 c).Φ t = Pipeline.scopedRest (Pipeline.pin (pcfgs (F := F)) adm 1).spec c := rfl
set_option maxHeartbeats 4000000 in
theorem hA1 (c : Dev nD) (w) : (pdats W0 W1 1 c).arrAt w 0 = W1 c (Proc.devRef .tc (Pipeline.arrRef (Pipeline.pin (pcfgs (F := F)) adm 1).spec w)) := rfl
set_option maxHeartbeats 4000000 in
theorem hE1 (c : Dev nD) : RelRegion.Exact (pdats W0 W1 1 c) (fg 1) (Rls W1 1 c) := exact1 W1 c

theorem unscoped1 : ∀ w : Fin 6, (Pipeline.arrRef spec1 w).isScoped = false := by decide

def reg1 : RDat.RegionSeg (pcfgs (F := F)) adm (rdats W0 W1) () defs₀ 𝒱₀ noL noLv 1 :=
  RelRegion.relRegion (pcfgs (F := F)) adm (pdats W0 W1) () defs₀ 𝒱₀ noL noLv fg (Rls W1) 1 launch1.toP rfl unscoped1
    (hbodyP1 W0 W1) (howed1 W0 W1) (hrec1 W0 W1) (hshare1 W0 W1) (hΦ1 W0 W1) (hE1 W0 W1) W1 (hA1 W0 W1)

end

variable (m : (ℓ : Loc nD τ sig) → Buf (Elt F) ℓ)

/-- The buffers after the first call. -/
def Wb (c : Dev nD) : Valuation τ sig (Elt F) := afterRegion (dat0 (V1 m) c) (V1 m c)
/-- The buffers after the second call. -/
def Wc (c : Dev nD) : Valuation τ sig (Elt F) := afterRegion (dat1 (Wb m) c) (Wb m c)
/-- The buffers at the end. -/
def Wd (c : Dev nD) : Valuation τ sig (Elt F) := StableHlo.after hostOps2 (Wc m c)

/-- The host stretch after the calls. -/
def tail : HostSeg (Ix := Unit) (Name := ℕ) (U := UU nD τ) (Lvl := ℕ) (pcfgs (F := F)) defs₀ 𝒱₀ noL noLv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Wc m) RelRegion.idle

abbrev items (c : Dev nD) : List (RDat.Seg (pcfgs (F := F)) adm (rdats (V1 m) (Wb m)) () defs₀ 𝒱₀ noL noLv) :=
  [.host (seg0 m 𝒱₀ noL noLv fun _ => RelRegion.idle), .region (reg0 (V1 m) (Wb m)), .region (reg1 (V1 m) (Wb m)), .host (tail m)]

set_option maxHeartbeats 2000000 in
set_option backward.isDefEq.respectTransparency.types false in
/-- Every run ends; at the end every unscoped buffer of a core is at `Wd` and every semaphore counter at zero. -/
theorem run_all (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = Wd m c b) ∧ r.2.sem = fun _ => 0) := by
  refine Pipeline.RDat.θ_run_regions_kit_dev_sems (pcfgs (F := F)) adm (rdats (V1 m) (Wb m)) () cellOf_inj emb₁ defs₀ 𝒱₀ noL noLv m ρ main
    (items m)
    (fun c Q => by
      rewrite [main_chain c, RDat.Seg.run_eq_chain,
        show (items m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RelRegion.idle c))
    (Tₙ := fun c => StableHlo.held (c : Thread nD τ) (Pipeline.ucRefs τ sig) (Wd m c))
    (hch := fun c => ⟨.rfl, .rfl, .rfl, .rfl, .rfl⟩)
    (hinit := ?_) (QY := fun c s => ∀ b ∈ Pipeline.ucRefs τ sig, s.mem ((c : Thread nD τ).1, b) = Wd m c b)
    (hfin := fun c s' => ?_) (hQ := fun _ h hz => ⟨h, funext fun g => hz g (.inr (regions_no_unscoped g.2))⟩)
  · refine Pipeline.initEach noL noLv fun c => ?_
    rw [← Pipeline.unscopedBufs_held (Ix := Unit) (Name := ℕ) (U := UU nD τ) (Lvl := ℕ) c (V0 m c)]
    iintro ⟨⟨Hh, -, HO, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (Wd m c) s') $$ [Hh HSI]
    · isplitl [Hh] <;> iassumption
    icases Hr with ⟨%h, HSI⟩
    imodintro
    isplitr
    · ipureintro; exact h
    · iexact HSI

/-- A buffer that nothing writes is at the end as at the launch. -/
theorem Wd_keeps (c : Dev nD) (r : Ref sig .tc) (h0 : r ∉ hostOps0_W) (h2 : r ∉ hostOps2_W)
    (hr0 : ∀ w : Fin 3, Pipeline.arrRef spec0 w = r → (spec0 w).isOut = false) (hr1 : ∀ w : Fin 6, Pipeline.arrRef spec1 w = r → (spec1 w).isOut = false) :
    Wd m c (Proc.devRef .tc r) = m ((c.tc : Thread nD τ).loc r) :=
  (StableHlo.after_of_writes_sub hostOps2 _ hostOps2_writes h2).trans <|
    (Pipeline.afterRegion_keeps (dat1 (Wb m) c) (Wb m c) winFacts1.arr_inj (fun _ => rfl) r hr1).trans <|
      (Pipeline.afterRegion_keeps (dat0 (V1 m) c) (V1 m c) winFacts0.arr_inj (fun _ => rfl) r hr0).trans <|
        (V1_of m c r h0).trans rfl

theorem mem_ucRefs (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- The arguments end as launched, and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h.1 c _ (mem_ucRefs main_arg0 (by decide))).trans (Wd_keeps m c main_arg0 (by decide) (by decide) (by decide) (by decide)),
     (h.1 c _ (mem_ucRefs main_arg1 (by decide))).trans (Wd_keeps m c main_arg1 (by decide) (by decide) (by decide) (by decide)),
     (h.1 c _ (mem_ucRefs main_arg2 (by decide))).trans (Wd_keeps m c main_arg2 (by decide) (by decide) (by decide) (by decide))⟩, h.2⟩) (run_all m ρ)

/-- The results at the end, with the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v10) = Wd m c (Proc.devRef .tc main_v10)
      ∧ r.2.mem ((c.tc : Thread nD τ).loc main_v11) = Wd m c (Proc.devRef .tc main_v11)
      ∧ r.2.mem ((c.tc : Thread nD τ).loc main_v12) = Wd m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h.1 c _ (mem_ucRefs main_v10 (by decide)), h.1 c _ (mem_ucRefs main_v11 (by decide)), h.1 c _ (mem_ucRefs main_v12 (by decide)),
     (h.1 c _ (mem_ucRefs main_arg0 (by decide))).trans (Wd_keeps m c main_arg0 (by decide) (by decide) (by decide) (by decide)),
     (h.1 c _ (mem_ucRefs main_arg1 (by decide))).trans (Wd_keeps m c main_arg1 (by decide) (by decide) (by decide) (by decide)),
     (h.1 c _ (mem_ucRefs main_arg2 (by decide))).trans (Wd_keeps m c main_arg2 (by decide) (by decide) (by decide) (by decide))⟩) (run_all m ρ)

end Cert.KernelIdeal.Clip
-- ==== Proof.ClipMath.lean ====
/- The arithmetic of the clip search over the extended reals: the kernel's form of the scale, the codes and the loss is the
   reference's, for finite weights and a finite symmetric Gram matrix. -/
module

public import Idealize.ShloMosaic.Lib.Pipeline.ValueKit
public import Idealize.ShloMosaic.Lib.IdealHost

@[expose] public section

set_option maxRecDepth 16384

noncomputable section

namespace Cert.ClipMath

open Idealize.ShloMosaic

theorem seven : Ideal.ofBits .f32 0x40E00000#32 = ((7 : ℝ) : EReal) := by
  simp [Ideal.ofBits, Ideal.ieee, -EReal.coe_mul]; norm_num
theorem negSeven : Ideal.ofBits .f32 0xC0E00000#32 = ((-7 : ℝ) : EReal) := by
  simp [Ideal.ofBits, Ideal.ieee, -EReal.coe_mul, -EReal.coe_neg]; norm_num
theorem forty : Ideal.ofBits .f32 0x42200000#32 = ((40 : ℝ) : EReal) := by
  simp [Ideal.ofBits, Ideal.ieee, -EReal.coe_mul]; norm_num
theorem negInf : Ideal.ofBits .f32 0xFF800000#32 = ⊥ := by
  simp [Ideal.ofBits, Ideal.ieee]

/-! ### The two programs' expressions -/

/-- The largest magnitude of a group of weights. -/
def amax (g : Fin 128 → EReal) : EReal := Finset.fold max (Ideal.ofBits .f32 0xFF800000#32) (fun x => max (g x) (-(g x))) Finset.univ

/-- The scale at clip ratio `r`. -/
def scale (r : EReal) (g : Fin 128 → EReal) : EReal :=
  if amax g = 0 then 1 else Ideal.div (r * amax g) (Ideal.ofBits .f32 0x40E00000#32)

/-- The scale at ratio 1. -/
def scale1 (g : Fin 128 → EReal) : EReal := if amax g = 0 then 1 else Ideal.div (amax g) (Ideal.ofBits .f32 0x40E00000#32)

/-- The code, as the kernel computes it: clipped, then rounded. -/
def codeK (r : EReal) (g : Fin 128 → EReal) (i : Fin 128) : BitVec 8 :=
  Ideal.fptosi 8 (Ideal.liftRound Ideal.roundHalfEven
    (min (Ideal.ofBits .f32 0x40E00000#32) (max (Ideal.ofBits .f32 0xC0E00000#32) (g i * Ideal.div 1 (scale r g)))))

/-- The code, as the reference computes it: rounded, then clipped. -/
def code (r : EReal) (g : Fin 128 → EReal) (i : Fin 128) : BitVec 8 :=
  Ideal.fptosi 8 (min (Ideal.ofBits .f32 0x40E00000#32) (max (Ideal.ofBits .f32 0xC0E00000#32)
    (Ideal.liftRound Ideal.roundHalfEven (Ideal.div (g i) (scale r g)))))

/-- Two codes in one byte, through 32-bit words. -/
def packK (a b : BitVec 8) : BitVec 8 :=
  BitVec.setWidth 8 (IntOp.ori (IntOp.andi (BitVec.signExtend 32 a) 15#32) (IntOp.shli .vector (IntOp.andi (BitVec.signExtend 32 b) 15#32) 4#32))

/-- Two codes in one byte. -/
def pack (a b : BitVec 8) : BitVec 8 := IntOp.ori (IntOp.andi a 15#8) (IntOp.shli .vector (IntOp.andi b 15#8) 4#8)

/-- A code as a number. -/
def val (b : BitVec 8) : EReal := ((b.toInt : ℝ) : EReal)

/-- The quantisation error of a weight. -/
def err (r : EReal) (g : Fin 128 → EReal) (i : Fin 128) : EReal := g i - val (code r g i) * scale r g

/-- The loss, as the reference computes it. -/
def loss (r : EReal) (g : Fin 128 → EReal) (G : Fin 128 → Fin 128 → EReal) : EReal :=
  0 + ∑ j, (∑ i, G i j * err r g i) * err r g j

/-- The loss, as the kernel computes it. -/
def lossK (r : EReal) (g : Fin 128 → EReal) (G : Fin 128 → Fin 128 → EReal) : EReal :=
  (∑ i, (g i * Ideal.div 1 (scale r g) - val (codeK r g i)) *
    ((∑ j, G i j * g j) * Ideal.div 1 (scale1 g) - ∑ j, G i j * r * val (codeK r g j))) * (scale r g * scale1 g)

/-! ### Packing -/

theorem packK_eq (a b : BitVec 8) : packK a b = pack a b := by
  unfold packK pack
  have e : ∀ x : BitVec 8, BitVec.setWidth 8 (BitVec.signExtend 32 x) = x := fun x => by
    apply BitVec.eq_of_getLsbD_eq
    intro i hi
    simp only [BitVec.getLsbD_setWidth, BitVec.getLsbD_signExtend, hi, decide_true, Bool.true_and, if_true, show i < 32 by omega]
  have sh : ∀ x : BitVec 32, BitVec.setWidth 8 (x <<< 4) = BitVec.setWidth 8 x <<< 4 := fun x => by
    apply BitVec.eq_of_getLsbD_eq
    intro i hi
    simp only [BitVec.getLsbD_setWidth, BitVec.getLsbD_shiftLeft, hi, decide_true, Bool.true_and, show i < 32 by omega, show i - 4 < 8 by omega]
  have sl : ∀ x : BitVec 32, IntOp.shli .vector x 4#32 = x <<< 4 := fun x => rfl
  have sl8 : ∀ x : BitVec 8, IntOp.shli .vector x 4#8 = x <<< 4 := fun x => rfl
  rw [sl, sl8]
  show BitVec.setWidth 8 ((BitVec.signExtend 32 a &&& 15#32) ||| ((BitVec.signExtend 32 b &&& 15#32) <<< 4)) = (a &&& 15#8) ||| ((b &&& 15#8) <<< 4)
  rw [BitVec.setWidth_or, sh, BitVec.setWidth_and, BitVec.setWidth_and, e, e]
  rfl

/-! ### Rounding -/

theorem round_le {x : ℝ} {n : ℤ} (h : x ≤ n) : Ideal.roundHalfEven x ≤ n := by
  have hf : ⌊x⌋ ≤ n := by exact_mod_cast (Int.floor_le x).trans h
  unfold Ideal.roundHalfEven
  dsimp only
  rcases hf.eq_or_lt with he | hl
  · have : x - (⌊x⌋ : ℝ) < 1 / 2 := by rw [he]; linarith
    rw [if_pos this]; exact hf
  · split_ifs <;> omega

theorem le_round {x : ℝ} {n : ℤ} (h : (n : ℝ) ≤ x) : n ≤ Ideal.roundHalfEven x := by
  have hf : n ≤ ⌊x⌋ := Int.le_floor.2 h
  unfold Ideal.roundHalfEven
  dsimp only
  split_ifs <;> omega

theorem round_clip (t : ℝ) : ((Ideal.roundHalfEven (min 7 (max (-7) t)) : ℤ) : ℝ) = min 7 (max (-7) (Ideal.roundHalfEven t : ℝ)) := by
  have r7 : Ideal.roundHalfEven 7 = 7 := le_antisymm (round_le (by norm_num)) (le_round (by norm_num))
  have rm7 : Ideal.roundHalfEven (-7) = -7 := le_antisymm (round_le (by norm_num)) (le_round (by norm_num))
  rcases le_total t (-7) with h | h
  · have h1 : Ideal.roundHalfEven t ≤ -7 := round_le (by exact_mod_cast h)
    have h2 : (Ideal.roundHalfEven t : ℝ) ≤ -7 := by exact_mod_cast h1
    rw [max_eq_left h, max_eq_left h2, min_eq_right (by norm_num), rm7]; norm_num
  · have h1 : -7 ≤ Ideal.roundHalfEven t := le_round (by exact_mod_cast h)
    have h2 : (-7 : ℝ) ≤ (Ideal.roundHalfEven t : ℝ) := by exact_mod_cast h1
    rw [max_eq_right h, max_eq_right h2]
    rcases le_total t 7 with k | k
    · have k1 : Ideal.roundHalfEven t ≤ 7 := round_le (by exact_mod_cast k)
      have k2 : (Ideal.roundHalfEven t : ℝ) ≤ 7 := by exact_mod_cast k1
      rw [min_eq_right k, min_eq_right k2]
    · have k1 : 7 ≤ Ideal.roundHalfEven t := le_round (by exact_mod_cast k)
      have k2 : (7 : ℝ) ≤ (Ideal.roundHalfEven t : ℝ) := by exact_mod_cast k1
      rw [min_eq_left k, min_eq_left k2, r7]; norm_num

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem div_real {y : ℝ} (h : y ≠ 0) (x : ℝ) : Ideal.div (x : EReal) (y : EReal) = ((x * (1 / y) : ℝ) : EReal) := by
  rw [Ideal.div_coe h]; exact (EReal.coe_mul _ _).symm

theorem one_div_real {y : ℝ} (h : y ≠ 0) : Ideal.div 1 (y : EReal) = ((1 / y : ℝ) : EReal) := by
  rw [Ideal.div_coe h, one_mul]

/-! ### The clip ratios -/

/-- Clip ratio `k`: one minus `k` fortieths. -/
def rat (k : Fin 20) : EReal := 1 - Ideal.div (FloatOps.sitofp (F := Ideal) .f32 (BitVec.ofNat 32 k.val)) (Ideal.ofBits .f32 0x42200000#32)

theorem rat_real (k : Fin 20) : ∃ ρ : ℝ, 0 < ρ ∧ rat k = (ρ : EReal) := by
  have e : (BitVec.ofNat 32 k.val).toInt = (k.val : ℤ) := by revert k; decide
  have h : (k.val : ℝ) < 20 := by exact_mod_cast k.isLt
  refine ⟨1 - k.val * (1 / 40), by linarith, ?_⟩
  unfold rat
  rw [forty]
  show 1 - Ideal.div (((BitVec.ofNat 32 k.val).toInt : ℝ) : EReal) _ = _
  rw [e, div_real (by norm_num)]
  push_cast
  rfl

/-! ### Finite values -/

/-- A value whose magnitude is below infinity is a real. -/
theorem real_of_abs_lt {x : EReal} (h : max x (-x) < ⊤) : ∃ r : ℝ, x = (r : EReal) := by
  induction x with
  | bot => simp at h
  | top => simp at h
  | coe r => exact ⟨r, rfl⟩

/-! ### Scales and codes of finite weights -/

section
variable (w : Fin 128 → ℝ)

theorem amax_real : ∃ a : ℝ, amax (fun i => (w i : EReal)) = (a : EReal) ∧ ∀ i, |w i| ≤ a := by
  have hge : ∀ i, ((|w i| : ℝ) : EReal) ≤ amax (fun i => (w i : EReal)) := fun i => by
    unfold amax
    rw [Finset.le_fold_max]
    refine .inr ⟨i, Finset.mem_univ i, ?_⟩
    rw [← EReal.coe_neg, coe_max, abs_eq_max_neg]
  have hlt : amax (fun i => (w i : EReal)) < ⊤ := by
    unfold amax
    rw [Finset.fold_max_lt]
    refine ⟨by rw [negInf]; exact bot_lt_top, fun i _ => ?_⟩
    rw [← EReal.coe_neg, coe_max]; exact EReal.coe_lt_top _
  have hb : ⊥ < amax (fun i => (w i : EReal)) := lt_of_lt_of_le (EReal.bot_lt_coe _) (hge 0)
  refine ⟨(amax (fun i => (w i : EReal))).toReal, (EReal.coe_toReal hlt.ne hb.ne').symm, fun i => ?_⟩
  have h := hge i
  rw [← EReal.coe_toReal hlt.ne hb.ne'] at h
  exact EReal.coe_le_coe_iff.1 h

/-- The scales are positive reals; a group of zeros has zero weights; and otherwise the scale is the ratio times the scale at 1. -/
theorem scales_real (ρ : ℝ) (hρ : 0 < ρ) : ∃ σ s : ℝ, scale ρ (fun i => (w i : EReal)) = (σ : EReal) ∧ scale1 (fun i => (w i : EReal)) = (s : EReal) ∧
    σ ≠ 0 ∧ s ≠ 0 ∧ ((∀ i, w i = 0) ∨ s * ρ = σ) := by
  obtain ⟨a, ha, hw⟩ := amax_real w
  unfold scale scale1
  rw [ha, seven]
  by_cases h0 : a = 0
  · rw [if_pos (by rw [h0]; rfl), if_pos (by rw [h0]; rfl)]
    refine ⟨1, 1, rfl, rfl, one_ne_zero, one_ne_zero, .inl fun i => ?_⟩
    have := hw i; rw [h0] at this; exact abs_nonpos_iff.1 this
  · have hp : 0 < a := lt_of_le_of_ne ((abs_nonneg _).trans (hw 0)) (Ne.symm h0)
    have hc : ¬ ((a : EReal) = 0) := by exact_mod_cast h0
    rw [if_neg hc, if_neg hc, ← EReal.coe_mul, div_real (by norm_num), div_real (by norm_num)]
    refine ⟨_, _, rfl, rfl, by positivity, by positivity, .inr ?_⟩
    ring

theorem codeK_eq (ρ : ℝ) (hρ : 0 < ρ) (i : Fin 128) : codeK ρ (fun i => (w i : EReal)) i = code ρ (fun i => (w i : EReal)) i := by
  obtain ⟨σ, s, hσ, -, h0, -, -⟩ := scales_real w ρ hρ
  unfold codeK code
  rw [hσ, one_div_real h0, div_real h0, seven, negSeven, ← EReal.coe_mul, coe_max, coe_min, Ideal.liftRound_coe, Ideal.liftRound_coe, coe_max, coe_min, round_clip]

theorem code_zero (ρ : ℝ) (hρ : 0 < ρ) (h : ∀ i, w i = 0) (i : Fin 128) : code ρ (fun i => (w i : EReal)) i = 0#8 := by
  obtain ⟨σ, s, hσ, -, h0, -, -⟩ := scales_real w ρ hρ
  have r0 : Ideal.roundHalfEven 0 = 0 := le_antisymm (round_le (by norm_num)) (le_round (by norm_num))
  unfold code
  rw [hσ, div_real h0, h i, zero_mul, Ideal.liftRound_coe, r0, seven, negSeven, coe_max, coe_min]
  rw [show min (7 : ℝ) (max (-7) ((0 : ℤ) : ℝ)) = 0 by norm_num]
  unfold Ideal.fptosi
  rw [Ideal.toIntClamped_coe]; simp

end

/-! ### The loss -/

theorem loss_real (w c : Fin 128 → ℝ) (γ : Fin 128 → Fin 128 → ℝ) (sym : ∀ i j, γ i j = γ j i) (σ s ρ : ℝ) (hσ : σ ≠ 0) (hs : s ≠ 0)
    (h : ∀ j, s * ρ * c j = σ * c j) :
    (∑ i, (w i * (1 / σ) - c i) * ((∑ j, γ i j * w j) * (1 / s) - ∑ j, γ i j * ρ * c j)) * (σ * s)
      = ∑ j, (∑ i, γ i j * (w i - c i * σ)) * (w j - c j * σ) := by
  rw [Finset.sum_mul]
  refine Finset.sum_congr rfl fun i _ => ?_
  have e : ∑ j, γ j i * (w j - c j * σ) = (∑ j, γ i j * w j) - s * ∑ j, γ i j * ρ * c j := by
    rw [Finset.mul_sum, ← Finset.sum_sub_distrib]
    refine Finset.sum_congr rfl fun j _ => ?_
    rw [sym j i, mul_sub, show s * (γ i j * ρ * c j) = γ i j * (s * ρ * c j) by ring, h j]; ring
  rw [e]
  generalize ∑ j, γ i j * w j = A
  generalize ∑ j, γ i j * ρ * c j = B
  field_simp

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem lossK_eq (w : Fin 128 → ℝ) (γ : Fin 128 → Fin 128 → ℝ) (sym : ∀ i j, γ i j = γ j i) (ρ : ℝ) (hρ : 0 < ρ) :
    lossK ρ (fun i => (w i : EReal)) (fun i j => (γ i j : EReal)) = loss ρ (fun i => (w i : EReal)) (fun i j => (γ i j : EReal)) := by
  obtain ⟨σ, s, hσ, hs, h0, h1, hz⟩ := scales_real w ρ hρ
  unfold lossK loss err
  simp only [codeK_eq w ρ hρ]
  rw [hσ, hs, one_div_real h0, one_div_real h1, zero_add]
  unfold val
  simp only [← EReal.coe_mul, ← EReal.coe_sub, coe_sum]
  refine congrArg _ (loss_real w _ γ sym σ s ρ h0 h1 fun j => ?_)
  rcases hz with hz | hz
  · rw [code_zero w ρ hρ hz j]; simp
  · rw [hz]

/-! ### The Gram matrices -/

/-- The Gram matrix of a group of the scaled activations. -/
def gramOf (X : Fin 256 → Fin 7168 → EReal) (S : Fin 256 → EReal) (g : Fin 56) (i j : Fin 128) : EReal :=
  ∑ t : Fin 256, (X t ⟨g.val * 128 + i.val, by omega⟩ * S t) * (X t ⟨g.val * 128 + j.val, by omega⟩ * S t)

/-- Of finite activations and scales it is real and symmetric. -/
theorem gramOf_real (X : Fin 256 → Fin 7168 → EReal) (S : Fin 256 → EReal) (hX : ∀ t i, ∃ r : ℝ, X t i = r) (hS : ∀ t, ∃ r : ℝ, S t = r) :
    ∃ γ : Fin 56 → Fin 128 → Fin 128 → ℝ, (∀ g i j, gramOf X S g i j = (γ g i j : EReal)) ∧ ∀ g i j, γ g i j = γ g j i := by
  choose x hx using hX
  choose s hs using hS
  refine ⟨fun g i j => ∑ t, (x t ⟨g.val * 128 + i.val, by omega⟩ * s t) * (x t ⟨g.val * 128 + j.val, by omega⟩ * s t), fun g i j => ?_,
    fun g i j => Finset.sum_congr rfl fun t _ => mul_comm _ _⟩
  unfold gramOf
  rw [← coe_sum]
  refine Finset.sum_congr rfl fun t _ => ?_
  rw [hx, hx, hs, EReal.coe_mul, EReal.coe_mul, EReal.coe_mul]

end Cert.ClipMath
-- ==== Proof.KernelIdealValue.lean ====
/- The blocks of the clip search read at an index: scales, packed codes and losses as expressions over the group's weights. -/
module

public import proofs.«01_k».proof.Proof.KernelIdealGram
public import proofs.«01_k».proof.Proof.ClipMath

@[expose] public section

set_option maxRecDepth 16384

noncomputable section

namespace Cert.KernelIdeal.Clip

open Cert.KernelIdeal Cert.KernelIdeal.Gen Cert.ClipMath
open Idealize.ShloMosaic Idealize.ShloMosaic.TcCoe Idealize.ShloMosaic.Tactic

section
variable (w : Vec Ideal S256x128 .bf16) (r : Elt Ideal .f32) (o : Fin 256)

/-- Row `o` of a weight tile. -/
abbrev rowOf (i : Fin 128) : EReal := w (ix2 o i)

theorem pay5_at : k1_pay5 (F := Ideal) w (ix2 0 o) = amax (rowOf w o) := by
  pointwise [k1_pay5, k1_pay4]
  rfl

theorem pay9_at : k1_pay9 (F := Ideal) w r (ix2 0 o) = scale r (rowOf w o) := by
  pointwise [k1_pay9, k1_pay6, pay5_at]
  rfl

theorem pay7_at : k1_pay7 (F := Ideal) w (ix2 0 o) = scale1 (rowOf w o) := by
  pointwise [k1_pay7, k1_pay6, pay5_at]
  rfl

theorem pay10_at (i : Fin 128) : k1_pay10 (F := Ideal) w r (ix2 i o) = rowOf w o i * Ideal.div 1 (scale r (rowOf w o)) := by
  pointwise [k1_pay10, k1_pay4, pay9_at]

theorem pay12_at (i : Fin 128) : k1_pay12 (F := Ideal) (k1_pay11 w r) (ix2 i o) = codeK r (rowOf w o) i := by
  pointwise [k1_pay12, k1_pay11, pay10_at]
  rfl

theorem scaleT_at : scaleT (F := Ideal) w r (ix3 0 0 o) = scale r (rowOf w o) := by
  unfold scaleT
  pointwise [k1_pay15, pay9_at]

theorem codeT_at (p : Fin 64) : codeT (F := Ideal) w r (ix4 0 0 p o)
    = packK (codeK r (rowOf w o) ⟨p.val * 2, by omega⟩) (codeK r (rowOf w o) ⟨p.val * 2 + 1, by omega⟩) := by
  unfold codeT
  pointwise [k1_pay13, pay12_at]
  rfl

/-- A sum over three parts side by side of which the last two are zero. -/
theorem sum_three (f : Fin 384 → EReal) (h : ∀ i, 128 ≤ i.val → f i = 0) : ∑ i, f i = ∑ i : Fin 128, f ⟨i.val, by omega⟩ := by
  rw [Fin.sum_univ_tiles 3 128 rfl f, Fin.sum_univ_three]
  rw [Finset.sum_eq_zero (s := Finset.univ) (f := fun t : Fin 128 => f ⟨(1 : Fin 3).val * 128 + t.val, _⟩) fun t _ => h _ (by simp),
    Finset.sum_eq_zero (s := Finset.univ) (f := fun t : Fin 128 => f ⟨(2 : Fin 3).val * 128 + t.val, _⟩) fun t _ => h _ (by simp; omega), add_zero, add_zero]
  refine Finset.sum_congr rfl fun t _ => congrArg f (Fin.ext ?_)
  simp

theorem sub_self_real (a : ℝ) : (a : EReal) - (a : EReal) = 0 := by rw [← EReal.coe_sub, sub_self]; rfl

theorem pay8_at (G : FVec Ideal S128x128 .f32) (γ : Fin 128 → Fin 128 → ℝ) (hG : ∀ i j, G (ix2 i j) = (γ i j : EReal)) (i : Fin 128) :
    k1_pay8 (F := Ideal) G w (ix2 i o) = (∑ j, (γ i j : EReal) * rowOf w o j) * Ideal.div 1 (scale1 (rowOf w o)) := by
  pointwise [k1_pay8, k1_pay4, pay7_at, hG]
  simp only [sub_self_real]
  rw [sum_three _ fun x hx => ?_]
  · refine congrArg (· * _) (Finset.sum_congr rfl fun j _ => ?_)
    rw [dif_pos j.isLt, dif_pos j.isLt]
  · rw [dif_neg (by omega)]
    split_ifs <;> simp

theorem pay14_at (v11 : FVec Ideal S128x128 .f32) (γ : Fin 128 → Fin 128 → ℝ) (hG : ∀ i j, v11 (ix2 i j) = (γ i j : EReal))
    (A : Vec Ideal S1x128x384 .bf16) (a : Fin 128 → Fin 384 → EReal) (hA : ∀ i j, A (ix3 0 i j) = a i j)
    (h0 : ∀ i j, 128 ≤ j.val → a i j = 0) (h1 : ∀ i (j : Fin 128), a i ⟨j.val, by omega⟩ = (γ i j : EReal) * r) :
    lossT (F := Ideal) v11 w r A (ix3 0 0 o) = lossK r (rowOf w o) (fun i j => (γ i j : EReal)) := by
  unfold lossT
  pointwise [k1_pay14, pay12_at, pay10_at, pay9_at, pay7_at, pay8_at w o v11 γ hG, hA]
  unfold lossK
  refine congrArg (· * _) (Finset.sum_congr rfl fun i _ => ?_)
  refine congrArg₂ (fun x y : EReal => x * y) rfl (congrArg₂ (fun x y : EReal => x - y) rfl ?_)
  rw [sum_three _ fun x hx => by rw [h0 i x hx, zero_mul]]
  refine Finset.sum_congr rfl fun j _ => ?_
  rw [dif_pos j.isLt, h1]
  rfl

end

section
variable (R : Vec Ideal S20 .f32) (W : Vec Ideal S2048x128 .bf16)

theorem wtile_at (o : Fin 2048) (i : Fin 128) : wtile (F := Ideal) W (tileOf o) (ix2 (inTile o) i) = W (ix2 o i) := by
  unfold wtile tileOf inTile
  refine congrArg W (congrArg₂ ix2 (Fin.ext ?_) rfl)
  show 256 * (o.val / 256) + o.val % 256 = o.val
  omega

theorem row_at (o : Fin 2048) : rowOf (wtile (F := Ideal) W (tileOf o)) (inTile o) = fun i => W (ix2 o i) := funext fun i => wtile_at W o i

theorem scaleG_at (k : Fin 20) (q : Fin 8) (o : Fin 2048) : scaleG (F := Ideal) R W (ix3 k q o) = scale (R (ix1 k)) (fun i => W (ix2 o i)) := by
  rw [← row_at]; exact scaleT_at _ _ _

theorem codeG_at (z : Fin 1) (k : Fin 20) (p : Fin 64) (o : Fin 2048) : codeG (F := Ideal) R W (ix4 z k p o)
    = packK (codeK (R (ix1 k)) (fun i => W (ix2 o i)) ⟨p.val * 2, by omega⟩) (codeK (R (ix1 k)) (fun i => W (ix2 o i)) ⟨p.val * 2 + 1, by omega⟩) := by
  rw [← row_at]; exact codeT_at _ _ _ _

theorem part0_at (G : Vec Ideal S1x128x128 .f32) (r : Elt Ideal .f32) (i j : Fin 128) : partG (F := Ideal) G r 0 (ix3 0 i j) = (show EReal from G (ix3 0 i j)) * r := by
  pointwise [partG, k1_pay152, k1_pay149, k1_pay148, k1_pay147]

theorem part1_at (G : Vec Ideal S1x128x128 .f32) (r : Elt Ideal .f32) (i j : Fin 128) : partG (F := Ideal) G r 1 (ix3 0 i j)
    = (show EReal from G (ix3 0 i j)) * r - (show EReal from G (ix3 0 i j)) * r := by
  pointwise [partG, k1_pay153, k1_pay151, k1_pay150, k1_pay149, k1_pay148, k1_pay147]

theorem part2_at (G : Vec Ideal S1x128x128 .f32) (r : Elt Ideal .f32) (i j : Fin 128) : partG (F := Ideal) G r 2 (ix3 0 i j)
    = ((show EReal from G (ix3 0 i j)) * r - (show EReal from G (ix3 0 i j)) * r) - ((show EReal from G (ix3 0 i j)) * r - (show EReal from G (ix3 0 i j)) * r) := by
  pointwise [partG, k1_pay154, k1_pay151, k1_pay150, k1_pay149, k1_pay148, k1_pay147]

theorem lossG_at (G : Vec Ideal S1x128x128 .f32) (γ : Fin 128 → Fin 128 → ℝ) (hG : ∀ i j, G (ix3 0 i j) = (γ i j : EReal)) (k : Fin 20) (ρ : ℝ)
    (hρ : R (ix1 k) = (ρ : EReal)) (q : Fin 8) (o : Fin 2048) :
    lossG (F := Ideal) R W (k1_pay147 G) (gramG R G) (ix3 k q o) = lossK (R (ix1 k)) (fun i => W (ix2 o i)) (fun i j => (γ i j : EReal)) := by
  rw [← row_at]
  refine pay14_at _ _ _ _ γ (fun i j => ?_) _ (fun i j => partG G (R (ix1 k)) (partOf j) (ix3 0 i (inPart j))) (fun i j => rfl) (fun i j hj => ?_) fun i j => ?_
  · rw [← hG i j]; pointwise [k1_pay147]
  · have : partOf j = 1 ∨ partOf j = 2 := by
      have := j.isLt
      rcases (by omega : j.val / 128 = 1 ∨ j.val / 128 = 2) with h | h
      · exact .inl (Fin.ext h)
      · exact .inr (Fin.ext h)
    rcases this with h | h
    · rw [h, part1_at, hG, hρ]; exact (congrArg (fun x => x - x) (EReal.coe_mul _ _).symm).trans (sub_self_real _)
    · rw [h, part2_at, hG, hρ]
      refine (congrArg (fun x : EReal => (x - x) - (x - x)) (EReal.coe_mul _ _).symm).trans ?_
      rw [sub_self_real]; exact sub_zero _
  · have h : partOf ⟨j.val, by omega⟩ = 0 := Fin.ext (Nat.div_eq_of_lt j.isLt)
    have h' : inPart ⟨j.val, by omega⟩ = j := Fin.ext (Nat.mod_eq_of_lt j.isLt)
    show partG G (R (ix1 k)) (partOf ⟨j.val, _⟩) (ix3 0 i (inPart ⟨j.val, _⟩)) = _
    rw [h, h', part0_at, hG]
    rfl

end

end Cert.KernelIdeal.Clip
-- ==== Proof.KernelIdealBlocks.lean ====
/- The blocks that the two calls read, at an index of their arrays. -/
module

public import proofs.«01_k».proof.Proof.KernelIdealRun
public import proofs.«01_k».proof.Proof.KernelIdealValue

@[expose] public section

set_option maxRecDepth 16384

noncomputable section

namespace Cert.KernelIdeal.Clip

open Cert.KernelIdeal Cert.KernelIdeal.Gen Cert.ClipMath
open Idealize.ShloMosaic Idealize.ShloMosaic.TcCoe Idealize.ShloMosaic.Tactic
open Idealize.ShloMosaic.Pipeline (Dat)
open Idealize.SL.Sem

theorem idx0 : ∀ t : Fin cfg0.N, win0_0.index t = ![0, t.val] ∧ win0_1.index t = ![0, 0] ∧ win0_2.index t = ![t.val, 0, 0] :=
  (by decide +kernel : ∀ t : Fin grid0.N, _)

theorem idx1 : ∀ t : Fin cfg1.N, win1_0.index t = ![0] ∧ win1_1.index t = ![0, t.val] ∧ win1_2.index t = ![t.val, 0, 0]
    ∧ win1_3.index t = ![0, t.val / 8, 0] ∧ win1_4.index t = ![t.val, 0, 0, 0] ∧ win1_5.index t = ![0, t.val / 8, 0] :=
  (by decide +kernel : ∀ t : Fin grid1.N, _)

variable (W : Dev nD → Valuation τ sig (Elt Ideal)) (c : Dev nD)

theorem blk1_0 (t : Fin cfg1.N) (k : Fin 20) : (show Vec Ideal S20 .f32 from iblk1 W c 0 t) (ix1 k) = (W c (Proc.devRef .tc main_v7) : Vec Ideal S20 .f32) (ix1 k) := by
  blk_ext [iblk1, idx1 t]

theorem blk1_1 (t : Fin cfg1.N) (o : Fin 2048) (i : Fin 128) : (show Vec Ideal S2048x128 .bf16 from iblk1 W c 1 t) (ix2 o i)
    = (W c (Proc.devRef .tc main_arg2) : Vec Ideal S2048x7168 .bf16) (ix2 o ⟨t.val * 128 + i.val, by have := t.isLt; have h : cfg1.N = 56 := N_1; omega⟩) := by
  blk_ext [iblk1, idx1 t]

theorem blk1_2 (t : Fin cfg1.N) (i j : Fin 128) : (show Vec Ideal S1x128x128 .f32 from iblk1 W c 2 t) (ix3 0 i j)
    = (W c (Proc.devRef .tc main_v8) : Vec Ideal S56x128x128 .f32) (ix3 ⟨t.val, by have := t.isLt; have h : cfg1.N = 56 := N_1; omega⟩ i j) := by
  blk_ext [iblk1, idx1 t]

theorem blk0_0 (t : Fin cfg0.N) (x : Fin 256) (i : Fin 128) : (show Vec Ideal S256x128 .fp8e4m3 from iblk0 W c 0 t) (ix2 x i)
    = (W c (Proc.devRef .tc main_v1) : Vec Ideal S256x7168 .fp8e4m3) (ix2 x ⟨t.val * 128 + i.val, by have := t.isLt; have h : cfg0.N = 56 := N_0; omega⟩) := by
  blk_ext [iblk0, idx0 t]

theorem blk0_1 (t : Fin cfg0.N) (x : Fin 256) : (show Vec Ideal S256x1 .f32 from iblk0 W c 1 t) (ix2 x 0)
    = (W c (Proc.devRef .tc main_v2) : Vec Ideal S256x1 .f32) (ix2 x 0) := by
  blk_ext [iblk0, idx0 t]

end Cert.KernelIdeal.Clip
-- ==== Proof.KernelIdealArrays.lean ====
/- The arrays that the two calls leave. -/
module

public import proofs.«01_k».proof.Proof.KernelIdealBlocks

@[expose] public section

set_option maxRecDepth 16384

noncomputable section

namespace Cert.KernelIdeal.Clip

open Cert.KernelIdeal Cert.KernelIdeal.Gen Cert.ClipMath
open Idealize.ShloMosaic Idealize.ShloMosaic.TcCoe Idealize.ShloMosaic.Tactic
open Idealize.ShloMosaic.Pipeline (Dat)
open Idealize.SL.Sem

variable (W : Dev nD → Valuation τ sig (Elt Ideal)) (c : Dev nD)

/-- A group of a row's weights. -/
abbrev grp (Wt : Vec Ideal S2048x7168 .bf16) (o : Fin 2048) (g : Fin 56) (i : Fin 128) : EReal := Wt (ix2 o ⟨g.val * 128 + i.val, by omega⟩)

/-- Every scale, from the ratios and the weights. -/
def scaleArr (R : Vec Ideal S20 .f32) (Wt : Vec Ideal S2048x7168 .bf16) : Vec Ideal S20x56x2048 .f32 :=
  fun i => scale (R (ix1 (i 0))) (grp Wt (i 2) (i 1))

/-- Every packed pair of codes. -/
def codeArr (R : Vec Ideal S20 .f32) (Wt : Vec Ideal S2048x7168 .bf16) : Vec Ideal S56x20x64x2048 .i8 :=
  fun i => packK (codeK (R (ix1 (i 1))) (grp Wt (i 3) (i 0)) ⟨(i 2).val * 2, by have h : (i 2).val < 64 := (i 2).isLt; omega⟩)
    (codeK (R (ix1 (i 1))) (grp Wt (i 3) (i 0)) ⟨(i 2).val * 2 + 1, by have h : (i 2).val < 64 := (i 2).isLt; omega⟩)

/-- Every loss. -/
def lossArr (R : Vec Ideal S20 .f32) (Wt : Vec Ideal S2048x7168 .bf16) (γ : Fin 56 → Fin 128 → Fin 128 → ℝ) : Vec Ideal S20x56x2048 .f32 :=
  fun i => lossK (R (ix1 (i 0))) (grp Wt (i 2) (i 1)) (fun a b => (γ (i 1) a b : EReal))

theorem emb1_5 (t : Fin cfg1.N) (y : S20x8x2048.Idx) : ((win1_5.blk t).view.emb y : S20x56x2048.Idx)
    = ix3 (y 0) ⟨t.val / 8 * 8 + (y 1).val, by have := t.isLt; have h : cfg1.N = 56 := N_1; have h' : (y 1).val < 8 := (y 1).isLt; omega⟩ (y 2) := by
  blk_ext [idx1 t]

theorem emb1_3 (t : Fin cfg1.N) (y : S20x8x2048.Idx) : ((win1_3.blk t).view.emb y : S20x56x2048.Idx)
    = ix3 (y 0) ⟨t.val / 8 * 8 + (y 1).val, by have := t.isLt; have h : cfg1.N = 56 := N_1; have h' : (y 1).val < 8 := (y 1).isLt; omega⟩ (y 2) := by
  blk_ext [idx1 t]

theorem emb1_4 (t : Fin cfg1.N) (y : S1x20x64x2048.Idx) : ((win1_4.blk t).view.emb y : S56x20x64x2048.Idx)
    = ix4 ⟨t.val, by have := t.isLt; have h : cfg1.N = 56 := N_1; omega⟩ (y 1) (y 2) (y 3) := by
  blk_ext [idx1 t]

theorem emb0_2 (t : Fin cfg0.N) (y : S1x128x128.Idx) : ((win0_2.blk t).view.emb y : S56x128x128.Idx)
    = ix3 ⟨t.val, by have := t.isLt; have h : cfg0.N = 56 := N_0; omega⟩ (y 1) (y 2) := by
  blk_ext [idx0 t]

/-- The weights of a row in the block of point `t` are the row's group `t`. -/
theorem blk_grp (t : Fin cfg1.N) (o : Fin 2048) (g : Fin 56) (h : g.val = t.val) :
    (fun i => (show Vec Ideal S2048x128 .bf16 from iblk1 W c 1 t) (ix2 o i)) = grp (W c (Proc.devRef .tc main_arg2)) o g :=
  funext fun i => (blk1_1 W c t o i).trans (congrArg (W c (Proc.devRef .tc main_arg2)) (congrArg₂ ix2 rfl (Fin.ext (by show t.val * 128 + i.val = g.val * 128 + i.val; rw [h]))))

theorem scale_final : (dat1 W c).arrAt 5 cfg1.N = scaleArr (W c (Proc.devRef .tc main_v7)) (W c (Proc.devRef .tc main_arg2)) := by
  refine (dat1 W c).arrAt_eq_of_covers 5 _ (by decide +kernel) fun t _ y => ?_
  blk_simp
  rw [after1_5]
  refine Eq.trans ?_ (congrArg (scaleArr (W c (Proc.devRef .tc main_v7)) (W c (Proc.devRef .tc main_arg2))) (emb1_5 t y)).symm
  refine (congrArg (scaleG (F := Ideal) _ _) (eq_ix3 (n0 := 20) (n1 := 8) (n2 := 2048) y)).trans ((scaleG_at _ _ _ _ _).trans ?_)
  refine congrArg₂ scale (blk1_0 W c _ _) (blk_grp W c _ _ _ ?_)
  show t.val / 8 * 8 + _ = 8 * (t.val / 8) + _
  rw [Nat.mul_comm]

theorem code_final : (dat1 W c).arrAt 4 cfg1.N = codeArr (W c (Proc.devRef .tc main_v7)) (W c (Proc.devRef .tc main_arg2)) := by
  refine (dat1 W c).arrAt_eq_of_covers 4 _ (by decide +kernel) fun t _ y => ?_
  blk_simp
  rw [after1_4]
  refine Eq.trans ?_ (congrArg (codeArr (W c (Proc.devRef .tc main_v7)) (W c (Proc.devRef .tc main_arg2))) (emb1_4 t y)).symm
  refine (congrArg (codeG (F := Ideal) _ _) (eq_ix4 (n0 := 1) (n1 := 20) (n2 := 64) (n3 := 2048) y)).trans ((codeG_at _ _ _ _ _ _).trans ?_)
  have e := congrArg₂ codeK (blk1_0 W c t (y 1)) (blk_grp W c t (y 3) ⟨t.val, N_1 ▸ t.isLt⟩ rfl)
  exact congrArg₂ packK (congrFun e _) (congrFun e _)

theorem loss_final (γ : Fin 56 → Fin 128 → Fin 128 → ℝ) (hγ : ∀ g i j, (W c (Proc.devRef .tc main_v8) : Vec Ideal S56x128x128 .f32) (ix3 g i j) = (γ g i j : EReal))
    (ρ : Fin 20 → ℝ) (hρ : ∀ k, (W c (Proc.devRef .tc main_v7) : Vec Ideal S20 .f32) (ix1 k) = (ρ k : EReal)) :
    (dat1 W c).arrAt 3 cfg1.N = lossArr (W c (Proc.devRef .tc main_v7)) (W c (Proc.devRef .tc main_arg2)) γ := by
  refine (dat1 W c).arrAt_eq_of_covers 3 _ (by decide +kernel) fun t _ y => ?_
  blk_simp
  rw [after1_3]
  refine Eq.trans ?_ (congrArg (lossArr (W c (Proc.devRef .tc main_v7)) (W c (Proc.devRef .tc main_arg2)) γ) (emb1_3 t y)).symm
  have hg : (t.val / 8 * 8 + (y 1).val) = (rowPt t (y 1)).val := by
    show t.val / 8 * 8 + _ = 8 * (t.val / 8) + _
    rw [Nat.mul_comm]
  have hl : t.val / 8 * 8 + (y 1).val < 56 := by rw [hg]; exact N_1 ▸ (rowPt t (y 1)).isLt
  refine (congrArg (lossG (F := Ideal) _ _ _ _) (eq_ix3 (n0 := 20) (n1 := 8) (n2 := 2048) y)).trans
    ((lossG_at _ _ _ (γ ⟨t.val / 8 * 8 + (y 1).val, hl⟩) (fun i j => ?_) _ (ρ (y 0)) ((blk1_0 W c _ _).trans (hρ _)) _ _).trans ?_)
  · refine (blk1_2 W c _ i j).trans (Eq.trans ?_ (hγ _ i j))
    exact congrArg (W c (Proc.devRef .tc main_v8)) (congrArg (ix3 · i j) (Fin.ext hg.symm))
  · exact congrFun (congrArg₂ lossK (blk1_0 W c _ _) (blk_grp W c _ _ _ hg)) _

/-- The Gram block of every group, from the activations. -/
def gramArr (X : Vec Ideal S256x7168 .fp8e4m3) (s : Vec Ideal S256x1 .f32) : Vec Ideal S56x128x128 .f32 := fun i =>
  ∑ x : Fin 256, ((show EReal from X (ix2 x ⟨(i 0).val * 128 + (i 1).val, by have h : (i 0).val < 56 := (i 0).isLt; have h' : (i 1).val < 128 := (i 1).isLt; omega⟩)) * (show EReal from s (ix2 x 0)))
    * ((show EReal from X (ix2 x ⟨(i 0).val * 128 + (i 2).val, by have h : (i 0).val < 56 := (i 0).isLt; have h' : (i 2).val < 128 := (i 2).isLt; omega⟩)) * (show EReal from s (ix2 x 0)))

theorem pay1_at (x : Vec Ideal S256x128 .fp8e4m3) (s : Vec Ideal S256x1 .f32) (z : Fin 1) (i j : Fin 128) : k0_pay1 (F := Ideal) x s (ix3 z i j)
    = ∑ t : Fin 256, ((show EReal from x (ix2 t i)) * (show EReal from s (ix2 t 0))) * ((show EReal from x (ix2 t j)) * (show EReal from s (ix2 t 0))) := by
  pointwise [k0_pay1]

theorem gram_final : (dat0 W c).arrAt 2 cfg0.N = gramArr (W c (Proc.devRef .tc main_v1)) (W c (Proc.devRef .tc main_v2)) := by
  refine (dat0 W c).arrAt_eq_of_covers 2 _ (by decide +kernel) fun t _ y => ?_
  blk_simp
  rw [after0_2]
  refine Eq.trans ?_ (congrArg (gramArr (W c (Proc.devRef .tc main_v1)) (W c (Proc.devRef .tc main_v2))) (emb0_2 t y)).symm
  refine (congrArg (k0_pay1 (F := Ideal) _ _) (eq_ix3 (n0 := 1) (n1 := 128) (n2 := 128) y)).trans ((pay1_at _ _ _ _ _).trans ?_)
  refine Finset.sum_congr rfl fun x _ => ?_
  exact congrArg₂ (fun a b : EReal => a * b) (congrArg₂ (fun a b : EReal => a * b) (blk0_0 W c t x _) (blk0_1 W c t x))
    (congrArg₂ (fun a b : EReal => a * b) (blk0_0 W c t x _) (blk0_1 W c t x))

variable (m : (ℓ : Loc nD τ sig) → Buf (Elt Ideal) ℓ)

theorem Wd_v10 : (Wd m c (Proc.devRef .tc main_v10) : Vec Ideal S2048x56x20 .f32)
    = transpose S2048x56x20 [2, 1, 0] (Wc m c (Proc.devRef .tc main_v9_0) : Vec Ideal S20x56x2048 .f32) transposes_S20x56x2048_S2048x56x20_2_1_0 := by
  unfold Wd
  after_results

theorem Wd_v11 : (Wd m c (Proc.devRef .tc main_v11) : Vec Ideal S2048x56x20x64 .i8)
    = transpose S2048x56x20x64 [3, 0, 1, 2] (Wc m c (Proc.devRef .tc main_v9_1) : Vec Ideal S56x20x64x2048 .i8) transposes_S56x20x64x2048_S2048x56x20x64_3_0_1_2 := by
  unfold Wd
  after_results

theorem Wd_v12 : (Wd m c (Proc.devRef .tc main_v12) : Vec Ideal S2048x56x20 .f32)
    = transpose S2048x56x20 [2, 1, 0] (Wc m c (Proc.devRef .tc main_v9_2) : Vec Ideal S20x56x2048 .f32) transposes_S20x56x2048_S2048x56x20_2_1_0 := by
  unfold Wd
  after_results

theorem V1_v1 (x : Fin 256) (i : Fin 7168) : (V1 m c (Proc.devRef .tc main_v1) : Vec Ideal S256x7168 .fp8e4m3) (ix2 x i) = (m ((c : Thread nD τ).loc main_arg0) : Vec Ideal S1x256x7168 .f32) (ix3 0 x i) := by
  show (StableHlo.after hostOps0 (V0 m c) _ : _) _ = _
  after_results
  pointwise
theorem V1_v2 (x : Fin 256) : (V1 m c (Proc.devRef .tc main_v2) : Vec Ideal S256x1 .f32) (ix2 x 0) = (m ((c : Thread nD τ).loc main_arg1) : Vec Ideal S1x256 .f32) (ix2 0 x) := by
  show (StableHlo.after hostOps0 (V0 m c) _ : _) _ = _
  after_results
  pointwise
theorem V1_v7 (k : Fin 20) : (V1 m c (Proc.devRef .tc main_v7) : Vec Ideal S20 .f32) (ix1 k) = rat k := by
  show (StableHlo.after hostOps0 (V0 m c) _ : _) _ = _
  after_results
  pointwise
  rfl

end Cert.KernelIdeal.Clip
-- ==== Proof.KernelIdealResults.lean ====
/- The kernel's results at an index, for finite inputs. -/
module

public import proofs.«01_k».proof.Proof.KernelIdealArrays

@[expose] public section

set_option maxRecDepth 16384

noncomputable section

namespace Cert.KernelIdeal.Clip

open Cert.KernelIdeal Cert.KernelIdeal.Gen Cert.ClipMath
open Idealize.ShloMosaic Idealize.ShloMosaic.TcCoe Idealize.ShloMosaic.Tactic
open Idealize.ShloMosaic.Pipeline (Dat)
open Idealize.SL.Sem

variable (m : (ℓ : Loc nD τ sig) → Buf (Elt Ideal) ℓ) (c : Dev nD)

/-- The launch's activations, scales and weights. -/
abbrev actE (t : Fin 256) (i : Fin 7168) : EReal := (m ((c : Thread nD τ).loc main_arg0) : Vec Ideal S1x256x7168 .f32) (ix3 0 t i)
abbrev sclE (t : Fin 256) : EReal := (m ((c : Thread nD τ).loc main_arg1) : Vec Ideal S1x256 .f32) (ix2 0 t)
abbrev wtE (o : Fin 2048) (i : Fin 7168) : EReal := (m ((c : Thread nD τ).loc main_arg2) : Vec Ideal S2048x7168 .bf16) (ix2 o i)

theorem Wb_v7 : Wb m c (Proc.devRef .tc main_v7) = V1 m c (Proc.devRef .tc main_v7) :=
  Pipeline.afterRegion_of_not_arr (dat0 (V1 m) c) (V1 m c) (by exact (by decide : ∀ w : Fin 3, main_v7 ≠ Pipeline.arrRef spec0 w))

theorem Wb_arg2 : Wb m c (Proc.devRef .tc main_arg2) = m ((c : Thread nD τ).loc main_arg2) :=
  (Pipeline.afterRegion_of_not_arr (dat0 (V1 m) c) (V1 m c) (by exact (by decide : ∀ w : Fin 3, main_arg2 ≠ Pipeline.arrRef spec0 w))).trans (V1_of m c main_arg2 (by decide))

theorem Wb_v8 : Wb m c (Proc.devRef .tc main_v8) = gramArr (V1 m c (Proc.devRef .tc main_v1)) (V1 m c (Proc.devRef .tc main_v2)) :=
  (Pipeline.afterRegion_arr (dat0 (V1 m) c) (V1 m c) winFacts0.arr_inj 2).trans (gram_final (V1 m) c)

theorem Wc_v9_0 : Wc m c (Proc.devRef .tc main_v9_0) = (dat1 (Wb m) c).arrAt 3 cfg1.N := Pipeline.afterRegion_arr (dat1 (Wb m) c) (Wb m c) winFacts1.arr_inj 3
theorem Wc_v9_1 : Wc m c (Proc.devRef .tc main_v9_1) = (dat1 (Wb m) c).arrAt 4 cfg1.N := Pipeline.afterRegion_arr (dat1 (Wb m) c) (Wb m c) winFacts1.arr_inj 4
theorem Wc_v9_2 : Wc m c (Proc.devRef .tc main_v9_2) = (dat1 (Wb m) c).arrAt 5 cfg1.N := Pipeline.afterRegion_arr (dat1 (Wb m) c) (Wb m c) winFacts1.arr_inj 5

theorem ratio_at (k : Fin 20) : (Wb m c (Proc.devRef .tc main_v7) : Vec Ideal S20 .f32) (ix1 k) = rat k := (congrFun (Wb_v7 m c) (ix1 k)).trans (V1_v7 c m k)

theorem grp_eq (o : Fin 2048) (g : Fin 56) : grp (Wb m c (Proc.devRef .tc main_arg2)) o g = fun i => wtE m c o ⟨g.val * 128 + i.val, by omega⟩ :=
  funext fun i => congrFun (Wb_arg2 m c) _

theorem gramArr_at (X : Vec Ideal S256x7168 .fp8e4m3) (s : Vec Ideal S256x1 .f32) (x : Fin 256 → Fin 7168 → EReal) (y : Fin 256 → EReal)
    (hX : ∀ t i, X (ix2 t i) = x t i) (hs : ∀ t, s (ix2 t 0) = y t) (g : Fin 56) (i j : Fin 128) : gramArr X s (ix3 g i j) = gramOf x y g i j := by
  unfold gramArr gramOf
  refine Finset.sum_congr rfl fun t _ => ?_
  exact congrArg₂ (fun a b : EReal => a * b) (congrArg₂ (fun a b : EReal => a * b) (hX t _) (hs t)) (congrArg₂ (fun a b : EReal => a * b) (hX t _) (hs t))

theorem gram_at (g : Fin 56) (i j : Fin 128) : (Wb m c (Proc.devRef .tc main_v8) : Vec Ideal S56x128x128 .f32) (ix3 g i j) = gramOf (actE m c) (sclE m c) g i j :=
  (congrFun (Wb_v8 m c) (ix3 g i j)).trans (gramArr_at _ _ _ _ (V1_v1 c m) (V1_v2 c m) g i j)

/-- The third result: the scales. -/
theorem v12_at (o : Fin 2048) (g : Fin 56) (k : Fin 20) : (Wd m c (Proc.devRef .tc main_v12) : Vec Ideal S2048x56x20 .f32) (ix3 o g k)
    = scale (rat k) (fun i => wtE m c o ⟨g.val * 128 + i.val, by omega⟩) := by
  rw [Wd_v12, Wc_v9_2, scale_final]
  have h : transpose S2048x56x20 [2, 1, 0] (scaleArr (Wb m c (Proc.devRef .tc main_v7)) (Wb m c (Proc.devRef .tc main_arg2))) transposes_S20x56x2048_S2048x56x20_2_1_0 (ix3 o g k)
      = scaleArr (Wb m c (Proc.devRef .tc main_v7)) (Wb m c (Proc.devRef .tc main_arg2)) (ix3 k g o) := by
    generalize scaleArr (Wb m c (Proc.devRef .tc main_v7)) (Wb m c (Proc.devRef .tc main_arg2)) = A
    pointwise
  exact h.trans (congrArg₂ scale (ratio_at m c k) (grp_eq m c o g))

/-- The second result: the packed codes. -/
theorem v11_at (hW : ∀ o i, ∃ r : ℝ, wtE m c o i = r) (o : Fin 2048) (g : Fin 56) (k : Fin 20) (p : Fin 64) :
    (Wd m c (Proc.devRef .tc main_v11) : Vec Ideal S2048x56x20x64 .i8) (ix4 o g k p)
    = pack (code (rat k) (fun i => wtE m c o ⟨g.val * 128 + i.val, by omega⟩) ⟨p.val * 2, by omega⟩)
        (code (rat k) (fun i => wtE m c o ⟨g.val * 128 + i.val, by omega⟩) ⟨p.val * 2 + 1, by omega⟩) := by
  rw [Wd_v11, Wc_v9_1, code_final]
  have h : transpose S2048x56x20x64 [3, 0, 1, 2] (codeArr (Wb m c (Proc.devRef .tc main_v7)) (Wb m c (Proc.devRef .tc main_arg2))) transposes_S56x20x64x2048_S2048x56x20x64_3_0_1_2 (ix4 o g k p)
      = codeArr (Wb m c (Proc.devRef .tc main_v7)) (Wb m c (Proc.devRef .tc main_arg2)) (ix4 g k p o) := by
    generalize codeArr (Wb m c (Proc.devRef .tc main_v7)) (Wb m c (Proc.devRef .tc main_arg2)) = A
    pointwise
  have e := congrArg₂ codeK (ratio_at m c k) (grp_eq m c o g)
  refine h.trans ((congrArg₂ packK (congrFun e ⟨p.val * 2, by omega⟩) (congrFun e ⟨p.val * 2 + 1, by omega⟩)).trans ?_)
  obtain ⟨ρ, hρ, er⟩ := rat_real k
  choose w hw using hW
  rw [packK_eq, er]
  simp only [hw]
  exact congrArg₂ pack (codeK_eq _ ρ hρ _) (codeK_eq _ ρ hρ _)

/-- The first result: the losses. -/
theorem v10_at (hX : ∀ t i, ∃ r : ℝ, actE m c t i = r) (hS : ∀ t, ∃ r : ℝ, sclE m c t = r) (hW : ∀ o i, ∃ r : ℝ, wtE m c o i = r)
    (o : Fin 2048) (g : Fin 56) (k : Fin 20) :
    (Wd m c (Proc.devRef .tc main_v10) : Vec Ideal S2048x56x20 .f32) (ix3 o g k)
    = loss (rat k) (fun i => wtE m c o ⟨g.val * 128 + i.val, by omega⟩) (gramOf (actE m c) (sclE m c) g) := by
  obtain ⟨γ, hγ, sym⟩ := gramOf_real (actE m c) (sclE m c) hX hS
  choose ρ hρ er using rat_real
  rw [Wd_v10, Wc_v9_0, loss_final (Wb m) c γ (fun g i j => (gram_at m c g i j).trans (hγ g i j)) ρ (fun k => (ratio_at m c k).trans (er k))]
  have h : transpose S2048x56x20 [2, 1, 0] (lossArr (Wb m c (Proc.devRef .tc main_v7)) (Wb m c (Proc.devRef .tc main_arg2)) γ) transposes_S20x56x2048_S2048x56x20_2_1_0 (ix3 o g k)
      = lossArr (Wb m c (Proc.devRef .tc main_v7)) (Wb m c (Proc.devRef .tc main_arg2)) γ (ix3 k g o) := by
    generalize lossArr (Wb m c (Proc.devRef .tc main_v7)) (Wb m c (Proc.devRef .tc main_arg2)) γ = A
    pointwise
  refine h.trans ((congrFun (congrArg₂ lossK (ratio_at m c k) (grp_eq m c o g)) _).trans ?_)
  choose w hw using hW
  have hG : gramOf (actE m c) (sclE m c) g = fun i j => (γ g i j : EReal) := funext fun i => funext fun j => hγ g i j
  rw [hG, er]
  simp only [hw]
  exact lossK_eq _ (γ g) (sym g) (ρ k) (hρ k)

end Cert.KernelIdeal.Clip
-- ==== Proof.ReferenceIdealPayload.lean ====
/- What the reference's body computes, read at an index. -/
module

public import proofs.«01_k».proof.Proof.Gen.ReferenceIdeal.Frame
public import proofs.«01_k».proof.Proof.ClipMath

@[expose] public section

set_option maxRecDepth 16384

noncomputable section

namespace Cert.ReferenceIdeal.Value

open Cert.ReferenceIdeal Cert.ReferenceIdeal.Gen Cert.ClipMath
open Idealize.ShloMosaic Idealize.ShloMosaic.TcCoe Idealize.ShloMosaic.Tactic
open Idealize.ShloMosaic.Pipeline (Dat)
open Idealize.SL.Sem

/-- A group of a row of an array of weights. -/
abbrev grp (w : Vec Ideal S2048x7168 .bf16) (o : Fin 2048) (g : Fin 56) (i : Fin 128) : EReal := w (ix2 o ⟨g.val * 128 + i.val, by omega⟩)

theorem pay1_at (q : IVec S2048x56x20x128 8) (o : Fin 2048) (g : Fin 56) (k : Fin 20) (p : Fin 64) : k0_pay1 q (ix4 o g k p)
    = pack (q (ix4 o g k ⟨p.val * 2, by omega⟩)) (q (ix4 o g k ⟨p.val * 2 + 1, by omega⟩)) := by
  pointwise [k0_pay1]
  rfl

theorem pay2_at (w : Vec Ideal S2048x56x128 .f32) (s : Vec Ideal S2048x56x20 .f32) (q : IVec S2048x56x20x128 8) (o : Fin 2048) (g : Fin 56) (k : Fin 20) (i : Fin 128) :
    k0_pay2 (F := Ideal) w s q (ix4 o g k i) = (show EReal from w (ix3 o g i)) - val (q (ix4 o g k i)) * (show EReal from s (ix3 o g k)) := by
  pointwise [k0_pay2]
  rfl

theorem pay3_at (x : Vec Ideal S1x256x7168 .fp8e4m3) (s : Vec Ideal S1x256 .f32) (t : Fin 256) (g : Fin 56) (i : Fin 128) :
    k0_pay3 (F := Ideal) x s (ix3 t g i) = (show EReal from x (ix3 0 t ⟨g.val * 128 + i.val, by omega⟩)) * (show EReal from s (ix2 0 t)) := by
  pointwise [k0_pay3]

theorem pay4_at (w : Vec Ideal S2048x7168 .bf16) (o : Fin 2048) (g : Fin 56) (i : Fin 128) : k0_pay4 (F := Ideal) w (ix3 o g i) = grp w o g i := by
  pointwise [k0_pay4]

theorem red_at (a : Vec Ideal S2048x56x128 .f32) (o : Fin 2048) (g : Fin 56) :
    multiReduction (F := Ideal) (φ := .f32) .maximumf [2] S2048x56 a 0xFF800000#32 reduces_S2048x56x128_S2048x56 (.inl rfl) rfl (ix2 o g)
      = Finset.fold max (Ideal.ofBits .f32 0xFF800000#32) (fun i => (show EReal from a (ix3 o g i))) Finset.univ := by
  pointwise

/-- The scale of every group at every ratio, from the groups' largest magnitudes. -/
def scaleM (M : Vec Ideal S2048x56 .f32) (r : Vec Ideal S20 .f32) : Vec Ideal S2048x56x20 .f32 :=
  select (broadcastTo S2048x56x20 (shapeCast S2048x56x1 (cmpf (F := Ideal) (φ := .f32) .oeq (shapeCast S2048x56x1 M shapeCasts_S2048x56_S2048x56x1) (broadcast S2048x56x1 (Scalar.ofBits (F := Ideal) .f32 0x00000000#32))) shapeCasts_S2048x56x1_S2048x56x1) broadcasts_S2048x56x1_S2048x56x20)
    (broadcast S2048x56x20 (Scalar.ofBits (F := Ideal) .f32 0x3F800000#32))
    (divf (F := Ideal) (φ := .f32) (mulf (F := Ideal) (φ := .f32) (broadcastTo S2048x56x20 (shapeCast S1x1x20 (shapeCast S20 r shapeCasts_S20_S20) shapeCasts_S20_S1x1x20) broadcasts_S1x1x20_S2048x56x20)
      (broadcastTo S2048x56x20 (shapeCast S2048x56x1 M shapeCasts_S2048x56_S2048x56x1) broadcasts_S2048x56x1_S2048x56x20)) (broadcast S2048x56x20 (Scalar.ofBits (F := Ideal) .f32 0x40E00000#32)))

theorem scaleM_at (M : Vec Ideal S2048x56 .f32) (r : Vec Ideal S20 .f32) (o : Fin 2048) (g : Fin 56) (k : Fin 20) : scaleM M r (ix3 o g k)
    = if (show EReal from M (ix2 o g)) = 0 then 1 else Ideal.div ((show EReal from r (ix1 k)) * (show EReal from M (ix2 o g))) (Ideal.ofBits .f32 0x40E00000#32) := by
  pointwise [scaleM]

theorem pay5_eq (w : Vec Ideal S2048x7168 .bf16) (r : Vec Ideal S20 .f32) : k0_pay5 (F := Ideal) w r
    = scaleM (multiReduction (F := Ideal) (φ := .f32) .maximumf [2] S2048x56 (absf (F := Ideal) (φ := .f32) (k0_pay4 (F := Ideal) w)) 0xFF800000#32 reduces_S2048x56x128_S2048x56 (.inl rfl) rfl) r := rfl

/-- The codes, from the weights by group and the scales. -/
def codeM (A : Vec Ideal S2048x56x128 .f32) (B : Vec Ideal S2048x56x20 .f32) : IVec S2048x56x20x128 8 :=
  fptosi (F := Ideal) (φ := .f32) 8 (minimumf (F := Ideal) (φ := .f32) (broadcast S2048x56x20x128 (Scalar.ofBits (F := Ideal) .f32 0x40E00000#32))
    (maximumf (F := Ideal) (φ := .f32) (broadcast S2048x56x20x128 (Scalar.ofBits (F := Ideal) .f32 0xC0E00000#32))
      (roundeven (F := Ideal) (φ := .f32) (divf (F := Ideal) (φ := .f32) (broadcastTo S2048x56x20x128 (shapeCast S2048x56x1x128 A shapeCasts_S2048x56x128_S2048x56x1x128) broadcasts_S2048x56x1x128_S2048x56x20x128)
        (broadcastTo S2048x56x20x128 (shapeCast S2048x56x20x1 B shapeCasts_S2048x56x20_S2048x56x20x1) broadcasts_S2048x56x20x1_S2048x56x20x128)))))

theorem codeM_at (A : Vec Ideal S2048x56x128 .f32) (B : Vec Ideal S2048x56x20 .f32) (o : Fin 2048) (g : Fin 56) (k : Fin 20) (i : Fin 128) : codeM A B (ix4 o g k i)
    = Ideal.fptosi 8 (min (Ideal.ofBits .f32 0x40E00000#32) (max (Ideal.ofBits .f32 0xC0E00000#32)
        (Ideal.liftRound Ideal.roundHalfEven (Ideal.div (show EReal from A (ix3 o g i)) (show EReal from B (ix3 o g k)))))) := by
  pointwise [codeM]
  rfl

theorem pay6_eq (w : Vec Ideal S2048x7168 .bf16) (r : Vec Ideal S20 .f32) : k0_pay6 (F := Ideal) w r = codeM (k0_pay4 (F := Ideal) w) (k0_pay5 (F := Ideal) w r) := rfl

theorem pay5_at (w : Vec Ideal S2048x7168 .bf16) (r : Vec Ideal S20 .f32) (o : Fin 2048) (g : Fin 56) (k : Fin 20) :
    k0_pay5 (F := Ideal) w r (ix3 o g k) = scale (r (ix1 k)) (grp w o g) := by
  have e : multiReduction (F := Ideal) (φ := .f32) .maximumf [2] S2048x56 (absf (F := Ideal) (φ := .f32) (k0_pay4 (F := Ideal) w)) 0xFF800000#32 reduces_S2048x56x128_S2048x56 (.inl rfl) rfl (ix2 o g)
      = amax (grp w o g) := (red_at _ o g).trans (congrArg (fun f => Finset.fold max (Ideal.ofBits .f32 0xFF800000#32) f Finset.univ)
        (funext fun i => congrArg (fun x : EReal => max x (-x)) (pay4_at w o g i)))
  rw [pay5_eq, scaleM_at]
  unfold scale
  rw [← e]

theorem pay6_at (w : Vec Ideal S2048x7168 .bf16) (r : Vec Ideal S20 .f32) (o : Fin 2048) (g : Fin 56) (k : Fin 20) (i : Fin 128) :
    k0_pay6 (F := Ideal) w r (ix4 o g k i) = code (r (ix1 k)) (grp w o g) i := by
  unfold code
  rw [← pay5_at, ← pay4_at, pay6_eq, codeM_at]

/-- What the lines after the call compute from the scaled activations and the errors. -/
def lossM (x : Vec Ideal S256x56x128 .bf16) (e : Vec Ideal S2048x56x20x128 .f32) : Vec Ideal S2048x56x20 .f32 :=
  Host.reduceAdd (F := Ideal) (mulf (F := Ideal) (φ := .f32) (transpose S2048x56x20x128 [2,0,3,1]
      (Host.dotGeneral (F := Ideal) (φ₁ := .f32) (φ₂ := .f32) dot_S56x128x128_S2048x56x20x128_S56x128x2048x20_1_3_2_02_0_1 (some .fp32)
        (Host.dotGeneral (F := Ideal) (φ₁ := .bf16) (φ₂ := .bf16) dot_S256x56x128_S256x56x128_S56x128x128_0_0_2_2_1_1 none x x) e) transposes_S56x128x2048x20_S2048x56x20x128_2_0_3_1) e)
      (constant (F := Ideal) S_ .f32 0x00000000#32) reducesTo_S2048x56x20x128_S2048x56x20_d3 h_S_

theorem lossM_at (x : Vec Ideal S256x56x128 .bf16) (e : Vec Ideal S2048x56x20x128 .f32) (o : Fin 2048) (g : Fin 56) (k : Fin 20) : lossM x e (ix3 o g k)
    = 0 + ∑ j : Fin 128, (∑ i : Fin 128, (∑ t : Fin 256, (show EReal from x (ix3 t g i)) * (show EReal from x (ix3 t g j))) * (show EReal from e (ix4 o g k i))) * (show EReal from e (ix4 o g k j)) := by
  rw [zero_add]
  pointwise [lossM]

end Cert.ReferenceIdeal.Value
-- ==== Proof.ReferenceIdealResults.lean ====
/- The reference's results at an index. -/
module

public import proofs.«01_k».proof.Proof.ReferenceIdealPayload
public import Idealize.ShloMosaic.Lib.Pipeline.ValueKit

@[expose] public section

set_option maxRecDepth 16384

noncomputable section

namespace Cert.ReferenceIdeal.Value

open Cert.ReferenceIdeal Cert.ReferenceIdeal.Gen Cert.ClipMath
open Idealize.ShloMosaic Idealize.ShloMosaic.TcCoe Idealize.ShloMosaic.Tactic
open Idealize.ShloMosaic.Pipeline (Dat)
open Idealize.SL.Sem

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0]
    ∧ win0_4.index t = ![0, 0, 0] ∧ win0_5.index t = ![0, 0, 0] ∧ win0_6.index t = ![0, 0, 0, 0] ∧ win0_7.index t = ![0, 0, 0, 0] :=
  (by decide +kernel : ∀ t : Fin grid0.N, _)

abbrev pt : Fin cfg0.N := ⟨0, by decide⟩

/-- The arrays that the body reads. -/
abbrev X0 : Vec Ideal S1x256x7168 .fp8e4m3 := V m c main_v0
abbrev S0 : Vec Ideal S1x256 .f32 := V m c main_arg1
abbrev W0 : Vec Ideal S2048x7168 .bf16 := V m c main_arg2
abbrev R0 : Vec Ideal S20 .f32 := V m c main_v5

theorem blkX (t : Fin cfg0.N) : iblk m c 0 t = X0 m c := by
  funext y
  blk_ext [iblk, idx t]

theorem blkS (t : Fin cfg0.N) : iblk m c 1 t = S0 m c := by
  funext y
  blk_ext [iblk, idx t]

theorem blkW (t : Fin cfg0.N) : iblk m c 2 t = W0 m c := by
  funext y
  blk_ext [iblk, idx t]

theorem blkR (t : Fin cfg0.N) : iblk m c 3 t = R0 m c := by
  funext y
  blk_ext [iblk, idx t]

section
variable (x0 : Vec Ideal S1x256x7168 .fp8e4m3) (x1 : Vec Ideal S1x256 .f32) (x2 : Vec Ideal S2048x7168 .bf16) (x3 : Vec Ideal S20 .f32)

theorem v7_eq : k0_pay7 (F := Ideal) x0 x1 x2 x3 = k0_pay5 (F := Ideal) x2 x3 := by
  unfold k0_pay7
  frame_out

theorem v8_eq : k0_pay8 (F := Ideal) x0 x1 x2 x3 = k0_pay6 (F := Ideal) x2 x3 := by
  unfold k0_pay8
  frame_out

theorem out4 : out0_4 (F := Ideal) x0 x1 x2 x3 = k0_pay3 (F := Ideal) x0 x1 := by frame_out
theorem out5 : out0_5 (F := Ideal) x0 x1 x2 x3 = k0_pay5 (F := Ideal) x2 x3 := by
  frame_out
  exact v7_eq x0 x1 x2 x3
theorem out6 : out0_6 (F := Ideal) x0 x1 x2 x3 = k0_pay1 (k0_pay6 (F := Ideal) x2 x3) := by
  frame_out
  exact congrArg k0_pay1 (v8_eq x0 x1 x2 x3)
theorem out7 : out0_7 (F := Ideal) x0 x1 x2 x3 = k0_pay2 (F := Ideal) (k0_pay4 (F := Ideal) x2) (k0_pay5 (F := Ideal) x2 x3) (k0_pay6 (F := Ideal) x2 x3) := by
  frame_out
  rw [v7_eq, v8_eq]
end

theorem final4 : (dats m 0 c).arrAt 4 (cfgs 0).N = k0_pay3 (F := Ideal) (X0 m c) (S0 m c) := by
  refine (dats m 0 c).arrAt_eq_of_after_last 4 pt (by decide +kernel) _ fun j => ?_
  have e := (after0_4 m c pt).trans (out4 _ _ _ _)
  rw [blkX, blkS] at e
  generalize k0_pay3 (F := Ideal) (X0 m c) (S0 m c) = G at e ⊢
  blk_simp
  rw [e]

theorem final5 : (dats m 0 c).arrAt 5 (cfgs 0).N = k0_pay5 (F := Ideal) (W0 m c) (R0 m c) := by
  refine (dats m 0 c).arrAt_eq_of_after_last 5 pt (by decide +kernel) _ fun j => ?_
  have e := (after0_5 m c pt).trans (out5 _ _ _ _)
  rw [blkW, blkR] at e
  generalize k0_pay5 (F := Ideal) (W0 m c) (R0 m c) = G at e ⊢
  blk_simp
  rw [e]

theorem final6 : (dats m 0 c).arrAt 6 (cfgs 0).N = k0_pay1 (k0_pay6 (F := Ideal) (W0 m c) (R0 m c)) := by
  refine (dats m 0 c).arrAt_eq_of_after_last 6 pt (by decide +kernel) _ fun j => ?_
  have e := (after0_6 m c pt).trans (out6 _ _ _ _)
  rw [blkW, blkR] at e
  generalize k0_pay1 (k0_pay6 (F := Ideal) (W0 m c) (R0 m c)) = G at e ⊢
  blk_simp
  rw [e]

theorem final7 : (dats m 0 c).arrAt 7 (cfgs 0).N = k0_pay2 (F := Ideal) (k0_pay4 (F := Ideal) (W0 m c)) (k0_pay5 (F := Ideal) (W0 m c) (R0 m c)) (k0_pay6 (F := Ideal) (W0 m c) (R0 m c)) := by
  refine (dats m 0 c).arrAt_eq_of_after_last 7 pt (by decide +kernel) _ fun j => ?_
  have e := (after0_7 m c pt).trans (out7 _ _ _ _)
  rw [blkW, blkR] at e
  generalize k0_pay2 (F := Ideal) (k0_pay4 (F := Ideal) (W0 m c)) (k0_pay5 (F := Ideal) (W0 m c) (R0 m c)) (k0_pay6 (F := Ideal) (W0 m c) (R0 m c)) = G at e ⊢
  blk_simp
  rw [e]

/-- The last lines, from any contents of the buffers. -/
theorem after_v11 (W : Valuation τ sig (Elt Ideal)) : StableHlo.after (List.flatten [hostOps1]) W (Proc.devRef .tc main_v11)
    = lossM (W (Proc.devRef .tc main_v6_0)) (W (Proc.devRef .tc main_v6_3)) := by
  show StableHlo.after hostOps1 W _ = _
  unfold lossM
  after_results

theorem tail_v11 : Pipeline.afterTail₀ cfgs (dats m) 0 (V0 m) [hostOps1] c main_v11 = lossM ((dats m 0 c).arrAt 4 (cfgs 0).N) ((dats m 0 c).arrAt 7 (cfgs 0).N) := by
  unfold Pipeline.afterTail₀
  rw [after_v11]
  exact congrArg₂ lossM (Pipeline.withArrays_arr spec0 launch0.win.arr_inj c _ _ 4) (Pipeline.withArrays_arr spec0 launch0.win.arr_inj c _ _ 7)

theorem X0_at (t : Fin 256) (i : Fin 7168) : X0 m c (ix3 0 t i) = (m ((c : Thread nD τ).loc main_arg0) : Vec Ideal S1x256x7168 .f32) (ix3 0 t i) := by
  show (StableHlo.after hostOps0 (fun b => m (c, b)) _ : _) _ = _
  after_results
  pointwise

theorem R0_at (k : Fin 20) : R0 m c (ix1 k) = rat k := by
  show (StableHlo.after hostOps0 (fun b => m (c, b)) _ : _) _ = _
  after_results
  pointwise
  rfl

/-- The launch's activations, scales and weights. -/
abbrev actE (t : Fin 256) (i : Fin 7168) : EReal := (m ((c : Thread nD τ).loc main_arg0) : Vec Ideal S1x256x7168 .f32) (ix3 0 t i)
abbrev sclE (t : Fin 256) : EReal := (m ((c : Thread nD τ).loc main_arg1) : Vec Ideal S1x256 .f32) (ix2 0 t)
abbrev wtE (o : Fin 2048) (i : Fin 7168) : EReal := (m ((c : Thread nD τ).loc main_arg2) : Vec Ideal S2048x7168 .bf16) (ix2 o i)

theorem grp_eq (o : Fin 2048) (g : Fin 56) : grp (W0 m c) o g = fun i => wtE m c o ⟨g.val * 128 + i.val, by omega⟩ :=
  funext fun i => congrFun (V_main_arg2 m c) _

/-- The third result: the scales. -/
theorem scale_res (o : Fin 2048) (g : Fin 56) (k : Fin 20) : ((dats m 0 c).arrAt 5 (cfgs 0).N : Vec Ideal S2048x56x20 .f32) (ix3 o g k)
    = scale (rat k) (fun i => wtE m c o ⟨g.val * 128 + i.val, by omega⟩) :=
  (congrFun (final5 m c) (ix3 o g k)).trans ((pay5_at _ _ o g k).trans (congrArg₂ scale (R0_at m c k) (grp_eq m c o g)))

theorem code_res (o : Fin 2048) (g : Fin 56) (k : Fin 20) (i : Fin 128) : k0_pay6 (F := Ideal) (W0 m c) (R0 m c) (ix4 o g k i)
    = code (rat k) (fun i => wtE m c o ⟨g.val * 128 + i.val, by omega⟩) i :=
  (pay6_at _ _ o g k i).trans (congrFun (congrArg₂ code (R0_at m c k) (grp_eq m c o g)) i)

/-- The second result: the packed codes. -/
theorem pack_res (o : Fin 2048) (g : Fin 56) (k : Fin 20) (p : Fin 64) : ((dats m 0 c).arrAt 6 (cfgs 0).N : Vec Ideal S2048x56x20x64 .i8) (ix4 o g k p)
    = pack (code (rat k) (fun i => wtE m c o ⟨g.val * 128 + i.val, by omega⟩) ⟨p.val * 2, by omega⟩)
        (code (rat k) (fun i => wtE m c o ⟨g.val * 128 + i.val, by omega⟩) ⟨p.val * 2 + 1, by omega⟩) :=
  (congrFun (final6 m c) (ix4 o g k p)).trans ((pay1_at _ o g k p).trans (congrArg₂ pack (code_res m c o g k _) (code_res m c o g k _)))

theorem act_res (t : Fin 256) (g : Fin 56) (i : Fin 128) : ((dats m 0 c).arrAt 4 (cfgs 0).N : Vec Ideal S256x56x128 .bf16) (ix3 t g i)
    = actE m c t ⟨g.val * 128 + i.val, by omega⟩ * sclE m c t :=
  (congrFun (final4 m c) (ix3 t g i)).trans ((pay3_at _ _ t g i).trans (congrArg₂ (fun a b : EReal => a * b) (X0_at m c t _) (congrFun (V_main_arg1 m c) (ix2 0 t))))

theorem err_res (o : Fin 2048) (g : Fin 56) (k : Fin 20) (i : Fin 128) : ((dats m 0 c).arrAt 7 (cfgs 0).N : Vec Ideal S2048x56x20x128 .f32) (ix4 o g k i)
    = err (rat k) (fun i => wtE m c o ⟨g.val * 128 + i.val, by omega⟩) i := by
  refine (congrFun (final7 m c) (ix4 o g k i)).trans ((pay2_at _ _ _ o g k i).trans ?_)
  unfold err
  exact congrArg₂ (fun a b : EReal => a - b) ((pay4_at _ o g i).trans (congrFun (grp_eq m c o g) i))
    (congrArg₂ (fun a b : EReal => a * b) (congrArg val (code_res m c o g k i)) ((pay5_at _ _ o g k).trans (congrArg₂ scale (R0_at m c k) (grp_eq m c o g))))

/-- The first result: the losses. -/
theorem loss_res (o : Fin 2048) (g : Fin 56) (k : Fin 20) :
    (Pipeline.afterTail₀ cfgs (dats m) 0 (V0 m) [hostOps1] c main_v11 : Vec Ideal S2048x56x20 .f32) (ix3 o g k)
    = loss (rat k) (fun i => wtE m c o ⟨g.val * 128 + i.val, by omega⟩) (gramOf (actE m c) (sclE m c) g) := by
  refine (congrFun (tail_v11 m c) (ix3 o g k)).trans ((lossM_at _ _ o g k).trans ?_)
  unfold loss gramOf
  refine congrArg (fun x : EReal => 0 + x) (Finset.sum_congr rfl fun j _ => ?_)
  refine congrArg₂ (fun a b : EReal => a * b) (Finset.sum_congr rfl fun i _ => ?_) (err_res m c o g k j)
  refine congrArg₂ (fun a b : EReal => a * b) (Finset.sum_congr rfl fun t _ => ?_) (err_res m c o g k i)
  exact congrArg₂ (fun a b : EReal => a * b) (act_res m c t g i) (act_res m c t g j)

/-- The results at the end, with the arguments as launched. -/
theorem run_results (ρ : Dev nD → PrngReg) :
    θ_run defs (onTc (τ := τ) (main (F := Ideal))) ⟨m, fun _ => 0, ρ⟩ (fun r => ∀ c : Dev nD,
      r.2.mem ((c.tc : Thread nD τ).loc main_v11) = Pipeline.afterTail₀ cfgs (dats m) 0 (V0 m) [hostOps1] c main_v11
      ∧ r.2.mem ((c.tc : Thread nD τ).loc main_v6_2) = (dats m 0 c).arrAt 6 (cfgs 0).N
      ∧ r.2.mem ((c.tc : Thread nD τ).loc main_v6_1) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).2 main_v11 (Pipeline.mem_restRefs_of main_v11 (by decide) (by decide)), (h.1 c).1 6, (h.1 c).1 5, h.2 c⟩)
    (θ_run_and (run_main m ρ) (unchanged m ρ))

end Cert.ReferenceIdeal.Value
-- ==== Proof.PreFinite.lean ====
/- What the precondition says: every input is a real. -/
module

public import proofs.«01_k».proof.Pre_inputs_finite
public import proofs.«01_k».proof.Proof.ClipMath
public import Idealize.ShloMosaic.Lib.ReduceAll

@[expose] public section

set_option maxRecDepth 16384

noncomputable section

namespace Cert.Pre_inputs_finite.Finite

open Cert.Pre_inputs_finite Cert.ClipMath
open Idealize.ShloMosaic

variable [Facts]

instance : Subsingleton S_.Idx := ⟨fun a b => funext fun d => d.elim0⟩

theorem real_of_olt {x c : EReal} (hc : c = ⊤) (h : Ideal.cmp .olt (max x (-x)) c = 1#1) : ∃ r : ℝ, x = (r : EReal) := by
  subst hc
  refine real_of_abs_lt ?_
  by_contra hn
  unfold Ideal.cmp at h
  simp [hn] at h

theorem inf32 : Ideal.ofBits .f32 0x7F800000#32 = ⊤ := by simp [Ideal.ofBits, Ideal.ieee]
theorem inf16 : Ideal.ofBits .bf16 0x7F80#16 = ⊤ := by simp [Ideal.ofBits, Ideal.ieee]

theorem and_one {a b : BitVec 1} (h : IntOp.andi a b = 1#1) : a = 1#1 ∧ b = 1#1 := by
  revert a b; decide

theorem finite (X : Vec Ideal S1x256x7168 .f32) (S : Vec Ideal S1x256 .f32) (W : Vec Ideal S2048x7168 .bf16)
    (h : fn (F := Ideal) X S W = fun _ => 1#1) :
    (∀ i, ∃ r : ℝ, (show EReal from X i) = r) ∧ (∀ i, ∃ r : ℝ, (show EReal from S i) = r) ∧ ∀ i, ∃ r : ℝ, (show EReal from W i) = r := by
  have h0 := congrFun h (Shape.Idx.first Facts.h_S_)
  unfold fn at h0
  obtain ⟨h1, hW⟩ := and_one h0
  obtain ⟨hX, hS⟩ := and_one h1
  exact ⟨fun i => real_of_olt inf32 (Host.reduce_andi_all _ _ _ _ _ hX i), fun i => real_of_olt inf32 (Host.reduce_andi_all _ _ _ _ _ hS i),
    fun i => real_of_olt inf16 (Host.reduce_andi_all _ _ _ _ _ hW i)⟩

end Cert.Pre_inputs_finite.Finite
-- ==== Proof.lean ====
/- The proof of the certificate's claims. -/
module

public import proofs.«01_k».proof.Defs
public import proofs.«01_k».proof.Proof.KernelRun
public import proofs.«01_k».proof.Proof.KernelIdealRun
public import proofs.«01_k».proof.Proof.KernelIdealResults
public import proofs.«01_k».proof.Proof.ReferenceIdealResults
public import proofs.«01_k».proof.Proof.PreFinite
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_inputs_finite

@[expose] public section

set_option maxRecDepth 16384

noncomputable section

namespace Cert.Proof

open Idealize.ShloMosaic Idealize.SL.Sem

/-- Two arrays of rank 3, respectively 4, with the same entry at every index. -/
theorem ext3 {α : Type} {n0 n1 n2 : ℕ} {a b : (⟨3, ![n0, n1, n2]⟩ : Shape).Idx → α} (h : ∀ i j k, a (ix3 i j k) = b (ix3 i j k)) : a = b :=
  funext fun x => by rw [eq_ix3 x]; exact h _ _ _
theorem ext4 {α : Type} {n0 n1 n2 n3 : ℕ} {a b : (⟨4, ![n0, n1, n2, n3]⟩ : Shape).Idx → α} (h : ∀ i j k l, a (ix4 i j k l) = b (ix4 i j k l)) : a = b :=
  funext fun x => by rw [eq_ix4 x]; exact h _ _ _ _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : Cert.ReferenceIdeal.Value.actE m' c = Cert.KernelIdeal.Clip.actE m c) (h1 : Cert.ReferenceIdeal.Value.sclE m' c = Cert.KernelIdeal.Clip.sclE m c)
  (h2 : Cert.ReferenceIdeal.Value.wtE m' c = Cert.KernelIdeal.Clip.wtE m c)
  (hX : ∀ t i, ∃ r : ℝ, Cert.KernelIdeal.Clip.actE m c t i = r) (hS : ∀ t, ∃ r : ℝ, Cert.KernelIdeal.Clip.sclE m c t = r)
  (hW : ∀ o i, ∃ r : ℝ, Cert.KernelIdeal.Clip.wtE m c o i = r)

include h0 h1 h2 hX hS hW in
theorem loss_same : Pipeline.afterTail₀ Cert.ReferenceIdeal.cfgs (Cert.ReferenceIdeal.Gen.dats m') 0 (Cert.ReferenceIdeal.Gen.V0 m') [Cert.ReferenceIdeal.Gen.hostOps1] c Cert.ReferenceIdeal.main_v11
    = Cert.KernelIdeal.Clip.Wd m c (Proc.devRef .tc Cert.KernelIdeal.main_v10) := by
  refine ext3 (n0 := 2048) (n1 := 56) (n2 := 20) fun o g k => ?_
  refine (Cert.ReferenceIdeal.Value.loss_res m' c o g k).trans (Eq.trans ?_ (Cert.KernelIdeal.Clip.v10_at m c hX hS hW o g k).symm)
  rw [h0, h1, h2]

include h2 hW in
theorem codes_same : (Cert.ReferenceIdeal.Gen.dats m' 0 c).arrAt 6 (Cert.ReferenceIdeal.cfgs 0).N
    = Cert.KernelIdeal.Clip.Wd m c (Proc.devRef .tc Cert.KernelIdeal.main_v11) := by
  refine ext4 (n0 := 2048) (n1 := 56) (n2 := 20) (n3 := 64) fun o g k p => ?_
  refine (Cert.ReferenceIdeal.Value.pack_res m' c o g k p).trans (Eq.trans ?_ (Cert.KernelIdeal.Clip.v11_at m c hW o g k p).symm)
  rw [h2]

include h2 in
theorem scales_same : (Cert.ReferenceIdeal.Gen.dats m' 0 c).arrAt 5 (Cert.ReferenceIdeal.cfgs 0).N
    = Cert.KernelIdeal.Clip.Wd m c (Proc.devRef .tc Cert.KernelIdeal.main_v12) := by
  refine ext3 (n0 := 2048) (n1 := 56) (n2 := 20) fun o g k => ?_
  refine (Cert.ReferenceIdeal.Value.scale_res m' c o g k).trans (Eq.trans ?_ (Cert.KernelIdeal.Clip.v12_at m c o g k).symm)
  rw [h2]

end

theorem algebraic : Cert.algebraic_KernelIdeal_ReferenceIdeal_pre_inputs_finite (hKernelIdeal := Cert.KernelIdeal.Gen.facts)
    (hReferenceIdeal := Cert.ReferenceIdeal.Gen.facts) (hPre_inputs_finite := Cert.Pre_inputs_finite.Gen.facts) := by
  intro m g m' g' hp ha
  refine ⟨fun c => Cert.KernelIdeal.Clip.Wd m c (Proc.devRef .tc Cert.KernelIdeal.main_v10), fun c => Cert.KernelIdeal.Clip.Wd m c (Proc.devRef .tc Cert.KernelIdeal.main_v11),
    fun c => Cert.KernelIdeal.Clip.Wd m c (Proc.devRef .tc Cert.KernelIdeal.main_v12), Cert.KernelIdeal.Clip.run_results m g, ?_⟩
  refine (θ_run Cert.ReferenceIdeal.defs _ _).mono (fun r h c => ?_) (Cert.ReferenceIdeal.Value.run_results m' g')
  obtain ⟨hX, hS, hW⟩ := Cert.Pre_inputs_finite.Finite.finite _ _ _ (hp c)
  have h0 : Cert.ReferenceIdeal.Value.actE m' c = Cert.KernelIdeal.Clip.actE m c := funext fun t => funext fun i => congrFun (ha c).1 _
  have h1 : Cert.ReferenceIdeal.Value.sclE m' c = Cert.KernelIdeal.Clip.sclE m c := funext fun t => congrFun (ha c).2.1 _
  have h2 : Cert.ReferenceIdeal.Value.wtE m' c = Cert.KernelIdeal.Clip.wtE m c := funext fun o => funext fun i => congrFun (ha c).2.2 _
  obtain ⟨e0, e1, e2, k0, k1, k2⟩ := h c
  exact ⟨e0.trans (loss_same m m' c h0 h1 h2 (fun t i => hX _) (fun t => hS _) fun o i => hW _), e1.trans (codes_same m m' c h2 fun o i => hW _),
    e2.trans (scales_same m m' c h2), k0, k1, k2⟩

theorem claim : Cert.Claim := ⟨Cert.Kernel.Gen.facts, Cert.KernelIdeal.Gen.facts, Cert.ReferenceIdeal.Gen.facts, Cert.Pre_inputs_finite.Gen.facts,
  fun m ρ _ => Cert.Kernel.Clip.frame m ρ, fun m ρ _ => Cert.KernelIdeal.Clip.frame m ρ, fun m ρ _ => Cert.KernelIdeal.Clip.frame m ρ,
  fun m ρ _ => Cert.ReferenceIdeal.Gen.frame m ρ, fun m ρ _ => Cert.ReferenceIdeal.Gen.frame m ρ, trivial, algebraic⟩

end Cert.Proof

end
